-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWRefIdeal (m : (ℓ : Loc Cert.MixWRefIdeal.nD Cert.MixWRefIdeal.τ Cert.MixWRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MixD (m : (ℓ : Loc Cert.MixD.nD Cert.MixD.τ Cert.MixD.sig) → Buf (Elt Bits) ℓ) : Prop :=
  True

def Pre_MixDIdeal (m : (ℓ : Loc Cert.MixDIdeal.nD Cert.MixDIdeal.τ Cert.MixDIdeal.sig) → Buf (Elt Ideal) ℓ) : Prop :=
  True

def Pre_MixDRefIdeal (m : (ℓ : Loc Cert.MixDRefIdeal.nD Cert.MixDRefIdeal.τ Cert.MixDRefIdeal.sig) → Buf (Elt Ideal) ℓ) : Prop :=
  True

def Pre_DownP (m : (ℓ : Loc Cert.DownP.nD Cert.DownP.τ Cert.DownP.sig) → Buf (Elt Bits) ℓ) : Prop :=
  True

def Pre_DownPIdeal (m : (ℓ : Loc Cert.DownPIdeal.nD Cert.DownPIdeal.τ Cert.DownPIdeal.sig) → Buf (Elt Ideal) ℓ) : Prop :=
  True

def Pre_DownPRefIdeal (m : (ℓ : Loc Cert.DownPRefIdeal.nD Cert.DownPRefIdeal.τ Cert.DownPRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_AttD (m : (ℓ : Loc Cert.AttD.nD Cert.AttD.τ Cert.AttD.sig) → Buf (Elt Bits) ℓ) : Prop :=
  True

def Pre_AttDIdeal (m : (ℓ : Loc Cert.AttDIdeal.nD Cert.AttDIdeal.τ Cert.AttDIdeal.sig) → Buf (Elt Ideal) ℓ) : Prop :=
  True

def Pre_AttDRefIdeal (m : (ℓ : Loc Cert.AttDRefIdeal.nD Cert.AttDRefIdeal.τ Cert.AttDRefIdeal.sig) → Buf (Elt Ideal) ℓ) : Prop :=
  True

def Pre_OutD (m : (ℓ : Loc Cert.OutD.nD Cert.OutD.τ Cert.OutD.sig) → Buf (Elt Bits) ℓ) : Prop :=
  True

def Pre_OutDIdeal (m : (ℓ : Loc Cert.OutDIdeal.nD Cert.OutDIdeal.τ Cert.OutDIdeal.sig) → Buf (Elt Ideal) ℓ) : Prop :=
  True

def Pre_OutDRefIdeal (m : (ℓ : Loc Cert.OutDRefIdeal.nD Cert.OutDRefIdeal.τ Cert.OutDRefIdeal.sig) → Buf (Elt Ideal) ℓ) : Prop :=
  True

def Pre_DownL (m : (ℓ : Loc Cert.DownL.nD Cert.DownL.τ Cert.DownL.sig) → Buf (Elt Bits) ℓ) : Prop :=
  True

def Pre_DownLIdeal (m : (ℓ : Loc Cert.DownLIdeal.nD Cert.DownLIdeal.τ Cert.DownLIdeal.sig) → Buf (Elt Ideal) ℓ) : Prop :=
  True

def Pre_DownLRefIdeal (m : (ℓ : Loc Cert.DownLRefIdeal.nD Cert.DownLRefIdeal.τ Cert.DownLRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ r.2.sem = fun _ => 0)

def quiescent_MixWRefIdeal [hMixWRefIdeal : Cert.MixWRefIdeal.Facts] : Prop :=
  ∀ (m : (ℓ : Loc Cert.MixWRefIdeal.nD Cert.MixWRefIdeal.τ Cert.MixWRefIdeal.sig) → Buf (Elt Ideal) ℓ) (g : Dev Cert.MixWRefIdeal.nD → PrngReg), Pre_MixWRefIdeal m →
    θ_run (Cert.MixWRefIdeal.defs (F := Ideal)) (onTc (τ := Cert.MixWRefIdeal.τ) (Cert.MixWRefIdeal.main (F := Ideal))) ⟨m, fun _ => 0, g⟩ (fun r => (∀ c : Dev Cert.MixWRefIdeal.nD,
      r.2.mem ((c.tc : Thread Cert.MixWRefIdeal.nD Cert.MixWRefIdeal.τ).loc Cert.MixWRefIdeal.main_arg0) = m ((c.tc : Thread Cert.MixWRefIdeal.nD Cert.MixWRefIdeal.τ).loc Cert.MixWRefIdeal.main_arg0)
      ∧ r.2.mem ((c.tc : Thread Cert.MixWRefIdeal.nD Cert.MixWRefIdeal.τ).loc Cert.MixWRefIdeal.main_arg1) = m ((c.tc : Thread Cert.MixWRefIdeal.nD Cert.MixWRefIdeal.τ).loc Cert.MixWRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_MixD [hMixD : Cert.MixD.Facts] : Prop :=
  ∀ (m : (ℓ : Loc Cert.MixD.nD Cert.MixD.τ Cert.MixD.sig) → Buf (Elt Bits) ℓ) (g : Dev Cert.MixD.nD → PrngReg), Pre_MixD m →
    θ_run (Cert.MixD.defs (F := Bits)) (onTc (τ := Cert.MixD.τ) (Cert.MixD.main (F := Bits))) ⟨m, fun _ => 0, g⟩ (fun r => (∀ c : Dev Cert.MixD.nD,
      r.2.mem ((c.tc : Thread Cert.MixD.nD Cert.MixD.τ).loc Cert.MixD.main_arg0) = m ((c.tc : Thread Cert.MixD.nD Cert.MixD.τ).loc Cert.MixD.main_arg0)
      ∧ r.2.mem ((c.tc : Thread Cert.MixD.nD Cert.MixD.τ).loc Cert.MixD.main_arg1) = m ((c.tc : Thread Cert.MixD.nD Cert.MixD.τ).loc Cert.MixD.main_arg1)
      ∧ r.2.mem ((c.tc : Thread Cert.MixD.nD Cert.MixD.τ).loc Cert.MixD.main_arg2) = m ((c.tc : Thread Cert.MixD.nD Cert.MixD.τ).loc Cert.MixD.main_arg2)
      ∧ r.2.mem ((c.tc : Thread Cert.MixD.nD Cert.MixD.τ).loc Cert.MixD.main_arg3) = m ((c.tc : Thread Cert.MixD.nD Cert.MixD.τ).loc Cert.MixD.main_arg3)
      ∧ r.2.mem ((c.tc : Thread Cert.MixD.nD Cert.MixD.τ).loc Cert.MixD.main_arg4) = m ((c.tc : Thread Cert.MixD.nD Cert.MixD.τ).loc Cert.MixD.main_arg4))
      ∧ r.2.sem = fun _ => 0)

def quiescent_MixDIdeal [hMixDIdeal : Cert.MixDIdeal.Facts] : Prop :=
  ∀ (m : (ℓ : Loc Cert.MixDIdeal.nD Cert.MixDIdeal.τ Cert.MixDIdeal.sig) → Buf (Elt Ideal) ℓ) (g : Dev Cert.MixDIdeal.nD → PrngReg), Pre_MixDIdeal m →
    θ_run (Cert.MixDIdeal.defs (F := Ideal)) (onTc (τ := Cert.MixDIdeal.τ) (Cert.MixDIdeal.main (F := Ideal))) ⟨m, fun _ => 0, g⟩ (fun r => (∀ c : Dev Cert.MixDIdeal.nD,
      r.2.mem ((c.tc : Thread Cert.MixDIdeal.nD Cert.MixDIdeal.τ).loc Cert.MixDIdeal.main_arg0) = m ((c.tc : Thread Cert.MixDIdeal.nD Cert.MixDIdeal.τ).loc Cert.MixDIdeal.main_arg0)
      ∧ r.2.mem ((c.tc : Thread Cert.MixDIdeal.nD Cert.MixDIdeal.τ).loc Cert.MixDIdeal.main_arg1) = m ((c.tc : Thread Cert.MixDIdeal.nD Cert.MixDIdeal.τ).loc Cert.MixDIdeal.main_arg1)
      ∧ r.2.mem ((c.tc : Thread Cert.MixDIdeal.nD Cert.MixDIdeal.τ).loc Cert.MixDIdeal.main_arg2) = m ((c.tc : Thread Cert.MixDIdeal.nD Cert.MixDIdeal.τ).loc Cert.MixDIdeal.main_arg2)
      ∧ r.2.mem ((c.tc : Thread Cert.MixDIdeal.nD Cert.MixDIdeal.τ).loc Cert.MixDIdeal.main_arg3) = m ((c.tc : Thread Cert.MixDIdeal.nD Cert.MixDIdeal.τ).loc Cert.MixDIdeal.main_arg3)
      ∧ r.2.mem ((c.tc : Thread Cert.MixDIdeal.nD Cert.MixDIdeal.τ).loc Cert.MixDIdeal.main_arg4) = m ((c.tc : Thread Cert.MixDIdeal.nD Cert.MixDIdeal.τ).loc Cert.MixDIdeal.main_arg4))
      ∧ r.2.sem = fun _ => 0)

def quiescent_MixDRefIdeal [hMixDRefIdeal : Cert.MixDRefIdeal.Facts] : Prop :=
  ∀ (m : (ℓ : Loc Cert.MixDRefIdeal.nD Cert.MixDRefIdeal.τ Cert.MixDRefIdeal.sig) → Buf (Elt Ideal) ℓ) (g : Dev Cert.MixDRefIdeal.nD → PrngReg), Pre_MixDRefIdeal m →
    θ_run (Cert.MixDRefIdeal.defs (F := Ideal)) (onTc (τ := Cert.MixDRefIdeal.τ) (Cert.MixDRefIdeal.main (F := Ideal))) ⟨m, fun _ => 0, g⟩ (fun r => (∀ c : Dev Cert.MixDRefIdeal.nD,
      r.2.mem ((c.tc : Thread Cert.MixDRefIdeal.nD Cert.MixDRefIdeal.τ).loc Cert.MixDRefIdeal.main_arg0) = m ((c.tc : Thread Cert.MixDRefIdeal.nD Cert.MixDRefIdeal.τ).loc Cert.MixDRefIdeal.main_arg0)
      ∧ r.2.mem ((c.tc : Thread Cert.MixDRefIdeal.nD Cert.MixDRefIdeal.τ).loc Cert.MixDRefIdeal.main_arg1) = m ((c.tc : Thread Cert.MixDRefIdeal.nD Cert.MixDRefIdeal.τ).loc Cert.MixDRefIdeal.main_arg1)
      ∧ r.2.mem ((c.tc : Thread Cert.MixDRefIdeal.nD Cert.MixDRefIdeal.τ).loc Cert.MixDRefIdeal.main_arg2) = m ((c.tc : Thread Cert.MixDRefIdeal.nD Cert.MixDRefIdeal.τ).loc Cert.MixDRefIdeal.main_arg2)
      ∧ r.2.mem ((c.tc : Thread Cert.MixDRefIdeal.nD Cert.MixDRefIdeal.τ).loc Cert.MixDRefIdeal.main_arg3) = m ((c.tc : Thread Cert.MixDRefIdeal.nD Cert.MixDRefIdeal.τ).loc Cert.MixDRefIdeal.main_arg3)
      ∧ r.2.mem ((c.tc : Thread Cert.MixDRefIdeal.nD Cert.MixDRefIdeal.τ).loc Cert.MixDRefIdeal.main_arg4) = m ((c.tc : Thread Cert.MixDRefIdeal.nD Cert.MixDRefIdeal.τ).loc Cert.MixDRefIdeal.main_arg4))
      ∧ r.2.sem = fun _ => 0)

def quiescent_DownP [hDownP : Cert.DownP.Facts] : Prop :=
  ∀ (m : (ℓ : Loc Cert.DownP.nD Cert.DownP.τ Cert.DownP.sig) → Buf (Elt Bits) ℓ) (g : Dev Cert.DownP.nD → PrngReg), Pre_DownP m →
    θ_run (Cert.DownP.defs (F := Bits)) (onTc (τ := Cert.DownP.τ) (Cert.DownP.main (F := Bits))) ⟨m, fun _ => 0, g⟩ (fun r => (∀ c : Dev Cert.DownP.nD,
      r.2.mem ((c.tc : Thread Cert.DownP.nD Cert.DownP.τ).loc Cert.DownP.main_arg0) = m ((c.tc : Thread Cert.DownP.nD Cert.DownP.τ).loc Cert.DownP.main_arg0)
      ∧ r.2.mem ((c.tc : Thread Cert.DownP.nD Cert.DownP.τ).loc Cert.DownP.main_arg1) = m ((c.tc : Thread Cert.DownP.nD Cert.DownP.τ).loc Cert.DownP.main_arg1)
      ∧ r.2.mem ((c.tc : Thread Cert.DownP.nD Cert.DownP.τ).loc Cert.DownP.main_arg2) = m ((c.tc : Thread Cert.DownP.nD Cert.DownP.τ).loc Cert.DownP.main_arg2)
      ∧ r.2.mem ((c.tc : Thread Cert.DownP.nD Cert.DownP.τ).loc Cert.DownP.main_arg3) = m ((c.tc : Thread Cert.DownP.nD Cert.DownP.τ).loc Cert.DownP.main_arg3))
      ∧ r.2.sem = fun _ => 0)

def quiescent_DownPIdeal [hDownPIdeal : Cert.DownPIdeal.Facts] : Prop :=
  ∀ (m : (ℓ : Loc Cert.DownPIdeal.nD Cert.DownPIdeal.τ Cert.DownPIdeal.sig) → Buf (Elt Ideal) ℓ) (g : Dev Cert.DownPIdeal.nD → PrngReg), Pre_DownPIdeal m →
    θ_run (Cert.DownPIdeal.defs (F := Ideal)) (onTc (τ := Cert.DownPIdeal.τ) (Cert.DownPIdeal.main (F := Ideal))) ⟨m, fun _ => 0, g⟩ (fun r => (∀ c : Dev Cert.DownPIdeal.nD,
      r.2.mem ((c.tc : Thread Cert.DownPIdeal.nD Cert.DownPIdeal.τ).loc Cert.DownPIdeal.main_arg0) = m ((c.tc : Thread Cert.DownPIdeal.nD Cert.DownPIdeal.τ).loc Cert.DownPIdeal.main_arg0)
      ∧ r.2.mem ((c.tc : Thread Cert.DownPIdeal.nD Cert.DownPIdeal.τ).loc Cert.DownPIdeal.main_arg1) = m ((c.tc : Thread Cert.DownPIdeal.nD Cert.DownPIdeal.τ).loc Cert.DownPIdeal.main_arg1)
      ∧ r.2.mem ((c.tc : Thread Cert.DownPIdeal.nD Cert.DownPIdeal.τ).loc Cert.DownPIdeal.main_arg2) = m ((c.tc : Thread Cert.DownPIdeal.nD Cert.DownPIdeal.τ).loc Cert.DownPIdeal.main_arg2)
      ∧ r.2.mem ((c.tc : Thread Cert.DownPIdeal.nD Cert.DownPIdeal.τ).loc Cert.DownPIdeal.main_arg3) = m ((c.tc : Thread Cert.DownPIdeal.nD Cert.DownPIdeal.τ).loc Cert.DownPIdeal.main_arg3))
      ∧ r.2.sem = fun _ => 0)

def quiescent_DownPRefIdeal [hDownPRefIdeal : Cert.DownPRefIdeal.Facts] : Prop :=
  ∀ (m : (ℓ : Loc Cert.DownPRefIdeal.nD Cert.DownPRefIdeal.τ Cert.DownPRefIdeal.sig) → Buf (Elt Ideal) ℓ) (g : Dev Cert.DownPRefIdeal.nD → PrngReg), Pre_DownPRefIdeal m →
    θ_run (Cert.DownPRefIdeal.defs (F := Ideal)) (onTc (τ := Cert.DownPRefIdeal.τ) (Cert.DownPRefIdeal.main (F := Ideal))) ⟨m, fun _ => 0, g⟩ (fun r => (∀ c : Dev Cert.DownPRefIdeal.nD,
      r.2.mem ((c.tc : Thread Cert.DownPRefIdeal.nD Cert.DownPRefIdeal.τ).loc Cert.DownPRefIdeal.main_arg0) = m ((c.tc : Thread Cert.DownPRefIdeal.nD Cert.DownPRefIdeal.τ).loc Cert.DownPRefIdeal.main_arg0)
      ∧ r.2.mem ((c.tc : Thread Cert.DownPRefIdeal.nD Cert.DownPRefIdeal.τ).loc Cert.DownPRefIdeal.main_arg1) = m ((c.tc : Thread Cert.DownPRefIdeal.nD Cert.DownPRefIdeal.τ).loc Cert.DownPRefIdeal.main_arg1)
      ∧ r.2.mem ((c.tc : Thread Cert.DownPRefIdeal.nD Cert.DownPRefIdeal.τ).loc Cert.DownPRefIdeal.main_arg2) = m ((c.tc : Thread Cert.DownPRefIdeal.nD Cert.DownPRefIdeal.τ).loc Cert.DownPRefIdeal.main_arg2)
      ∧ r.2.mem ((c.tc : Thread Cert.DownPRefIdeal.nD Cert.DownPRefIdeal.τ).loc Cert.DownPRefIdeal.main_arg3) = m ((c.tc : Thread Cert.DownPRefIdeal.nD Cert.DownPRefIdeal.τ).loc Cert.DownPRefIdeal.main_arg3))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1)
      ∧ r.2.mem ((c.tc : Thread Cert.OutP.nD Cert.OutP.τ).loc Cert.OutP.main_arg2) = m ((c.tc : Thread Cert.OutP.nD Cert.OutP.τ).loc Cert.OutP.main_arg2)
      ∧ r.2.mem ((c.tc : Thread Cert.OutP.nD Cert.OutP.τ).loc Cert.OutP.main_arg3) = m ((c.tc : Thread Cert.OutP.nD Cert.OutP.τ).loc Cert.OutP.main_arg3))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
      ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
      ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1)
      ∧ r.2.mem ((c.tc : Thread Cert.OutPRefIdeal.nD Cert.OutPRefIdeal.τ).loc Cert.OutPRefIdeal.main_arg2) = m ((c.tc : Thread Cert.OutPRefIdeal.nD Cert.OutPRefIdeal.τ).loc Cert.OutPRefIdeal.main_arg2)
      ∧ r.2.mem ((c.tc : Thread Cert.OutPRefIdeal.nD Cert.OutPRefIdeal.τ).loc Cert.OutPRefIdeal.main_arg3) = m ((c.tc : Thread Cert.OutPRefIdeal.nD Cert.OutPRefIdeal.τ).loc Cert.OutPRefIdeal.main_arg3))
      ∧ r.2.sem = fun _ => 0)

def quiescent_AttD [hAttD : Cert.AttD.Facts] : Prop :=
  ∀ (m : (ℓ : Loc Cert.AttD.nD Cert.AttD.τ Cert.AttD.sig) → Buf (Elt Bits) ℓ) (g : Dev Cert.AttD.nD → PrngReg), Pre_AttD m →
    θ_run (Cert.AttD.defs (F := Bits)) (onTc (τ := Cert.AttD.τ) (Cert.AttD.main (F := Bits))) ⟨m, fun _ => 0, g⟩ (fun r => (∀ c : Dev Cert.AttD.nD,
      r.2.mem ((c.tc : Thread Cert.AttD.nD Cert.AttD.τ).loc Cert.AttD.main_arg0) = m ((c.tc : Thread Cert.AttD.nD Cert.AttD.τ).loc Cert.AttD.main_arg0)
      ∧ r.2.mem ((c.tc : Thread Cert.AttD.nD Cert.AttD.τ).loc Cert.AttD.main_arg1) = m ((c.tc : Thread Cert.AttD.nD Cert.AttD.τ).loc Cert.AttD.main_arg1)
      ∧ r.2.mem ((c.tc : Thread Cert.AttD.nD Cert.AttD.τ).loc Cert.AttD.main_arg2) = m ((c.tc : Thread Cert.AttD.nD Cert.AttD.τ).loc Cert.AttD.main_arg2)
      ∧ r.2.mem ((c.tc : Thread Cert.AttD.nD Cert.AttD.τ).loc Cert.AttD.main_arg3) = m ((c.tc : Thread Cert.AttD.nD Cert.AttD.τ).loc Cert.AttD.main_arg3)
      ∧ r.2.mem ((c.tc : Thread Cert.AttD.nD Cert.AttD.τ).loc Cert.AttD.main_arg4) = m ((c.tc : Thread Cert.AttD.nD Cert.AttD.τ).loc Cert.AttD.main_arg4))
      ∧ r.2.sem = fun _ => 0)

def quiescent_AttDIdeal [hAttDIdeal : Cert.AttDIdeal.Facts] : Prop :=
  ∀ (m : (ℓ : Loc Cert.AttDIdeal.nD Cert.AttDIdeal.τ Cert.AttDIdeal.sig) → Buf (Elt Ideal) ℓ) (g : Dev Cert.AttDIdeal.nD → PrngReg), Pre_AttDIdeal m →
    θ_run (Cert.AttDIdeal.defs (F := Ideal)) (onTc (τ := Cert.AttDIdeal.τ) (Cert.AttDIdeal.main (F := Ideal))) ⟨m, fun _ => 0, g⟩ (fun r => (∀ c : Dev Cert.AttDIdeal.nD,
      r.2.mem ((c.tc : Thread Cert.AttDIdeal.nD Cert.AttDIdeal.τ).loc Cert.AttDIdeal.main_arg0) = m ((c.tc : Thread Cert.AttDIdeal.nD Cert.AttDIdeal.τ).loc Cert.AttDIdeal.main_arg0)
      ∧ r.2.mem ((c.tc : Thread Cert.AttDIdeal.nD Cert.AttDIdeal.τ).loc Cert.AttDIdeal.main_arg1) = m ((c.tc : Thread Cert.AttDIdeal.nD Cert.AttDIdeal.τ).loc Cert.AttDIdeal.main_arg1)
      ∧ r.2.mem ((c.tc : Thread Cert.AttDIdeal.nD Cert.AttDIdeal.τ).loc Cert.AttDIdeal.main_arg2) = m ((c.tc : Thread Cert.AttDIdeal.nD Cert.AttDIdeal.τ).loc Cert.AttDIdeal.main_arg2)
      ∧ r.2.mem ((c.tc : Thread Cert.AttDIdeal.nD Cert.AttDIdeal.τ).loc Cert.AttDIdeal.main_arg3) = m ((c.tc : Thread Cert.AttDIdeal.nD Cert.AttDIdeal.τ).loc Cert.AttDIdeal.main_arg3)
      ∧ r.2.mem ((c.tc : Thread Cert.AttDIdeal.nD Cert.AttDIdeal.τ).loc Cert.AttDIdeal.main_arg4) = m ((c.tc : Thread Cert.AttDIdeal.nD Cert.AttDIdeal.τ).loc Cert.AttDIdeal.main_arg4))
      ∧ r.2.sem = fun _ => 0)

def quiescent_AttDRefIdeal [hAttDRefIdeal : Cert.AttDRefIdeal.Facts] : Prop :=
  ∀ (m : (ℓ : Loc Cert.AttDRefIdeal.nD Cert.AttDRefIdeal.τ Cert.AttDRefIdeal.sig) → Buf (Elt Ideal) ℓ) (g : Dev Cert.AttDRefIdeal.nD → PrngReg), Pre_AttDRefIdeal m →
    θ_run (Cert.AttDRefIdeal.defs (F := Ideal)) (onTc (τ := Cert.AttDRefIdeal.τ) (Cert.AttDRefIdeal.main (F := Ideal))) ⟨m, fun _ => 0, g⟩ (fun r => (∀ c : Dev Cert.AttDRefIdeal.nD,
      r.2.mem ((c.tc : Thread Cert.AttDRefIdeal.nD Cert.AttDRefIdeal.τ).loc Cert.AttDRefIdeal.main_arg0) = m ((c.tc : Thread Cert.AttDRefIdeal.nD Cert.AttDRefIdeal.τ).loc Cert.AttDRefIdeal.main_arg0)
      ∧ r.2.mem ((c.tc : Thread Cert.AttDRefIdeal.nD Cert.AttDRefIdeal.τ).loc Cert.AttDRefIdeal.main_arg1) = m ((c.tc : Thread Cert.AttDRefIdeal.nD Cert.AttDRefIdeal.τ).loc Cert.AttDRefIdeal.main_arg1)
      ∧ r.2.mem ((c.tc : Thread Cert.AttDRefIdeal.nD Cert.AttDRefIdeal.τ).loc Cert.AttDRefIdeal.main_arg2) = m ((c.tc : Thread Cert.AttDRefIdeal.nD Cert.AttDRefIdeal.τ).loc Cert.AttDRefIdeal.main_arg2)
      ∧ r.2.mem ((c.tc : Thread Cert.AttDRefIdeal.nD Cert.AttDRefIdeal.τ).loc Cert.AttDRefIdeal.main_arg3) = m ((c.tc : Thread Cert.AttDRefIdeal.nD Cert.AttDRefIdeal.τ).loc Cert.AttDRefIdeal.main_arg3)
      ∧ r.2.mem ((c.tc : Thread Cert.AttDRefIdeal.nD Cert.AttDRefIdeal.τ).loc Cert.AttDRefIdeal.main_arg4) = m ((c.tc : Thread Cert.AttDRefIdeal.nD Cert.AttDRefIdeal.τ).loc Cert.AttDRefIdeal.main_arg4))
      ∧ r.2.sem = fun _ => 0)

def quiescent_OutD [hOutD : Cert.OutD.Facts] : Prop :=
  ∀ (m : (ℓ : Loc Cert.OutD.nD Cert.OutD.τ Cert.OutD.sig) → Buf (Elt Bits) ℓ) (g : Dev Cert.OutD.nD → PrngReg), Pre_OutD m →
    θ_run (Cert.OutD.defs (F := Bits)) (onTc (τ := Cert.OutD.τ) (Cert.OutD.main (F := Bits))) ⟨m, fun _ => 0, g⟩ (fun r => (∀ c : Dev Cert.OutD.nD,
      r.2.mem ((c.tc : Thread Cert.OutD.nD Cert.OutD.τ).loc Cert.OutD.main_arg0) = m ((c.tc : Thread Cert.OutD.nD Cert.OutD.τ).loc Cert.OutD.main_arg0)
      ∧ r.2.mem ((c.tc : Thread Cert.OutD.nD Cert.OutD.τ).loc Cert.OutD.main_arg1) = m ((c.tc : Thread Cert.OutD.nD Cert.OutD.τ).loc Cert.OutD.main_arg1))
      ∧ r.2.sem = fun _ => 0)

def quiescent_OutDIdeal [hOutDIdeal : Cert.OutDIdeal.Facts] : Prop :=
  ∀ (m : (ℓ : Loc Cert.OutDIdeal.nD Cert.OutDIdeal.τ Cert.OutDIdeal.sig) → Buf (Elt Ideal) ℓ) (g : Dev Cert.OutDIdeal.nD → PrngReg), Pre_OutDIdeal m →
    θ_run (Cert.OutDIdeal.defs (F := Ideal)) (onTc (τ := Cert.OutDIdeal.τ) (Cert.OutDIdeal.main (F := Ideal))) ⟨m, fun _ => 0, g⟩ (fun r => (∀ c : Dev Cert.OutDIdeal.nD,
      r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
      ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ r.2.sem = fun _ => 0)

def quiescent_OutDRefIdeal [hOutDRefIdeal : Cert.OutDRefIdeal.Facts] : Prop :=
  ∀ (m : (ℓ : Loc Cert.OutDRefIdeal.nD Cert.OutDRefIdeal.τ Cert.OutDRefIdeal.sig) → Buf (Elt Ideal) ℓ) (g : Dev Cert.OutDRefIdeal.nD → PrngReg), Pre_OutDRefIdeal m →
    θ_run (Cert.OutDRefIdeal.defs (F := Ideal)) (onTc (τ := Cert.OutDRefIdeal.τ) (Cert.OutDRefIdeal.main (F := Ideal))) ⟨m, fun _ => 0, g⟩ (fun r => (∀ c : Dev Cert.OutDRefIdeal.nD,
      r.2.mem ((c.tc : Thread Cert.OutDRefIdeal.nD Cert.OutDRefIdeal.τ).loc Cert.OutDRefIdeal.main_arg0) = m ((c.tc : Thread Cert.OutDRefIdeal.nD Cert.OutDRefIdeal.τ).loc Cert.OutDRefIdeal.main_arg0)
      ∧ r.2.mem ((c.tc : Thread Cert.OutDRefIdeal.nD Cert.OutDRefIdeal.τ).loc Cert.OutDRefIdeal.main_arg1) = m ((c.tc : Thread Cert.OutDRefIdeal.nD Cert.OutDRefIdeal.τ).loc Cert.OutDRefIdeal.main_arg1))
      ∧ r.2.sem = fun _ => 0)

def quiescent_DownL [hDownL : Cert.DownL.Facts] : Prop :=
  ∀ (m : (ℓ : Loc Cert.DownL.nD Cert.DownL.τ Cert.DownL.sig) → Buf (Elt Bits) ℓ) (g : Dev Cert.DownL.nD → PrngReg), Pre_DownL m →
    θ_run (Cert.DownL.defs (F := Bits)) (onTc (τ := Cert.DownL.τ) (Cert.DownL.main (F := Bits))) ⟨m, fun _ => 0, g⟩ (fun r => (∀ c : Dev Cert.DownL.nD,
      r.2.mem ((c.tc : Thread Cert.DownL.nD Cert.DownL.τ).loc Cert.DownL.main_arg0) = m ((c.tc : Thread Cert.DownL.nD Cert.DownL.τ).loc Cert.DownL.main_arg0)
      ∧ r.2.mem ((c.tc : Thread Cert.DownL.nD Cert.DownL.τ).loc Cert.DownL.main_arg1) = m ((c.tc : Thread Cert.DownL.nD Cert.DownL.τ).loc Cert.DownL.main_arg1)
      ∧ r.2.mem ((c.tc : Thread Cert.DownL.nD Cert.DownL.τ).loc Cert.DownL.main_arg2) = m ((c.tc : Thread Cert.DownL.nD Cert.DownL.τ).loc Cert.DownL.main_arg2))
      ∧ r.2.sem = fun _ => 0)

def quiescent_DownLIdeal [hDownLIdeal : Cert.DownLIdeal.Facts] : Prop :=
  ∀ (m : (ℓ : Loc Cert.DownLIdeal.nD Cert.DownLIdeal.τ Cert.DownLIdeal.sig) → Buf (Elt Ideal) ℓ) (g : Dev Cert.DownLIdeal.nD → PrngReg), Pre_DownLIdeal m →
    θ_run (Cert.DownLIdeal.defs (F := Ideal)) (onTc (τ := Cert.DownLIdeal.τ) (Cert.DownLIdeal.main (F := Ideal))) ⟨m, fun _ => 0, g⟩ (fun r => (∀ c : Dev Cert.DownLIdeal.nD,
      r.2.mem ((c.tc : Thread Cert.DownLIdeal.nD Cert.DownLIdeal.τ).loc Cert.DownLIdeal.main_arg0) = m ((c.tc : Thread Cert.DownLIdeal.nD Cert.DownLIdeal.τ).loc Cert.DownLIdeal.main_arg0)
      ∧ r.2.mem ((c.tc : Thread Cert.DownLIdeal.nD Cert.DownLIdeal.τ).loc Cert.DownLIdeal.main_arg1) = m ((c.tc : Thread Cert.DownLIdeal.nD Cert.DownLIdeal.τ).loc Cert.DownLIdeal.main_arg1)
      ∧ r.2.mem ((c.tc : Thread Cert.DownLIdeal.nD Cert.DownLIdeal.τ).loc Cert.DownLIdeal.main_arg2) = m ((c.tc : Thread Cert.DownLIdeal.nD Cert.DownLIdeal.τ).loc Cert.DownLIdeal.main_arg2))
      ∧ r.2.sem = fun _ => 0)

def quiescent_DownLRefIdeal [hDownLRefIdeal : Cert.DownLRefIdeal.Facts] : Prop :=
  ∀ (m : (ℓ : Loc Cert.DownLRefIdeal.nD Cert.DownLRefIdeal.τ Cert.DownLRefIdeal.sig) → Buf (Elt Ideal) ℓ) (g : Dev Cert.DownLRefIdeal.nD → PrngReg), Pre_DownLRefIdeal m →
    θ_run (Cert.DownLRefIdeal.defs (F := Ideal)) (onTc (τ := Cert.DownLRefIdeal.τ) (Cert.DownLRefIdeal.main (F := Ideal))) ⟨m, fun _ => 0, g⟩ (fun r => (∀ c : Dev Cert.DownLRefIdeal.nD,
      r.2.mem ((c.tc : Thread Cert.DownLRefIdeal.nD Cert.DownLRefIdeal.τ).loc Cert.DownLRefIdeal.main_arg0) = m ((c.tc : Thread Cert.DownLRefIdeal.nD Cert.DownLRefIdeal.τ).loc Cert.DownLRefIdeal.main_arg0)
      ∧ r.2.mem ((c.tc : Thread Cert.DownLRefIdeal.nD Cert.DownLRefIdeal.τ).loc Cert.DownLRefIdeal.main_arg1) = m ((c.tc : Thread Cert.DownLRefIdeal.nD Cert.DownLRefIdeal.τ).loc Cert.DownLRefIdeal.main_arg1)
      ∧ r.2.mem ((c.tc : Thread Cert.DownLRefIdeal.nD Cert.DownLRefIdeal.τ).loc Cert.DownLRefIdeal.main_arg2) = m ((c.tc : Thread Cert.DownLRefIdeal.nD Cert.DownLRefIdeal.τ).loc Cert.DownLRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v101_0)) (v1 : (c : Dev Cert.KernelIdeal.nD) → Buf (Elt Ideal) ((c.tc : Thread Cert.KernelIdeal.nD Cert.KernelIdeal.τ).loc Cert.KernelIdeal.main_v101_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101_0) = v0 c
          ∧ r.2.mem ((c.tc : Thread Cert.KernelIdeal.nD Cert.KernelIdeal.τ).loc Cert.KernelIdeal.main_v101_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v12) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v10) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v9) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_MixW_MixWIdeal : Prop :=
  True

def algebraic_MixWIdeal_MixWRefIdeal [hMixWIdeal : Cert.MixWIdeal.Facts] [hMixWRefIdeal : Cert.MixWRefIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWRefIdeal.nD Cert.MixWRefIdeal.τ Cert.MixWRefIdeal.sig) → Buf (Elt Ideal) ℓ) (g' : Dev Cert.MixWRefIdeal.nD → PrngReg), Pre_MixWIdeal m →
    (∀ c : Dev Cert.MixWIdeal.nD,
      m' ((c.tc : Thread Cert.MixWRefIdeal.nD Cert.MixWRefIdeal.τ).loc Cert.MixWRefIdeal.main_arg0) = m ((c.tc : Thread Cert.MixWIdeal.nD Cert.MixWIdeal.τ).loc Cert.MixWIdeal.main_arg0)
      ∧ m' ((c.tc : Thread Cert.MixWRefIdeal.nD Cert.MixWRefIdeal.τ).loc Cert.MixWRefIdeal.main_arg1) = m ((c.tc : Thread Cert.MixWIdeal.nD Cert.MixWIdeal.τ).loc Cert.MixWIdeal.main_arg1)) →
    ∃ (v0 : (c : Dev Cert.MixWIdeal.nD) → Buf (Elt Ideal) ((c.tc : Thread Cert.MixWIdeal.nD Cert.MixWIdeal.τ).loc Cert.MixWIdeal.main_v0)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v0) = v0 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ θ_run (Cert.MixWRefIdeal.defs (F := Ideal)) (onTc (τ := Cert.MixWRefIdeal.τ) (Cert.MixWRefIdeal.main (F := Ideal))) ⟨m', fun _ => 0, g'⟩ (fun r => ∀ c : Dev Cert.MixWRefIdeal.nD,
          r.2.mem ((c.tc : Thread Cert.MixWRefIdeal.nD Cert.MixWRefIdeal.τ).loc Cert.MixWRefIdeal.main_v11) = v0 c
          ∧ r.2.mem ((c.tc : Thread Cert.MixWRefIdeal.nD Cert.MixWRefIdeal.τ).loc Cert.MixWRefIdeal.main_arg0) = m' ((c.tc : Thread Cert.MixWRefIdeal.nD Cert.MixWRefIdeal.τ).loc Cert.MixWRefIdeal.main_arg0)
          ∧ r.2.mem ((c.tc : Thread Cert.MixWRefIdeal.nD Cert.MixWRefIdeal.τ).loc Cert.MixWRefIdeal.main_arg1) = m' ((c.tc : Thread Cert.MixWRefIdeal.nD Cert.MixWRefIdeal.τ).loc Cert.MixWRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v7) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v7) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)) →
    ∃ (v0 : (c : Dev Cert.QkvWIdeal.nD) → Buf (Elt Ideal) ((c.tc : Thread Cert.QkvWIdeal.nD Cert.QkvWIdeal.τ).loc Cert.QkvWIdeal.main_v0)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v0) = v0 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v8) = v0 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v47) = v0 c
          ∧ r.2.mem ((c.tc : Thread Cert.NormRefIdeal.nD Cert.NormRefIdeal.τ).loc Cert.NormRefIdeal.main_v30) = v1 c
          ∧ r.2.mem ((c.tc : Thread Cert.NormRefIdeal.nD Cert.NormRefIdeal.τ).loc Cert.NormRefIdeal.main_v48) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_MixD_MixDIdeal : Prop :=
  True

def algebraic_MixDIdeal_MixDRefIdeal [hMixDIdeal : Cert.MixDIdeal.Facts] [hMixDRefIdeal : Cert.MixDRefIdeal.Facts] : Prop :=
  ∀ (m : (ℓ : Loc Cert.MixDIdeal.nD Cert.MixDIdeal.τ Cert.MixDIdeal.sig) → Buf (Elt Ideal) ℓ) (g : Dev Cert.MixDIdeal.nD → PrngReg)
    (m' : (ℓ : Loc Cert.MixDRefIdeal.nD Cert.MixDRefIdeal.τ Cert.MixDRefIdeal.sig) → Buf (Elt Ideal) ℓ) (g' : Dev Cert.MixDRefIdeal.nD → PrngReg), Pre_MixDIdeal m →
    (∀ c : Dev Cert.MixDIdeal.nD,
      m' ((c.tc : Thread Cert.MixDRefIdeal.nD Cert.MixDRefIdeal.τ).loc Cert.MixDRefIdeal.main_arg0) = m ((c.tc : Thread Cert.MixDIdeal.nD Cert.MixDIdeal.τ).loc Cert.MixDIdeal.main_arg0)
      ∧ m' ((c.tc : Thread Cert.MixDRefIdeal.nD Cert.MixDRefIdeal.τ).loc Cert.MixDRefIdeal.main_arg1) = m ((c.tc : Thread Cert.MixDIdeal.nD Cert.MixDIdeal.τ).loc Cert.MixDIdeal.main_arg1)
      ∧ m' ((c.tc : Thread Cert.MixDRefIdeal.nD Cert.MixDRefIdeal.τ).loc Cert.MixDRefIdeal.main_arg2) = m ((c.tc : Thread Cert.MixDIdeal.nD Cert.MixDIdeal.τ).loc Cert.MixDIdeal.main_arg2)
      ∧ m' ((c.tc : Thread Cert.MixDRefIdeal.nD Cert.MixDRefIdeal.τ).loc Cert.MixDRefIdeal.main_arg3) = m ((c.tc : Thread Cert.MixDIdeal.nD Cert.MixDIdeal.τ).loc Cert.MixDIdeal.main_arg3)
      ∧ m' ((c.tc : Thread Cert.MixDRefIdeal.nD Cert.MixDRefIdeal.τ).loc Cert.MixDRefIdeal.main_arg4) = m ((c.tc : Thread Cert.MixDIdeal.nD Cert.MixDIdeal.τ).loc Cert.MixDIdeal.main_arg4)) →
    ∃ (v0 : (c : Dev Cert.MixDIdeal.nD) → Buf (Elt Ideal) ((c.tc : Thread Cert.MixDIdeal.nD Cert.MixDIdeal.τ).loc Cert.MixDIdeal.main_v0_0)) (v1 : (c : Dev Cert.MixDIdeal.nD) → Buf (Elt Ideal) ((c.tc : Thread Cert.MixDIdeal.nD Cert.MixDIdeal.τ).loc Cert.MixDIdeal.main_v0_1)) (v2 : (c : Dev Cert.MixDIdeal.nD) → Buf (Elt Ideal) ((c.tc : Thread Cert.MixDIdeal.nD Cert.MixDIdeal.τ).loc Cert.MixDIdeal.main_v0_2)),
      θ_run (Cert.MixDIdeal.defs (F := Ideal)) (onTc (τ := Cert.MixDIdeal.τ) (Cert.MixDIdeal.main (F := Ideal))) ⟨m, fun _ => 0, g⟩ (fun r => ∀ c : Dev Cert.MixDIdeal.nD,
          r.2.mem ((c.tc : Thread Cert.MixDIdeal.nD Cert.MixDIdeal.τ).loc Cert.MixDIdeal.main_v0_0) = v0 c
          ∧ r.2.mem ((c.tc : Thread Cert.MixDIdeal.nD Cert.MixDIdeal.τ).loc Cert.MixDIdeal.main_v0_1) = v1 c
          ∧ r.2.mem ((c.tc : Thread Cert.MixDIdeal.nD Cert.MixDIdeal.τ).loc Cert.MixDIdeal.main_v0_2) = v2 c
          ∧ r.2.mem ((c.tc : Thread Cert.MixDIdeal.nD Cert.MixDIdeal.τ).loc Cert.MixDIdeal.main_arg0) = m ((c.tc : Thread Cert.MixDIdeal.nD Cert.MixDIdeal.τ).loc Cert.MixDIdeal.main_arg0)
          ∧ r.2.mem ((c.tc : Thread Cert.MixDIdeal.nD Cert.MixDIdeal.τ).loc Cert.MixDIdeal.main_arg1) = m ((c.tc : Thread Cert.MixDIdeal.nD Cert.MixDIdeal.τ).loc Cert.MixDIdeal.main_arg1)
          ∧ r.2.mem ((c.tc : Thread Cert.MixDIdeal.nD Cert.MixDIdeal.τ).loc Cert.MixDIdeal.main_arg2) = m ((c.tc : Thread Cert.MixDIdeal.nD Cert.MixDIdeal.τ).loc Cert.MixDIdeal.main_arg2)
          ∧ r.2.mem ((c.tc : Thread Cert.MixDIdeal.nD Cert.MixDIdeal.τ).loc Cert.MixDIdeal.main_arg3) = m ((c.tc : Thread Cert.MixDIdeal.nD Cert.MixDIdeal.τ).loc Cert.MixDIdeal.main_arg3)
          ∧ r.2.mem ((c.tc : Thread Cert.MixDIdeal.nD Cert.MixDIdeal.τ).loc Cert.MixDIdeal.main_arg4) = m ((c.tc : Thread Cert.MixDIdeal.nD Cert.MixDIdeal.τ).loc Cert.MixDIdeal.main_arg4))
      ∧ θ_run (Cert.MixDRefIdeal.defs (F := Ideal)) (onTc (τ := Cert.MixDRefIdeal.τ) (Cert.MixDRefIdeal.main (F := Ideal))) ⟨m', fun _ => 0, g'⟩ (fun r => ∀ c : Dev Cert.MixDRefIdeal.nD,
          r.2.mem ((c.tc : Thread Cert.MixDRefIdeal.nD Cert.MixDRefIdeal.τ).loc Cert.MixDRefIdeal.main_v47) = v0 c
          ∧ r.2.mem ((c.tc : Thread Cert.MixDRefIdeal.nD Cert.MixDRefIdeal.τ).loc Cert.MixDRefIdeal.main_v30) = v1 c
          ∧ r.2.mem ((c.tc : Thread Cert.MixDRefIdeal.nD Cert.MixDRefIdeal.τ).loc Cert.MixDRefIdeal.main_v48) = v2 c
          ∧ r.2.mem ((c.tc : Thread Cert.MixDRefIdeal.nD Cert.MixDRefIdeal.τ).loc Cert.MixDRefIdeal.main_arg0) = m' ((c.tc : Thread Cert.MixDRefIdeal.nD Cert.MixDRefIdeal.τ).loc Cert.MixDRefIdeal.main_arg0)
          ∧ r.2.mem ((c.tc : Thread Cert.MixDRefIdeal.nD Cert.MixDRefIdeal.τ).loc Cert.MixDRefIdeal.main_arg1) = m' ((c.tc : Thread Cert.MixDRefIdeal.nD Cert.MixDRefIdeal.τ).loc Cert.MixDRefIdeal.main_arg1)
          ∧ r.2.mem ((c.tc : Thread Cert.MixDRefIdeal.nD Cert.MixDRefIdeal.τ).loc Cert.MixDRefIdeal.main_arg2) = m' ((c.tc : Thread Cert.MixDRefIdeal.nD Cert.MixDRefIdeal.τ).loc Cert.MixDRefIdeal.main_arg2)
          ∧ r.2.mem ((c.tc : Thread Cert.MixDRefIdeal.nD Cert.MixDRefIdeal.τ).loc Cert.MixDRefIdeal.main_arg3) = m' ((c.tc : Thread Cert.MixDRefIdeal.nD Cert.MixDRefIdeal.τ).loc Cert.MixDRefIdeal.main_arg3)
          ∧ r.2.mem ((c.tc : Thread Cert.MixDRefIdeal.nD Cert.MixDRefIdeal.τ).loc Cert.MixDRefIdeal.main_arg4) = m' ((c.tc : Thread Cert.MixDRefIdeal.nD Cert.MixDRefIdeal.τ).loc Cert.MixDRefIdeal.main_arg4))

def preserves_DownP_DownPIdeal : Prop :=
  True

def algebraic_DownPIdeal_DownPRefIdeal [hDownPIdeal : Cert.DownPIdeal.Facts] [hDownPRefIdeal : Cert.DownPRefIdeal.Facts] : Prop :=
  ∀ (m : (ℓ : Loc Cert.DownPIdeal.nD Cert.DownPIdeal.τ Cert.DownPIdeal.sig) → Buf (Elt Ideal) ℓ) (g : Dev Cert.DownPIdeal.nD → PrngReg)
    (m' : (ℓ : Loc Cert.DownPRefIdeal.nD Cert.DownPRefIdeal.τ Cert.DownPRefIdeal.sig) → Buf (Elt Ideal) ℓ) (g' : Dev Cert.DownPRefIdeal.nD → PrngReg), Pre_DownPIdeal m →
    (∀ c : Dev Cert.DownPIdeal.nD,
      m' ((c.tc : Thread Cert.DownPRefIdeal.nD Cert.DownPRefIdeal.τ).loc Cert.DownPRefIdeal.main_arg0) = m ((c.tc : Thread Cert.DownPIdeal.nD Cert.DownPIdeal.τ).loc Cert.DownPIdeal.main_arg0)
      ∧ m' ((c.tc : Thread Cert.DownPRefIdeal.nD Cert.DownPRefIdeal.τ).loc Cert.DownPRefIdeal.main_arg1) = m ((c.tc : Thread Cert.DownPIdeal.nD Cert.DownPIdeal.τ).loc Cert.DownPIdeal.main_arg1)
      ∧ m' ((c.tc : Thread Cert.DownPRefIdeal.nD Cert.DownPRefIdeal.τ).loc Cert.DownPRefIdeal.main_arg2) = m ((c.tc : Thread Cert.DownPIdeal.nD Cert.DownPIdeal.τ).loc Cert.DownPIdeal.main_arg2)
      ∧ m' ((c.tc : Thread Cert.DownPRefIdeal.nD Cert.DownPRefIdeal.τ).loc Cert.DownPRefIdeal.main_arg3) = m ((c.tc : Thread Cert.DownPIdeal.nD Cert.DownPIdeal.τ).loc Cert.DownPIdeal.main_arg3)) →
    ∃ (v0 : (c : Dev Cert.DownPIdeal.nD) → Buf (Elt Ideal) ((c.tc : Thread Cert.DownPIdeal.nD Cert.DownPIdeal.τ).loc Cert.DownPIdeal.main_v0_0)) (v1 : (c : Dev Cert.DownPIdeal.nD) → Buf (Elt Ideal) ((c.tc : Thread Cert.DownPIdeal.nD Cert.DownPIdeal.τ).loc Cert.DownPIdeal.main_v0_1)),
      θ_run (Cert.DownPIdeal.defs (F := Ideal)) (onTc (τ := Cert.DownPIdeal.τ) (Cert.DownPIdeal.main (F := Ideal))) ⟨m, fun _ => 0, g⟩ (fun r => ∀ c : Dev Cert.DownPIdeal.nD,
          r.2.mem ((c.tc : Thread Cert.DownPIdeal.nD Cert.DownPIdeal.τ).loc Cert.DownPIdeal.main_v0_0) = v0 c
          ∧ r.2.mem ((c.tc : Thread Cert.DownPIdeal.nD Cert.DownPIdeal.τ).loc Cert.DownPIdeal.main_v0_1) = v1 c
          ∧ r.2.mem ((c.tc : Thread Cert.DownPIdeal.nD Cert.DownPIdeal.τ).loc Cert.DownPIdeal.main_arg0) = m ((c.tc : Thread Cert.DownPIdeal.nD Cert.DownPIdeal.τ).loc Cert.DownPIdeal.main_arg0)
          ∧ r.2.mem ((c.tc : Thread Cert.DownPIdeal.nD Cert.DownPIdeal.τ).loc Cert.DownPIdeal.main_arg1) = m ((c.tc : Thread Cert.DownPIdeal.nD Cert.DownPIdeal.τ).loc Cert.DownPIdeal.main_arg1)
          ∧ r.2.mem ((c.tc : Thread Cert.DownPIdeal.nD Cert.DownPIdeal.τ).loc Cert.DownPIdeal.main_arg2) = m ((c.tc : Thread Cert.DownPIdeal.nD Cert.DownPIdeal.τ).loc Cert.DownPIdeal.main_arg2)
          ∧ r.2.mem ((c.tc : Thread Cert.DownPIdeal.nD Cert.DownPIdeal.τ).loc Cert.DownPIdeal.main_arg3) = m ((c.tc : Thread Cert.DownPIdeal.nD Cert.DownPIdeal.τ).loc Cert.DownPIdeal.main_arg3))
      ∧ θ_run (Cert.DownPRefIdeal.defs (F := Ideal)) (onTc (τ := Cert.DownPRefIdeal.τ) (Cert.DownPRefIdeal.main (F := Ideal))) ⟨m', fun _ => 0, g'⟩ (fun r => ∀ c : Dev Cert.DownPRefIdeal.nD,
          r.2.mem ((c.tc : Thread Cert.DownPRefIdeal.nD Cert.DownPRefIdeal.τ).loc Cert.DownPRefIdeal.main_v6) = v0 c
          ∧ r.2.mem ((c.tc : Thread Cert.DownPRefIdeal.nD Cert.DownPRefIdeal.τ).loc Cert.DownPRefIdeal.main_v19) = v1 c
          ∧ r.2.mem ((c.tc : Thread Cert.DownPRefIdeal.nD Cert.DownPRefIdeal.τ).loc Cert.DownPRefIdeal.main_arg0) = m' ((c.tc : Thread Cert.DownPRefIdeal.nD Cert.DownPRefIdeal.τ).loc Cert.DownPRefIdeal.main_arg0)
          ∧ r.2.mem ((c.tc : Thread Cert.DownPRefIdeal.nD Cert.DownPRefIdeal.τ).loc Cert.DownPRefIdeal.main_arg1) = m' ((c.tc : Thread Cert.DownPRefIdeal.nD Cert.DownPRefIdeal.τ).loc Cert.DownPRefIdeal.main_arg1)
          ∧ r.2.mem ((c.tc : Thread Cert.DownPRefIdeal.nD Cert.DownPRefIdeal.τ).loc Cert.DownPRefIdeal.main_arg2) = m' ((c.tc : Thread Cert.DownPRefIdeal.nD Cert.DownPRefIdeal.τ).loc Cert.DownPRefIdeal.main_arg2)
          ∧ r.2.mem ((c.tc : Thread Cert.DownPRefIdeal.nD Cert.DownPRefIdeal.τ).loc Cert.DownPRefIdeal.main_arg3) = m' ((c.tc : Thread Cert.DownPRefIdeal.nD Cert.DownPRefIdeal.τ).loc Cert.DownPRefIdeal.main_arg3))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)
      ∧ m' ((c.tc : Thread Cert.OutPRefIdeal.nD Cert.OutPRefIdeal.τ).loc Cert.OutPRefIdeal.main_arg2) = m ((c.tc : Thread Cert.OutPIdeal.nD Cert.OutPIdeal.τ).loc Cert.OutPIdeal.main_arg2)
      ∧ m' ((c.tc : Thread Cert.OutPRefIdeal.nD Cert.OutPRefIdeal.τ).loc Cert.OutPRefIdeal.main_arg3) = m ((c.tc : Thread Cert.OutPIdeal.nD Cert.OutPIdeal.τ).loc Cert.OutPIdeal.main_arg3)) →
    ∃ (v0 : (c : Dev Cert.OutPIdeal.nD) → Buf (Elt Ideal) ((c.tc : Thread Cert.OutPIdeal.nD Cert.OutPIdeal.τ).loc Cert.OutPIdeal.main_v0_0)) (v1 : (c : Dev Cert.OutPIdeal.nD) → Buf (Elt Ideal) ((c.tc : Thread Cert.OutPIdeal.nD Cert.OutPIdeal.τ).loc Cert.OutPIdeal.main_v0_1)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v0_0) = v0 c
          ∧ r.2.mem ((c.tc : Thread Cert.OutPIdeal.nD Cert.OutPIdeal.τ).loc Cert.OutPIdeal.main_v0_1) = v1 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
          ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
          ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v4) = v0 c
          ∧ r.2.mem ((c.tc : Thread Cert.OutPRefIdeal.nD Cert.OutPRefIdeal.τ).loc Cert.OutPRefIdeal.main_v17) = v1 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1)
          ∧ r.2.mem ((c.tc : Thread Cert.OutPRefIdeal.nD Cert.OutPRefIdeal.τ).loc Cert.OutPRefIdeal.main_arg2) = m' ((c.tc : Thread Cert.OutPRefIdeal.nD Cert.OutPRefIdeal.τ).loc Cert.OutPRefIdeal.main_arg2)
          ∧ r.2.mem ((c.tc : Thread Cert.OutPRefIdeal.nD Cert.OutPRefIdeal.τ).loc Cert.OutPRefIdeal.main_arg3) = m' ((c.tc : Thread Cert.OutPRefIdeal.nD Cert.OutPRefIdeal.τ).loc Cert.OutPRefIdeal.main_arg3))

def preserves_AttD_AttDIdeal : Prop :=
  True

def algebraic_AttDIdeal_AttDRefIdeal [hAttDIdeal : Cert.AttDIdeal.Facts] [hAttDRefIdeal : Cert.AttDRefIdeal.Facts] : Prop :=
  ∀ (m : (ℓ : Loc Cert.AttDIdeal.nD Cert.AttDIdeal.τ Cert.AttDIdeal.sig) → Buf (Elt Ideal) ℓ) (g : Dev Cert.AttDIdeal.nD → PrngReg)
    (m' : (ℓ : Loc Cert.AttDRefIdeal.nD Cert.AttDRefIdeal.τ Cert.AttDRefIdeal.sig) → Buf (Elt Ideal) ℓ) (g' : Dev Cert.AttDRefIdeal.nD → PrngReg), Pre_AttDIdeal m →
    (∀ c : Dev Cert.AttDIdeal.nD,
      m' ((c.tc : Thread Cert.AttDRefIdeal.nD Cert.AttDRefIdeal.τ).loc Cert.AttDRefIdeal.main_arg0) = m ((c.tc : Thread Cert.AttDIdeal.nD Cert.AttDIdeal.τ).loc Cert.AttDIdeal.main_arg0)
      ∧ m' ((c.tc : Thread Cert.AttDRefIdeal.nD Cert.AttDRefIdeal.τ).loc Cert.AttDRefIdeal.main_arg1) = m ((c.tc : Thread Cert.AttDIdeal.nD Cert.AttDIdeal.τ).loc Cert.AttDIdeal.main_arg1)
      ∧ m' ((c.tc : Thread Cert.AttDRefIdeal.nD Cert.AttDRefIdeal.τ).loc Cert.AttDRefIdeal.main_arg2) = m ((c.tc : Thread Cert.AttDIdeal.nD Cert.AttDIdeal.τ).loc Cert.AttDIdeal.main_arg2)
      ∧ m' ((c.tc : Thread Cert.AttDRefIdeal.nD Cert.AttDRefIdeal.τ).loc Cert.AttDRefIdeal.main_arg3) = m ((c.tc : Thread Cert.AttDIdeal.nD Cert.AttDIdeal.τ).loc Cert.AttDIdeal.main_arg3)
      ∧ m' ((c.tc : Thread Cert.AttDRefIdeal.nD Cert.AttDRefIdeal.τ).loc Cert.AttDRefIdeal.main_arg4) = m ((c.tc : Thread Cert.AttDIdeal.nD Cert.AttDIdeal.τ).loc Cert.AttDIdeal.main_arg4)) →
    ∃ (v0 : (c : Dev Cert.AttDIdeal.nD) → Buf (Elt Ideal) ((c.tc : Thread Cert.AttDIdeal.nD Cert.AttDIdeal.τ).loc Cert.AttDIdeal.main_v0_0)) (v1 : (c : Dev Cert.AttDIdeal.nD) → Buf (Elt Ideal) ((c.tc : Thread Cert.AttDIdeal.nD Cert.AttDIdeal.τ).loc Cert.AttDIdeal.main_v0_1)) (v2 : (c : Dev Cert.AttDIdeal.nD) → Buf (Elt Ideal) ((c.tc : Thread Cert.AttDIdeal.nD Cert.AttDIdeal.τ).loc Cert.AttDIdeal.main_v0_2)),
      θ_run (Cert.AttDIdeal.defs (F := Ideal)) (onTc (τ := Cert.AttDIdeal.τ) (Cert.AttDIdeal.main (F := Ideal))) ⟨m, fun _ => 0, g⟩ (fun r => ∀ c : Dev Cert.AttDIdeal.nD,
          r.2.mem ((c.tc : Thread Cert.AttDIdeal.nD Cert.AttDIdeal.τ).loc Cert.AttDIdeal.main_v0_0) = v0 c
          ∧ r.2.mem ((c.tc : Thread Cert.AttDIdeal.nD Cert.AttDIdeal.τ).loc Cert.AttDIdeal.main_v0_1) = v1 c
          ∧ r.2.mem ((c.tc : Thread Cert.AttDIdeal.nD Cert.AttDIdeal.τ).loc Cert.AttDIdeal.main_v0_2) = v2 c
          ∧ r.2.mem ((c.tc : Thread Cert.AttDIdeal.nD Cert.AttDIdeal.τ).loc Cert.AttDIdeal.main_arg0) = m ((c.tc : Thread Cert.AttDIdeal.nD Cert.AttDIdeal.τ).loc Cert.AttDIdeal.main_arg0)
          ∧ r.2.mem ((c.tc : Thread Cert.AttDIdeal.nD Cert.AttDIdeal.τ).loc Cert.AttDIdeal.main_arg1) = m ((c.tc : Thread Cert.AttDIdeal.nD Cert.AttDIdeal.τ).loc Cert.AttDIdeal.main_arg1)
          ∧ r.2.mem ((c.tc : Thread Cert.AttDIdeal.nD Cert.AttDIdeal.τ).loc Cert.AttDIdeal.main_arg2) = m ((c.tc : Thread Cert.AttDIdeal.nD Cert.AttDIdeal.τ).loc Cert.AttDIdeal.main_arg2)
          ∧ r.2.mem ((c.tc : Thread Cert.AttDIdeal.nD Cert.AttDIdeal.τ).loc Cert.AttDIdeal.main_arg3) = m ((c.tc : Thread Cert.AttDIdeal.nD Cert.AttDIdeal.τ).loc Cert.AttDIdeal.main_arg3)
          ∧ r.2.mem ((c.tc : Thread Cert.AttDIdeal.nD Cert.AttDIdeal.τ).loc Cert.AttDIdeal.main_arg4) = m ((c.tc : Thread Cert.AttDIdeal.nD Cert.AttDIdeal.τ).loc Cert.AttDIdeal.main_arg4))
      ∧ θ_run (Cert.AttDRefIdeal.defs (F := Ideal)) (onTc (τ := Cert.AttDRefIdeal.τ) (Cert.AttDRefIdeal.main (F := Ideal))) ⟨m', fun _ => 0, g'⟩ (fun r => ∀ c : Dev Cert.AttDRefIdeal.nD,
          r.2.mem ((c.tc : Thread Cert.AttDRefIdeal.nD Cert.AttDRefIdeal.τ).loc Cert.AttDRefIdeal.main_v44) = v0 c
          ∧ r.2.mem ((c.tc : Thread Cert.AttDRefIdeal.nD Cert.AttDRefIdeal.τ).loc Cert.AttDRefIdeal.main_v27) = v1 c
          ∧ r.2.mem ((c.tc : Thread Cert.AttDRefIdeal.nD Cert.AttDRefIdeal.τ).loc Cert.AttDRefIdeal.main_v45) = v2 c
          ∧ r.2.mem ((c.tc : Thread Cert.AttDRefIdeal.nD Cert.AttDRefIdeal.τ).loc Cert.AttDRefIdeal.main_arg0) = m' ((c.tc : Thread Cert.AttDRefIdeal.nD Cert.AttDRefIdeal.τ).loc Cert.AttDRefIdeal.main_arg0)
          ∧ r.2.mem ((c.tc : Thread Cert.AttDRefIdeal.nD Cert.AttDRefIdeal.τ).loc Cert.AttDRefIdeal.main_arg1) = m' ((c.tc : Thread Cert.AttDRefIdeal.nD Cert.AttDRefIdeal.τ).loc Cert.AttDRefIdeal.main_arg1)
          ∧ r.2.mem ((c.tc : Thread Cert.AttDRefIdeal.nD Cert.AttDRefIdeal.τ).loc Cert.AttDRefIdeal.main_arg2) = m' ((c.tc : Thread Cert.AttDRefIdeal.nD Cert.AttDRefIdeal.τ).loc Cert.AttDRefIdeal.main_arg2)
          ∧ r.2.mem ((c.tc : Thread Cert.AttDRefIdeal.nD Cert.AttDRefIdeal.τ).loc Cert.AttDRefIdeal.main_arg3) = m' ((c.tc : Thread Cert.AttDRefIdeal.nD Cert.AttDRefIdeal.τ).loc Cert.AttDRefIdeal.main_arg3)
          ∧ r.2.mem ((c.tc : Thread Cert.AttDRefIdeal.nD Cert.AttDRefIdeal.τ).loc Cert.AttDRefIdeal.main_arg4) = m' ((c.tc : Thread Cert.AttDRefIdeal.nD Cert.AttDRefIdeal.τ).loc Cert.AttDRefIdeal.main_arg4))

def preserves_OutD_OutDIdeal : Prop :=
  True

def algebraic_OutDIdeal_OutDRefIdeal [hOutDIdeal : Cert.OutDIdeal.Facts] [hOutDRefIdeal : Cert.OutDRefIdeal.Facts] : Prop :=
  ∀ (m : (ℓ : Loc Cert.OutDIdeal.nD Cert.OutDIdeal.τ Cert.OutDIdeal.sig) → Buf (Elt Ideal) ℓ) (g : Dev Cert.OutDIdeal.nD → PrngReg)
    (m' : (ℓ : Loc Cert.OutDRefIdeal.nD Cert.OutDRefIdeal.τ Cert.OutDRefIdeal.sig) → Buf (Elt Ideal) ℓ) (g' : Dev Cert.OutDRefIdeal.nD → PrngReg), Pre_OutDIdeal m →
    (∀ c : Dev Cert.OutDIdeal.nD,
      m' ((c.tc : Thread Cert.OutDRefIdeal.nD Cert.OutDRefIdeal.τ).loc Cert.OutDRefIdeal.main_arg0) = m ((c.tc : Thread Cert.OutDIdeal.nD Cert.OutDIdeal.τ).loc Cert.OutDIdeal.main_arg0)
      ∧ m' ((c.tc : Thread Cert.OutDRefIdeal.nD Cert.OutDRefIdeal.τ).loc Cert.OutDRefIdeal.main_arg1) = m ((c.tc : Thread Cert.OutDIdeal.nD Cert.OutDIdeal.τ).loc Cert.OutDIdeal.main_arg1)) →
    ∃ (v0 : (c : Dev Cert.OutDIdeal.nD) → Buf (Elt Ideal) ((c.tc : Thread Cert.OutDIdeal.nD Cert.OutDIdeal.τ).loc Cert.OutDIdeal.main_v0)),
      θ_run (Cert.OutDIdeal.defs (F := Ideal)) (onTc (τ := Cert.OutDIdeal.τ) (Cert.OutDIdeal.main (F := Ideal))) ⟨m, fun _ => 0, g⟩ (fun r => ∀ c : Dev Cert.OutDIdeal.nD,
          r.2.mem ((c.tc : Thread Cert.OutDIdeal.nD Cert.OutDIdeal.τ).loc Cert.OutDIdeal.main_v0) = v0 c
          ∧ r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
          ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ θ_run (Cert.OutDRefIdeal.defs (F := Ideal)) (onTc (τ := Cert.OutDRefIdeal.τ) (Cert.OutDRefIdeal.main (F := Ideal))) ⟨m', fun _ => 0, g'⟩ (fun r => ∀ c : Dev Cert.OutDRefIdeal.nD,
          r.2.mem ((c.tc : Thread Cert.OutDRefIdeal.nD Cert.OutDRefIdeal.τ).loc Cert.OutDRefIdeal.main_v9) = v0 c
          ∧ r.2.mem ((c.tc : Thread Cert.OutDRefIdeal.nD Cert.OutDRefIdeal.τ).loc Cert.OutDRefIdeal.main_arg0) = m' ((c.tc : Thread Cert.OutDRefIdeal.nD Cert.OutDRefIdeal.τ).loc Cert.OutDRefIdeal.main_arg0)
          ∧ r.2.mem ((c.tc : Thread Cert.OutDRefIdeal.nD Cert.OutDRefIdeal.τ).loc Cert.OutDRefIdeal.main_arg1) = m' ((c.tc : Thread Cert.OutDRefIdeal.nD Cert.OutDRefIdeal.τ).loc Cert.OutDRefIdeal.main_arg1))

def preserves_DownL_DownLIdeal : Prop :=
  True

def algebraic_DownLIdeal_DownLRefIdeal [hDownLIdeal : Cert.DownLIdeal.Facts] [hDownLRefIdeal : Cert.DownLRefIdeal.Facts] : Prop :=
  ∀ (m : (ℓ : Loc Cert.DownLIdeal.nD Cert.DownLIdeal.τ Cert.DownLIdeal.sig) → Buf (Elt Ideal) ℓ) (g : Dev Cert.DownLIdeal.nD → PrngReg)
    (m' : (ℓ : Loc Cert.DownLRefIdeal.nD Cert.DownLRefIdeal.τ Cert.DownLRefIdeal.sig) → Buf (Elt Ideal) ℓ) (g' : Dev Cert.DownLRefIdeal.nD → PrngReg), Pre_DownLIdeal m →
    (∀ c : Dev Cert.DownLIdeal.nD,
      m' ((c.tc : Thread Cert.DownLRefIdeal.nD Cert.DownLRefIdeal.τ).loc Cert.DownLRefIdeal.main_arg0) = m ((c.tc : Thread Cert.DownLIdeal.nD Cert.DownLIdeal.τ).loc Cert.DownLIdeal.main_arg0)
      ∧ m' ((c.tc : Thread Cert.DownLRefIdeal.nD Cert.DownLRefIdeal.τ).loc Cert.DownLRefIdeal.main_arg1) = m ((c.tc : Thread Cert.DownLIdeal.nD Cert.DownLIdeal.τ).loc Cert.DownLIdeal.main_arg1)
      ∧ m' ((c.tc : Thread Cert.DownLRefIdeal.nD Cert.DownLRefIdeal.τ).loc Cert.DownLRefIdeal.main_arg2) = m ((c.tc : Thread Cert.DownLIdeal.nD Cert.DownLIdeal.τ).loc Cert.DownLIdeal.main_arg2)) →
    ∃ (v0 : (c : Dev Cert.DownLIdeal.nD) → Buf (Elt Ideal) ((c.tc : Thread Cert.DownLIdeal.nD Cert.DownLIdeal.τ).loc Cert.DownLIdeal.main_v0)),
      θ_run (Cert.DownLIdeal.defs (F := Ideal)) (onTc (τ := Cert.DownLIdeal.τ) (Cert.DownLIdeal.main (F := Ideal))) ⟨m, fun _ => 0, g⟩ (fun r => ∀ c : Dev Cert.DownLIdeal.nD,
          r.2.mem ((c.tc : Thread Cert.DownLIdeal.nD Cert.DownLIdeal.τ).loc Cert.DownLIdeal.main_v0) = v0 c
          ∧ r.2.mem ((c.tc : Thread Cert.DownLIdeal.nD Cert.DownLIdeal.τ).loc Cert.DownLIdeal.main_arg0) = m ((c.tc : Thread Cert.DownLIdeal.nD Cert.DownLIdeal.τ).loc Cert.DownLIdeal.main_arg0)
          ∧ r.2.mem ((c.tc : Thread Cert.DownLIdeal.nD Cert.DownLIdeal.τ).loc Cert.DownLIdeal.main_arg1) = m ((c.tc : Thread Cert.DownLIdeal.nD Cert.DownLIdeal.τ).loc Cert.DownLIdeal.main_arg1)
          ∧ r.2.mem ((c.tc : Thread Cert.DownLIdeal.nD Cert.DownLIdeal.τ).loc Cert.DownLIdeal.main_arg2) = m ((c.tc : Thread Cert.DownLIdeal.nD Cert.DownLIdeal.τ).loc Cert.DownLIdeal.main_arg2))
      ∧ θ_run (Cert.DownLRefIdeal.defs (F := Ideal)) (onTc (τ := Cert.DownLRefIdeal.τ) (Cert.DownLRefIdeal.main (F := Ideal))) ⟨m', fun _ => 0, g'⟩ (fun r => ∀ c : Dev Cert.DownLRefIdeal.nD,
          r.2.mem ((c.tc : Thread Cert.DownLRefIdeal.nD Cert.DownLRefIdeal.τ).loc Cert.DownLRefIdeal.main_v6) = v0 c
          ∧ r.2.mem ((c.tc : Thread Cert.DownLRefIdeal.nD Cert.DownLRefIdeal.τ).loc Cert.DownLRefIdeal.main_arg0) = m' ((c.tc : Thread Cert.DownLRefIdeal.nD Cert.DownLRefIdeal.τ).loc Cert.DownLRefIdeal.main_arg0)
          ∧ r.2.mem ((c.tc : Thread Cert.DownLRefIdeal.nD Cert.DownLRefIdeal.τ).loc Cert.DownLRefIdeal.main_arg1) = m' ((c.tc : Thread Cert.DownLRefIdeal.nD Cert.DownLRefIdeal.τ).loc Cert.DownLRefIdeal.main_arg1)
          ∧ r.2.mem ((c.tc : Thread Cert.DownLRefIdeal.nD Cert.DownLRefIdeal.τ).loc Cert.DownLRefIdeal.main_arg2) = m' ((c.tc : Thread Cert.DownLRefIdeal.nD Cert.DownLRefIdeal.τ).loc Cert.DownLRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v12) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hProj : Cert.Proj.Facts) (hProjIdeal : Cert.ProjIdeal.Facts) (hProjRefIdeal : Cert.ProjRefIdeal.Facts) (hMixW : Cert.MixW.Facts) (hMixWIdeal : Cert.MixWIdeal.Facts) (hMixWRefIdeal : Cert.MixWRefIdeal.Facts) (hMixIn : Cert.MixIn.Facts) (hMixInIdeal : Cert.MixInIdeal.Facts) (hMixInRefIdeal : Cert.MixInRefIdeal.Facts) (hOutW : Cert.OutW.Facts) (hOutWIdeal : Cert.OutWIdeal.Facts) (hOutWRefIdeal : Cert.OutWRefIdeal.Facts) (hOut : Cert.Out.Facts) (hOutIdeal : Cert.OutIdeal.Facts) (hOutRefIdeal : Cert.OutRefIdeal.Facts) (hQkvW : Cert.QkvW.Facts) (hQkvWIdeal : Cert.QkvWIdeal.Facts) (hQkvWRefIdeal : Cert.QkvWRefIdeal.Facts) (hQkv : Cert.Qkv.Facts) (hQkvIdeal : Cert.QkvIdeal.Facts) (hQkvRefIdeal : Cert.QkvRefIdeal.Facts) (hNorm : Cert.Norm.Facts) (hNormIdeal : Cert.NormIdeal.Facts) (hNormRefIdeal : Cert.NormRefIdeal.Facts) (hMixD : Cert.MixD.Facts) (hMixDIdeal : Cert.MixDIdeal.Facts) (hMixDRefIdeal : Cert.MixDRefIdeal.Facts) (hDownP : Cert.DownP.Facts) (hDownPIdeal : Cert.DownPIdeal.Facts) (hDownPRefIdeal : Cert.DownPRefIdeal.Facts) (hOutP : Cert.OutP.Facts) (hOutPIdeal : Cert.OutPIdeal.Facts) (hOutPRefIdeal : Cert.OutPRefIdeal.Facts) (hAttD : Cert.AttD.Facts) (hAttDIdeal : Cert.AttDIdeal.Facts) (hAttDRefIdeal : Cert.AttDRefIdeal.Facts) (hOutD : Cert.OutD.Facts) (hOutDIdeal : Cert.OutDIdeal.Facts) (hOutDRefIdeal : Cert.OutDRefIdeal.Facts) (hDownL : Cert.DownL.Facts) (hDownLIdeal : Cert.DownLIdeal.Facts) (hDownLRefIdeal : Cert.DownLRefIdeal.Facts) (hRms : Cert.Rms.Facts) (hRmsIdeal : Cert.RmsIdeal.Facts) (hRmsRefIdeal : Cert.RmsRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActRefIdeal (hActRefIdeal := hActRefIdeal)
    ∧ quiescent_Proj (hProj := hProj)
    ∧ quiescent_ProjIdeal (hProjIdeal := hProjIdeal)
    ∧ quiescent_ProjRefIdeal (hProjRefIdeal := hProjRefIdeal)
    ∧ quiescent_MixW (hMixW := hMixW)
    ∧ quiescent_MixWIdeal (hMixWIdeal := hMixWIdeal)
    ∧ quiescent_MixWRefIdeal (hMixWRefIdeal := hMixWRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_OutW (hOutW := hOutW)
    ∧ quiescent_OutWIdeal (hOutWIdeal := hOutWIdeal)
    ∧ quiescent_OutWRefIdeal (hOutWRefIdeal := hOutWRefIdeal)
    ∧ quiescent_Out (hOut := hOut)
    ∧ quiescent_OutIdeal (hOutIdeal := hOutIdeal)
    ∧ quiescent_OutRefIdeal (hOutRefIdeal := hOutRefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Norm (hNorm := hNorm)
    ∧ quiescent_NormIdeal (hNormIdeal := hNormIdeal)
    ∧ quiescent_NormRefIdeal (hNormRefIdeal := hNormRefIdeal)
    ∧ quiescent_MixD (hMixD := hMixD)
    ∧ quiescent_MixDIdeal (hMixDIdeal := hMixDIdeal)
    ∧ quiescent_MixDRefIdeal (hMixDRefIdeal := hMixDRefIdeal)
    ∧ quiescent_DownP (hDownP := hDownP)
    ∧ quiescent_DownPIdeal (hDownPIdeal := hDownPIdeal)
    ∧ quiescent_DownPRefIdeal (hDownPRefIdeal := hDownPRefIdeal)
    ∧ quiescent_OutP (hOutP := hOutP)
    ∧ quiescent_OutPIdeal (hOutPIdeal := hOutPIdeal)
    ∧ quiescent_OutPRefIdeal (hOutPRefIdeal := hOutPRefIdeal)
    ∧ quiescent_AttD (hAttD := hAttD)
    ∧ quiescent_AttDIdeal (hAttDIdeal := hAttDIdeal)
    ∧ quiescent_AttDRefIdeal (hAttDRefIdeal := hAttDRefIdeal)
    ∧ quiescent_OutD (hOutD := hOutD)
    ∧ quiescent_OutDIdeal (hOutDIdeal := hOutDIdeal)
    ∧ quiescent_OutDRefIdeal (hOutDRefIdeal := hOutDRefIdeal)
    ∧ quiescent_DownL (hDownL := hDownL)
    ∧ quiescent_DownLIdeal (hDownLIdeal := hDownLIdeal)
    ∧ quiescent_DownLRefIdeal (hDownLRefIdeal := hDownLRefIdeal)
    ∧ quiescent_Rms (hRms := hRms)
    ∧ quiescent_RmsIdeal (hRmsIdeal := hRmsIdeal)
    ∧ quiescent_RmsRefIdeal (hRmsRefIdeal := hRmsRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal (hActIdeal := hActIdeal) (hActRefIdeal := hActRefIdeal)
    ∧ preserves_Proj_ProjIdeal
    ∧ algebraic_ProjIdeal_ProjRefIdeal (hProjIdeal := hProjIdeal) (hProjRefIdeal := hProjRefIdeal)
    ∧ preserves_MixW_MixWIdeal
    ∧ algebraic_MixWIdeal_MixWRefIdeal (hMixWIdeal := hMixWIdeal) (hMixWRefIdeal := hMixWRefIdeal)
    ∧ preserves_MixIn_MixInIdeal
    ∧ algebraic_MixInIdeal_MixInRefIdeal (hMixInIdeal := hMixInIdeal) (hMixInRefIdeal := hMixInRefIdeal)
    ∧ preserves_OutW_OutWIdeal
    ∧ algebraic_OutWIdeal_OutWRefIdeal (hOutWIdeal := hOutWIdeal) (hOutWRefIdeal := hOutWRefIdeal)
    ∧ preserves_Out_OutIdeal
    ∧ algebraic_OutIdeal_OutRefIdeal (hOutIdeal := hOutIdeal) (hOutRefIdeal := hOutRefIdeal)
    ∧ preserves_QkvW_QkvWIdeal
    ∧ algebraic_QkvWIdeal_QkvWRefIdeal (hQkvWIdeal := hQkvWIdeal) (hQkvWRefIdeal := hQkvWRefIdeal)
    ∧ preserves_Qkv_QkvIdeal
    ∧ algebraic_QkvIdeal_QkvRefIdeal (hQkvIdeal := hQkvIdeal) (hQkvRefIdeal := hQkvRefIdeal)
    ∧ preserves_Norm_NormIdeal
    ∧ algebraic_NormIdeal_NormRefIdeal (hNormIdeal := hNormIdeal) (hNormRefIdeal := hNormRefIdeal)
    ∧ preserves_MixD_MixDIdeal
    ∧ algebraic_MixDIdeal_MixDRefIdeal (hMixDIdeal := hMixDIdeal) (hMixDRefIdeal := hMixDRefIdeal)
    ∧ preserves_DownP_DownPIdeal
    ∧ algebraic_DownPIdeal_DownPRefIdeal (hDownPIdeal := hDownPIdeal) (hDownPRefIdeal := hDownPRefIdeal)
    ∧ preserves_OutP_OutPIdeal
    ∧ algebraic_OutPIdeal_OutPRefIdeal (hOutPIdeal := hOutPIdeal) (hOutPRefIdeal := hOutPRefIdeal)
    ∧ preserves_AttD_AttDIdeal
    ∧ algebraic_AttDIdeal_AttDRefIdeal (hAttDIdeal := hAttDIdeal) (hAttDRefIdeal := hAttDRefIdeal)
    ∧ preserves_OutD_OutDIdeal
    ∧ algebraic_OutDIdeal_OutDRefIdeal (hOutDIdeal := hOutDIdeal) (hOutDRefIdeal := hOutDRefIdeal)
    ∧ preserves_DownL_DownLIdeal
    ∧ algebraic_DownLIdeal_DownLRefIdeal (hDownLIdeal := hDownLIdeal) (hDownLRefIdeal := hDownLRefIdeal)
    ∧ preserves_Rms_RmsIdeal
    ∧ algebraic_RmsIdeal_RmsRefIdeal (hRmsIdeal := hRmsIdeal) (hRmsRefIdeal := hRmsRefIdeal)
-- ==== Pre_finite_inputs.lean ====
abbrev S4096x1536 : Shape := ⟨2, ![4096, 1536]⟩
abbrev S1x16 : Shape := ⟨2, ![1, 16]⟩
abbrev S4096x1024 : Shape := ⟨2, ![4096, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  bcast_S_S1x16 : S_.BroadcastsInDim S1x16 (![] : Fin 0 → Fin S1x16.rank)
  bcast_S_S4096x1024 : S_.BroadcastsInDim S4096x1024 (![] : Fin 0 → Fin S4096x1024.rank)

variable [Facts]

def fn {F : FTy → Type} [FloatOps F] (main_arg0 : FVec F S4096x1536 .bf16) (main_arg1 : FVec F S1x16 .f32) (main_arg2 : FVec F S4096x1024 .bf16) : IVec S4096x1536 1 × IVec S1x16 1 × IVec S4096x1024 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Kernel.lean ====
abbrev S4096x1536 : Shape := ⟨2, ![4096, 1536]⟩
abbrev S1x16 : Shape := ⟨2, ![1, 16]⟩
abbrev S4096x1024 : Shape := ⟨2, ![4096, 1024]⟩
abbrev S4096x256 : Shape := ⟨2, ![4096, 256]⟩
abbrev S1x32x128x4x4x64 : Shape := ⟨6, ![1, 32, 128, 4, 4, 64]⟩
abbrev S1x4096x4x64 : Shape := ⟨4, ![1, 4096, 4, 64]⟩
abbrev S_ : Shape := ⟨0, ![]⟩
abbrev S1x128x4x64 : Shape := ⟨4, ![1, 128, 4, 64]⟩
abbrev S1x3968x4x64 : Shape := ⟨4, ![1, 3968, 4, 64]⟩
abbrev S1x32x128x4x64 : Shape := ⟨5, ![1, 32, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16 : Shape := ⟨1, ![16]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x32x1x1x128x256 : Shape := ⟨6, ![1, 32, 1, 1, 128, 256]⟩
abbrev S1x1x4x4x128x256 : Shape := ⟨6, ![1, 1, 4, 4, 128, 256]⟩
abbrev S1x1x4x4x1x1 : Shape := ⟨6, ![1, 1, 4, 4, 1, 1]⟩
abbrev S1x32x4x4x128x1 : Shape := ⟨6, ![1, 32, 4, 4, 128, 1]⟩
abbrev S1x32x4x4x128x257 : Shape := ⟨6, ![1, 32, 4, 4, 128, 257]⟩
abbrev S1x32x4x4x128 : Shape := ⟨5, ![1, 32, 4, 4, 128]⟩
abbrev S32x4x4x128x257 : Shape := ⟨5, ![32, 4, 4, 128, 257]⟩
abbrev S32x128x4x4x257 : Shape := ⟨5, ![32, 128, 4, 4, 257]⟩
abbrev S4096x16x257 : Shape := ⟨3, ![4096, 16, 257]⟩
abbrev S4096x16x256 : Shape := ⟨3, ![4096, 16, 256]⟩
abbrev S4096x4096 : Shape := ⟨2, ![4096, 4096]⟩
abbrev S4096x16x1 : Shape := ⟨3, ![4096, 16, 1]⟩
abbrev S4096x16 : Shape := ⟨2, ![4096, 16]⟩
abbrev S4096x128 : Shape := ⟨2, ![4096, 128]⟩
abbrev S1x128 : Shape := ⟨2, ![1, 128]⟩
abbrev S128x1024 : Shape := ⟨2, ![128, 1024]⟩
abbrev S128x4096 : Shape := ⟨2, ![128, 4096]⟩
abbrev S128x128 : Shape := ⟨2, ![128, 128]⟩
abbrev S128x1536 : Shape := ⟨2, ![128, 1536]⟩
abbrev S128x512 : Shape := ⟨2, ![128, 512]⟩
abbrev S128x64 : Shape := ⟨2, ![128, 64]⟩
abbrev S512x64 : Shape := ⟨2, ![512, 64]⟩
abbrev S512x128 : Shape := ⟨2, ![512, 128]⟩

abbrev nBuf : Space → Nat
  | .hbm => 128
  | .vmem => 22
  | .smem => 0
  | _ => 0

abbrev bufTy : (tb : Table) → Fin (tcTables nBuf tb) → BufTy
  | .hbm, ⟨0, _⟩ => ⟨S4096x1536, .bf16⟩
  | .hbm, ⟨1, _⟩ => ⟨S1x16, .f32⟩
  | .hbm, ⟨2, _⟩ => ⟨S4096x1024, .bf16⟩
  | .hbm, ⟨3, _⟩ => ⟨S4096x1024, .bf16⟩
  | .hbm, ⟨4, _⟩ => ⟨S4096x256, .bf16⟩
  | .hbm, ⟨5, _⟩ => ⟨S4096x256, .bf16⟩
  | .hbm, ⟨6, _⟩ => ⟨S1x32x128x4x4x64, .bf16⟩
  | .hbm, ⟨7, _⟩ => ⟨S1x4096x4x64, .bf16⟩
  | .hbm, ⟨8, _⟩ => ⟨S1x4096x4x64, .bf16⟩
  | .hbm, ⟨9, _⟩ => ⟨S1x32x128x4x4x64, .f32⟩
  | .hbm, ⟨10, _⟩ => ⟨S_, .bf16⟩
  | .hbm, ⟨11, _⟩ => ⟨S1x128x4x64, .bf16⟩
  | .hbm, ⟨12, _⟩ => ⟨S1x3968x4x64, .bf16⟩
  | .hbm, ⟨13, _⟩ => ⟨S1x4096x4x64, .bf16⟩
  | .hbm, ⟨14, _⟩ => ⟨S1x32x128x4x64, .bf16⟩
  | .hbm, ⟨15, _⟩ => ⟨S1x32x128x4x64, .bf16⟩
  | .hbm, ⟨16, _⟩ => ⟨S1x32x256x4x64, .bf16⟩
  | .hbm, ⟨17, _⟩ => ⟨S1x32x256x4x64, .f32⟩
  | .hbm, ⟨18, _⟩ => ⟨S_, .bf16⟩
  | .hbm, ⟨19, _⟩ => ⟨S1x128x4x64, .bf16⟩
  | .hbm, ⟨20, _⟩ => ⟨S1x3968x4x64, .bf16⟩
  | .hbm, ⟨21, _⟩ => ⟨S1x4096x4x64, .bf16⟩
  | .hbm, ⟨22, _⟩ => ⟨S1x32x128x4x64, .bf16⟩
  | .hbm, ⟨23, _⟩ => ⟨S1x32x128x4x64, .bf16⟩
  | .hbm, ⟨24, _⟩ => ⟨S1x32x256x4x64, .bf16⟩
  | .hbm, ⟨25, _⟩ => ⟨S1x32x256x4x64, .f32⟩
  | .hbm, ⟨26, _⟩ => ⟨S1x32x4x256x128x4, .f32⟩
  | .hbm, ⟨27, _⟩ => ⟨S1x32x4x4x128x256, .f32⟩
  | .hbm, ⟨28, _⟩ => ⟨S_, .f32⟩
  | .hbm, ⟨29, _⟩ => ⟨S1x32x4x4x128x256, .f32⟩
  | .hbm, ⟨30, _⟩ => ⟨S1x32x4x4x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S32, .i32⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S32x1x1, .i32⟩
  | .hbm, ⟨56, _⟩ => ⟨S1x1x256, .i32⟩
  | .hbm, ⟨57, _⟩ => ⟨S32x1x256, .i32⟩
  | .hbm, ⟨58, _⟩ => ⟨S32x1x256, .i32⟩
  | .hbm, ⟨59, _⟩ => ⟨S32x1x256, .i32⟩
  | .hbm, ⟨60, _⟩ => ⟨S1x128x256, .i1⟩
  | .hbm, ⟨61, _⟩ => ⟨S_, .i32⟩
  | .hbm, ⟨62, _⟩ => ⟨S32x1x256, .i32⟩
  | .hbm, ⟨63, _⟩ => ⟨S32x1x256, .i1⟩
  | .hbm, ⟨64, _⟩ => ⟨S32x128x256, .i1⟩
  | .hbm, ⟨65, _⟩ => ⟨S32x128x256, .i1⟩
  | .hbm, ⟨66, _⟩ => ⟨S32x128x256, .i1⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S16, .f32⟩
  | .hbm, ⟨81, _⟩ => ⟨S4x4, .f32⟩
  | .hbm, ⟨82, _⟩ => ⟨S4x4x1x1, .f32⟩
  | .hbm, ⟨83, _⟩ => ⟨S4x4x1x1, .f32⟩
  | .hbm, ⟨84, _⟩ => ⟨S128x256, .f32⟩
  | .hbm, ⟨85, _⟩ => ⟨S1x1x128x256, .f32⟩
  | .hbm, ⟨86, _⟩ => ⟨S4x4x128x256, .f32⟩
  | .hbm, ⟨87, _⟩ => ⟨S4x4x128x256, .f32⟩
  | .hbm, ⟨88, _⟩ => ⟨S4x4x128x256, .f32⟩
  | .hbm, ⟨89, _⟩ => ⟨S1x32x1x1x128x256, .i1⟩
  | .hbm, ⟨90, _⟩ => ⟨S1x1x4x4x128x256, .f32⟩
  | .hbm, ⟨91, _⟩ => ⟨S1x32x4x4x128x256, .f32⟩
  | .hbm, ⟨92, _⟩ => ⟨S1x32x4x4x128x256, .f32⟩
  | .hbm, ⟨93, _⟩ => ⟨S_, .f32⟩
  | .hbm, ⟨94, _⟩ => ⟨S_, .f32⟩
  | .hbm, ⟨95, _⟩ => ⟨S1x32x4x4x128x256, .i1⟩
  | .hbm, ⟨96, _⟩ => ⟨S1x32x4x4x128x256, .f32⟩
  | .hbm, ⟨97, _⟩ => ⟨S1x32x4x4x128x256, .f32⟩
  | .hbm, ⟨98, _⟩ => ⟨S1x1x4x4x1x1, .f32⟩
  | .hbm, ⟨99, _⟩ => ⟨S1x32x4x4x128x1, .f32⟩
  | .hbm, ⟨100, _⟩ => ⟨S1x32x4x4x128x257, .f32⟩
  | .hbm, ⟨101, _⟩ => ⟨S_, .f32⟩
  | .hbm, ⟨102, _⟩ => ⟨S1x32x4x4x128, .f32⟩
  | .hbm, ⟨103, _⟩ => ⟨S_, .f32⟩
  | .hbm, ⟨104, _⟩ => ⟨S1x32x4x4x128, .f32⟩
  | .hbm, ⟨105, _⟩ => ⟨S1x32x4x4x128, .f32⟩
  | .hbm, ⟨106, _⟩ => ⟨S1x32x4x4x128x1, .f32⟩
  | .hbm, ⟨107, _⟩ => ⟨S1x32x4x4x128x257, .f32⟩
  | .hbm, ⟨108, _⟩ => ⟨S1x32x4x4x128x257, .f32⟩
  | .hbm, ⟨109, _⟩ => ⟨S1x32x4x4x128x257, .f32⟩
  | .hbm, ⟨110, _⟩ => ⟨S_, .f32⟩
  | .hbm, ⟨111, _⟩ => ⟨S1x32x4x4x128, .f32⟩
  | .hbm, ⟨112, _⟩ => ⟨S1x32x4x4x128x1, .f32⟩
  | .hbm, ⟨113, _⟩ => ⟨S1x32x4x4x128x257, .f32⟩
  | .hbm, ⟨114, _⟩ => ⟨S1x32x4x4x128x257, .f32⟩
  | .hbm, ⟨115, _⟩ => ⟨S32x4x4x128x257, .f32⟩
  | .hbm, ⟨116, _⟩ => ⟨S32x128x4x4x257, .f32⟩
  | .hbm, ⟨117, _⟩ => ⟨S4096x16x257, .f32⟩
  | .hbm, ⟨118, _⟩ => ⟨S4096x16x256, .f32⟩
  | .hbm, ⟨119, _⟩ => ⟨S4096x4096, .f32⟩
  | .hbm, ⟨120, _⟩ => ⟨S4096x4096, .bf16⟩
  | .hbm, ⟨121, _⟩ => ⟨S4096x16x1, .f32⟩
  | .hbm, ⟨122, _⟩ => ⟨S4096x16, .f32⟩
  | .hbm, ⟨123, _⟩ => ⟨S_, .i32⟩
  | .hbm, ⟨124, _⟩ => ⟨S_, .f32⟩
  | .hbm, ⟨125, _⟩ => ⟨S4096x128, .f32⟩
  | .hbm, ⟨126, _⟩ => ⟨S4096x1536, .bf16⟩
  | .hbm, ⟨127, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .vmem, ⟨12, _⟩ => ⟨S128x4096, .bf16⟩
  | .local _ .vmem, ⟨13, _⟩ => ⟨S128x4096, .bf16⟩
  | .local _ .vmem, ⟨14, _⟩ => ⟨S128x128, .f32⟩
  | .local _ .vmem, ⟨15, _⟩ => ⟨S128x128, .f32⟩
  | .local _ .vmem, ⟨16, _⟩ => ⟨S128x1536, .bf16⟩
  | .local _ .vmem, ⟨17, _⟩ => ⟨S128x1536, .bf16⟩
  | .local _ .vmem, ⟨18, _⟩ => ⟨S1x128, .f32⟩
  | .local _ .vmem, ⟨19, _⟩ => ⟨S128x1536, .f32⟩
  | .local _ .vmem, ⟨20, _⟩ => ⟨S128x1536, .f32⟩
  | .local _ .vmem, ⟨21, _⟩ => ⟨S128x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_14 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_c_15 : Ref sig .tc := ⟨.hbm, 123, rfl⟩
abbrev main_call1_v0 : Ref sig .tc := ⟨.hbm, 124, rfl⟩
abbrev main_v100 : Ref sig .tc := ⟨.hbm, 125, rfl⟩
abbrev main_v101_0 : Ref sig .tc := ⟨.hbm, 126, rfl⟩
abbrev main_v101_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1536 : Shape := ⟨2, ![4096, 1536]⟩
abbrev S1x16 : Shape := ⟨2, ![1, 16]⟩
abbrev S4096x1024 : Shape := ⟨2, ![4096, 1024]⟩
abbrev S4096x256 : Shape := ⟨2, ![4096, 256]⟩
abbrev S1x32x128x4x4x64 : Shape := ⟨6, ![1, 32, 128, 4, 4, 64]⟩
abbrev S1x4096x4x64 : Shape := ⟨4, ![1, 4096, 4, 64]⟩
abbrev S_ : Shape := ⟨0, ![]⟩
abbrev S1x128x4x64 : Shape := ⟨4, ![1, 128, 4, 64]⟩
abbrev S1x3968x4x64 : Shape := ⟨4, ![1, 3968, 4, 64]⟩
abbrev S1x32x128x4x64 : Shape := ⟨5, ![1, 32, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16 : Shape := ⟨1, ![16]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x32x1x1x128x256 : Shape := ⟨6, ![1, 32, 1, 1, 128, 256]⟩
abbrev S1x1x4x4x128x256 : Shape := ⟨6, ![1, 1, 4, 4, 128, 256]⟩
abbrev S1x1x4x4x1x1 : Shape := ⟨6, ![1, 1, 4, 4, 1, 1]⟩
abbrev S1x32x4x4x128x1 : Shape := ⟨6, ![1, 32, 4, 4, 128, 1]⟩
abbrev S1x32x4x4x128x257 : Shape := ⟨6, ![1, 32, 4, 4, 128, 257]⟩
abbrev S1x32x4x4x128 : Shape := ⟨5, ![1, 32, 4, 4, 128]⟩
abbrev S1x32x4x64x4x128 : Shape := ⟨6, ![1, 32, 4, 64, 4, 128]⟩
abbrev S1x32x4x64x256 : Shape := ⟨5, ![1, 32, 4, 64, 256]⟩
abbrev S32x4x4x128 : Shape := ⟨4, ![32, 4, 4, 128]⟩
abbrev S1x32x4x128x4x64 : Shape := ⟨6, ![1, 32, 4, 128, 4, 64]⟩
abbrev S1x32x4x256x64 : Shape := ⟨5, ![1, 32, 4, 256, 64]⟩
abbrev S1x128 : Shape := ⟨2, ![1, 128]⟩

abbrev nBuf : Space → Nat
  | .hbm => 222
  | .vmem => 0
  | .smem => 0
  | _ => 0

abbrev hbmTy0_0 (i : Nat) : BufTy := match i % 128 with
  | 0 => ⟨S4096x1536, .bf16⟩
  | 1 => ⟨S1x16, .f32⟩
  | 2 => ⟨S4096x1024, .bf16⟩
  | 3 => ⟨S4096x1024, .bf16⟩
  | 4 => ⟨S4096x256, .bf16⟩
  | 5 => ⟨S4096x256, .bf16⟩
  | 6 => ⟨S1x32x128x4x4x64, .bf16⟩
  | 7 => ⟨S1x4096x4x64, .bf16⟩
  | 8 => ⟨S1x4096x4x64, .bf16⟩
  | 9 => ⟨S1x32x128x4x4x64, .f32⟩
  | 10 => ⟨S_, .bf16⟩
  | 11 => ⟨S1x128x4x64, .bf16⟩
  | 12 => ⟨S1x3968x4x64, .bf16⟩
  | 13 => ⟨S1x4096x4x64, .bf16⟩
  | 14 => ⟨S_, .bf16⟩
  | 15 => ⟨S1x128x4x64, .bf16⟩
  | 16 => ⟨S1x32x128x4x64, .bf16⟩
  | 17 => ⟨S1x32x128x4x64, .bf16⟩
  | 18 => ⟨S1x32x256x4x64, .bf16⟩
  | 19 => ⟨S1x32x256x4x64, .f32⟩
  | 20 => ⟨S_, .bf16⟩
  | 21 => ⟨S1x128x4x64, .bf16⟩
  | 22 => ⟨S1x3968x4x64, .bf16⟩
  | 23 => ⟨S1x4096x4x64, .bf16⟩
  | 24 => ⟨S_, .bf16⟩
  | 25 => ⟨S1x128x4x64, .bf16⟩
  | 26 => ⟨S1x32x128x4x64, .bf16⟩
  | 27 => ⟨S1x32x128x4x64, .bf16⟩
  | 28 => ⟨S1x32x256x4x64, .bf16⟩
  | 29 => ⟨S1x32x256x4x64, .f32⟩
  | 30 => ⟨S1x32x4x256x128x4, .f32⟩
  | 31 => ⟨S1x32x4x4x128x256, .f32⟩
  | 32 => ⟨S_, .f32⟩
  | 33 => ⟨S1x32x4x4x128x256, .f32⟩
  | 34 => ⟨S1x32x4x4x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S32, .i32⟩
  | 53 => ⟨S_, .i32⟩
  | 54 => ⟨S32, .i32⟩
  | 55 => ⟨S32, .i32⟩
  | 56 => ⟨S_, .i32⟩
  | 57 => ⟨S32, .i32⟩
  | 58 => ⟨S32, .i32⟩
  | 59 => ⟨S32x1x1, .i32⟩
  | 60 => ⟨S1x1x256, .i32⟩
  | 61 => ⟨S32x1x256, .i32⟩
  | 62 => ⟨S32x1x256, .i32⟩
  | 63 => ⟨S32x1x256, .i32⟩
  | 64 => ⟨S1x128x256, .i1⟩
  | 65 => ⟨S_, .i32⟩
  | 66 => ⟨S32x1x256, .i32⟩
  | 67 => ⟨S32x1x256, .i1⟩
  | 68 => ⟨S32x128x256, .i1⟩
  | 69 => ⟨S32x128x256, .i1⟩
  | 70 => ⟨S32x128x256, .i1⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S4x4, .f32⟩
  | 86 => ⟨S4x4x1x1, .f32⟩
  | 87 => ⟨S4x4x1x1, .f32⟩
  | 88 => ⟨S128x256, .f32⟩
  | 89 => ⟨S1x1x128x256, .f32⟩
  | 90 => ⟨S4x4x128x256, .f32⟩
  | 91 => ⟨S4x4x128x256, .f32⟩
  | 92 => ⟨S4x4x128x256, .f32⟩
  | 93 => ⟨S1x32x1x1x128x256, .i1⟩
  | 94 => ⟨S1x1x4x4x128x256, .f32⟩
  | 95 => ⟨S1x32x4x4x128x256, .f32⟩
  | 96 => ⟨S1x32x4x4x128x256, .f32⟩
  | 97 => ⟨S_, .f32⟩
  | 98 => ⟨S_, .f32⟩
  | 99 => ⟨S1x32x4x4x128x256, .i1⟩
  | 100 => ⟨S1x32x4x4x128x256, .f32⟩
  | 101 => ⟨S1x32x4x4x128x256, .f32⟩
  | 102 => ⟨S_, .f32⟩
  | 103 => ⟨S1x32x4x4x128x256, .f32⟩
  | 104 => ⟨S1x1x4x4x1x1, .f32⟩
  | 105 => ⟨S1x32x4x4x128x1, .f32⟩
  | 106 => ⟨S1x32x4x4x128x257, .f32⟩
  | 107 => ⟨S_, .f32⟩
  | 108 => ⟨S1x32x4x4x128, .f32⟩
  | 109 => ⟨S1x32x4x4x128x1, .f32⟩
  | 110 => ⟨S1x32x4x4x128x257, .f32⟩
  | 111 => ⟨S1x32x4x4x128x257, .i1⟩
  | 112 => ⟨S1x32x4x4x128x257, .f32⟩
  | 113 => ⟨S_, .f32⟩
  | 114 => ⟨S1x32x4x4x128, .f32⟩
  | 115 => ⟨S_, .f32⟩
  | 116 => ⟨S1x32x4x4x128, .f32⟩
  | 117 => ⟨S1x32x4x4x128, .f32⟩
  | 118 => ⟨S_, .f32⟩
  | 119 => ⟨S1x32x4x4x128, .f32⟩
  | 120 => ⟨S1x32x4x4x128, .i1⟩
  | 121 => ⟨S_, .f32⟩
  | 122 => ⟨S1x32x4x4x128, .f32⟩
  | 123 => ⟨S1x32x4x4x128, .i1⟩
  | 124 => ⟨S_, .f32⟩
  | 125 => ⟨S1x32x4x4x128, .f32⟩
  | 126 => ⟨S_, .f32⟩
  | 127 => ⟨S1x32x4x4x128, .f32⟩
  | _ => ⟨S4096x1536, .bf16⟩

abbrev hbmTy0_1 (i : Nat) : BufTy := match i % 128 with
  | 0 => ⟨S_, .f32⟩
  | 1 => ⟨S1x32x4x4x128, .f32⟩
  | 2 => ⟨S1x32x4x4x128, .f32⟩
  | 3 => ⟨S1x32x4x4x128, .f32⟩
  | 4 => ⟨S1x32x4x4x128x1, .f32⟩
  | 5 => ⟨S1x32x4x4x128x257, .f32⟩
  | 6 => ⟨S1x32x4x4x128x257, .f32⟩
  | 7 => ⟨S1x32x4x4x128x257, .f32⟩
  | 8 => ⟨S_, .f32⟩
  | 9 => ⟨S1x32x4x4x128, .f32⟩
  | 10 => ⟨S1x32x4x4x128x1, .f32⟩
  | 11 => ⟨S1x32x4x4x128x257, .f32⟩
  | 12 => ⟨S1x32x4x4x128x257, .f32⟩
  | 13 => ⟨S1x32x4x4x128x1, .f32⟩
  | 14 => ⟨S_, .f32⟩
  | 15 => ⟨S1x32x4x4x128x1, .f32⟩
  | 16 => ⟨S1x32x4x4x128x1, .f32⟩
  | 17 => ⟨S1x32x4x4x128x256, .f32⟩
  | 18 => ⟨S1x32x4x4x128x256, .bf16⟩
  | 19 => ⟨S1x32x4x4x128x256, .f32⟩
  | 20 => ⟨S1x32x4x64x4x128, .f32⟩
  | 21 => ⟨S1x32x128x4x4x64, .f32⟩
  | 22 => ⟨S4096x1024, .f32⟩
  | 23 => ⟨S4096x1024, .bf16⟩
  | 24 => ⟨S4096x1024, .f32⟩
  | 25 => ⟨S1x32x128x4x4x64, .f32⟩
  | 26 => ⟨S1x32x4x64x4x128, .f32⟩
  | 27 => ⟨S1x32x4x4x128x256, .f32⟩
  | 28 => ⟨S1x32x4x64x256, .f32⟩
  | 29 => ⟨S1x32x256x4x64, .f32⟩
  | 30 => ⟨S1x32x4x4x128x256, .bf16⟩
  | 31 => ⟨S1x32x4x4x128x256, .f32⟩
  | 32 => ⟨S_, .f32⟩
  | 33 => ⟨S1x32x4x4x128x257, .f32⟩
  | 34 => ⟨S1x32x4x4x128x257, .f32⟩
  | 35 => ⟨S1x32x4x4x128x257, .f32⟩
  | 36 => ⟨S1x32x4x4x128x257, .f32⟩
  | 37 => ⟨S_, .f32⟩
  | 38 => ⟨S1x32x4x4x128, .f32⟩
  | 39 => ⟨S1x32x4x4x128x1, .f32⟩
  | 40 => ⟨S1x32x4x4x128x1, .f32⟩
  | 41 => ⟨S1x32x4x4x128x257, .f32⟩
  | 42 => ⟨S1x32x4x4x128x257, .f32⟩
  | 43 => ⟨S_, .f32⟩
  | 44 => ⟨S32x4x4x128, .f32⟩
  | 45 => ⟨S1x32x4x4x128, .f32⟩
  | 46 => ⟨S1x32x4x4x128x257, .f32⟩
  | 47 => ⟨S1x32x4x4x128x257, .f32⟩
  | 48 => ⟨S1x32x4x4x128x257, .f32⟩
  | 49 => ⟨S1x32x4x4x128x256, .f32⟩
  | 50 => ⟨S1x32x4x4x128x1, .f32⟩
  | 51 => ⟨S_, .f32⟩
  | 52 => ⟨S4x4, .f32⟩
  | 53 => ⟨S1x1x4x4x1x1, .f32⟩
  | 54 => ⟨S1x16, .f32⟩
  | 55 => ⟨S_, .f32⟩
  | 56 => ⟨S1x32x4x4x128x256, .f32⟩
  | 57 => ⟨S1x32x4x4x128x256, .f32⟩
  | 58 => ⟨S_, .f32⟩
  | 59 => ⟨S1x32x4x4x128x256, .f32⟩
  | 60 => ⟨S1x32x4x4x128x256, .f32⟩
  | 61 => ⟨S1x32x4x256x128x4, .f32⟩
  | 62 => ⟨S1x32x4x128x4x64, .f32⟩
  | 63 => ⟨S1x32x128x4x4x64, .f32⟩
  | 64 => ⟨S1x32x4x256x64, .f32⟩
  | 65 => ⟨S1x32x256x4x64, .f32⟩
  | 66 => ⟨S1x32x256x4x64, .bf16⟩
  | 67 => ⟨S1x32x128x4x64, .bf16⟩
  | 68 => ⟨S1x32x128x4x64, .bf16⟩
  | 69 => ⟨S1x4096x4x64, .bf16⟩
  | 70 => ⟨S1x4096x4x64, .bf16⟩
  | 71 => ⟨S1x128x4x64, .bf16⟩
  | 72 => ⟨S1x3968x4x64, .bf16⟩
  | 73 => ⟨S_, .bf16⟩
  | 74 => ⟨S1x4096x4x64, .bf16⟩
  | 75 => ⟨S1x4096x4x64, .bf16⟩
  | 76 => ⟨S1x32x256x4x64, .bf16⟩
  | 77 => ⟨S1x32x128x4x64, .bf16⟩
  | 78 => ⟨S1x32x128x4x64, .bf16⟩
  | 79 => ⟨S1x4096x4x64, .bf16⟩
  | 80 => ⟨S1x4096x4x64, .bf16⟩
  | 81 => ⟨S1x128x4x64, .bf16⟩
  | 82 => ⟨S1x3968x4x64, .bf16⟩
  | 83 => ⟨S_, .bf16⟩
  | 84 => ⟨S1x4096x4x64, .bf16⟩
  | 85 => ⟨S1x4096x4x64, .bf16⟩
  | 86 => ⟨S1x32x128x4x4x64, .bf16⟩
  | 87 => ⟨S4096x256, .bf16⟩
  | 88 => ⟨S4096x256, .bf16⟩
  | 89 => ⟨S4096x1024, .bf16⟩
  | 90 => ⟨S4096x1536, .bf16⟩
  | 91 => ⟨S_, .i32⟩
  | 92 => ⟨S_, .f32⟩
  | 93 => ⟨S1x128, .f32⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_call0_v0 : Ref sig .tc := ⟨.hbm, 98, rfl⟩
abbrev main_v79_1 : Ref sig .tc := ⟨.hbm, 99, rfl⟩
abbrev main_call0_v2 : Ref sig .tc := ⟨.hbm, 100, rfl⟩
abbrev main_v79_0 : Ref sig .tc := ⟨.hbm, 101, rfl⟩
abbrev main_call0_cst : Ref sig .tc := ⟨.hbm, 102, rfl⟩
abbrev main_v79_2 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_cst_20 : Ref sig .tc := ⟨.hbm, 126, rfl⟩
abbrev main_v96 : Ref sig .tc := ⟨.hbm, 127, rfl⟩
abbrev main_cst_21 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_22 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_23 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_25 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_26 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_27 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_call1_cst : Ref sig .tc := ⟨.hbm, 183, rfl⟩
abbrev main_call1_v0 : Ref sig .tc := ⟨.hbm, 184, rfl⟩
abbrev main_v145 : Ref sig .tc := ⟨.hbm, 185, rfl⟩
abbrev main_cst_28 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_29 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_30 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_c_31 : Ref sig .tc := ⟨.hbm, 219, rfl⟩
abbrev main_call2_v0 : Ref sig .tc := ⟨.hbm, 220, rfl⟩
abbrev main_v176 : Ref sig .tc := ⟨.hbm, 221, rfl⟩

abbrev nD : Nat := 1
abbrev τ : Topo := Topo.v7x

variable {F : FTy → Type} [FloatOps F]
-- ==== Up.lean ====
abbrev S4096x1024 : Shape := ⟨2, ![4096, 1024]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpRefIdeal.lean ====
abbrev S4096x1024 : Shape := ⟨2, ![4096, 1024]⟩
abbrev S8x4096x704 : Shape := ⟨3, ![8, 4096, 704]⟩
abbrev S_ : Shape := ⟨0, ![]⟩
abbrev S1024x5632 : Shape := ⟨2, ![1024, 5632]⟩
abbrev S4096x5632 : Shape := ⟨2, ![4096, 5632]⟩
abbrev S4096x8x704 : Shape := ⟨3, ![4096, 8, 704]⟩
abbrev S5632x1024 : Shape := ⟨2, ![5632, 1024]⟩
abbrev S8x704x1024 : Shape := ⟨3, ![8, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S_, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .bf16⟩
  | .hbm, ⟨8, _⟩ => ⟨S4096x8x704, .bf16⟩
  | .hbm, ⟨9, _⟩ => ⟨S4096x5632, .bf16⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S1024x5632, .bf16⟩
  | .hbm, ⟨14, _⟩ => ⟨S5632x1024, .bf16⟩
  | .hbm, ⟨15, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Down.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownRefIdeal.lean ====
abbrev S4x4096x704 : Shape := ⟨3, ![4, 4096, 704]⟩
abbrev S4096x1024 : Shape := ⟨2, ![4096, 1024]⟩
abbrev S_ : Shape := ⟨0, ![]⟩
abbrev S2816x1024 : Shape := ⟨2, ![2816, 1024]⟩
abbrev S4096x4x704 : Shape := ⟨3, ![4096, 4, 704]⟩
abbrev S4096x2816 : Shape := ⟨2, ![4096, 2816]⟩
abbrev S1024x2816 : Shape := ⟨2, ![1024, 2816]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .bf16⟩
  | .hbm, ⟨3, _⟩ => ⟨S2816x1024, .bf16⟩
  | .hbm, ⟨4, _⟩ => ⟨S4096x4x704, .bf16⟩
  | .hbm, ⟨5, _⟩ => ⟨S4096x2816, .bf16⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Act.lean ====
abbrev S4096x1024 : Shape := ⟨2, ![4096, 1024]⟩
abbrev S1x4x704x1024 : Shape := ⟨4, ![1, 4, 704, 1024]⟩
abbrev S4x4096x704 : Shape := ⟨3, ![4, 4096, 704]⟩
abbrev S2048x1024 : Shape := ⟨2, ![2048, 1024]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x4x704x1024, .bf16⟩
  | .hbm, ⟨2, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x2048x704, .bf16⟩
  | .local _ .vmem, ⟨5, _⟩ => ⟨S1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActRefIdeal.lean ====
abbrev S4096x1024 : Shape := ⟨2, ![4096, 1024]⟩
abbrev S1x4x704x1024 : Shape := ⟨4, ![1, 4, 704, 1024]⟩
abbrev S_ : Shape := ⟨0, ![]⟩
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x4x704x1024, .bf16⟩
  | .hbm, ⟨2, _⟩ => ⟨S_, .bf16⟩
  | .hbm, ⟨3, _⟩ => ⟨S4096x2816, .bf16⟩
  | .hbm, ⟨4, _⟩ => ⟨S2816x1024, .bf16⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .bf16⟩
  | .hbm, ⟨11, _⟩ => ⟨S4096x4x704, .bf16⟩
  | .hbm, ⟨12, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proj.lean ====
abbrev S4096x1024 : Shape := ⟨2, ![4096, 1024]⟩
abbrev S1x8x704x1024 : Shape := ⟨4, ![1, 8, 704, 1024]⟩
abbrev S8x4096x704 : Shape := ⟨3, ![8, 4096, 704]⟩
abbrev S2048x1024 : Shape := ⟨2, ![2048, 1024]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x8x704x1024, .bf16⟩
  | .hbm, ⟨2, _⟩ => ⟨S8x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x2048x704, .bf16⟩
  | .local _ .vmem, ⟨5, _⟩ => ⟨S1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1x8x704x1024 : Shape := ⟨4, ![1, 8, 704, 1024]⟩
abbrev S5632x1024 : Shape := ⟨2, ![5632, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x8x704x1024, .bf16⟩
  | .hbm, ⟨2, _⟩ => ⟨S5632x1024, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .bf16⟩
  | .hbm, ⟨8, _⟩ => ⟨S4096x8x704, .bf16⟩
  | .hbm, ⟨9, _⟩ => ⟨S8x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MixW.lean ====
abbrev S4096x1024 : Shape := ⟨2, ![4096, 1024]⟩
abbrev S8x4096x512 : Shape := ⟨3, ![8, 4096, 512]⟩
abbrev S8x1024x512 : Shape := ⟨3, ![8, 1024, 512]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x4096x512, .bf16⟩
  | .hbm, ⟨2, _⟩ => ⟨S8x1024x512, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MixWRefIdeal.lean ====
abbrev S4096x1024 : Shape := ⟨2, ![4096, 1024]⟩
abbrev S8x4096x512 : Shape := ⟨3, ![8, 4096, 512]⟩
abbrev S_ : Shape := ⟨0, ![]⟩
abbrev S1024x4096 : Shape := ⟨2, ![1024, 4096]⟩
abbrev S4096x4096 : Shape := ⟨2, ![4096, 4096]⟩
abbrev S4096x8x512 : Shape := ⟨3, ![4096, 8, 512]⟩
abbrev S1024x8x512 : Shape := ⟨3, ![1024, 8, 512]⟩
abbrev S8x1024x512 : Shape := ⟨3, ![8, 1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x512, .bf16⟩
  | .hbm, ⟨2, _⟩ => ⟨S_, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x8x512, .bf16⟩
  | .hbm, ⟨8, _⟩ => ⟨S4096x4096, .bf16⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S1024x4096, .bf16⟩
  | .hbm, ⟨13, _⟩ => ⟨S1024x8x512, .bf16⟩
  | .hbm, ⟨14, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MixIn.lean ====
abbrev S4096x1024 : Shape := ⟨2, ![4096, 1024]⟩
abbrev S1x8x1024x512 : Shape := ⟨4, ![1, 8, 1024, 512]⟩
abbrev S8x4096x512 : Shape := ⟨3, ![8, 4096, 512]⟩
abbrev S2048x1024 : Shape := ⟨2, ![2048, 1024]⟩
abbrev S1x1x1024x512 : Shape := ⟨4, ![1, 1, 1024, 512]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x8x1024x512, .bf16⟩
  | .hbm, ⟨2, _⟩ => ⟨S8x4096x512, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x2048x512, .f32⟩
  | .local _ .vmem, ⟨5, _⟩ => ⟨S1x2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1x8x1024x512 : Shape := ⟨4, ![1, 8, 1024, 512]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S4096x8x512 : Shape := ⟨3, ![4096, 8, 512]⟩
abbrev S8x4096x512 : Shape := ⟨3, ![8, 4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x8x1024x512, .bf16⟩
  | .hbm, ⟨2, _⟩ => ⟨S8x1024x512, .bf16⟩
  | .hbm, ⟨3, _⟩ => ⟨S1024x8x512, .bf16⟩
  | .hbm, ⟨4, _⟩ => ⟨S1024x4096, .bf16⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S4096x8x512, .f32⟩
  | .hbm, ⟨9, _⟩ => ⟨S8x4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutW.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== OutWRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .bf16⟩
  | .hbm, ⟨3, _⟩ => ⟨S1024x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutRefIdeal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S_, .bf16⟩
  | .hbm, ⟨3, _⟩ => ⟨S4096x1024, .bf16⟩
  | .hbm, ⟨4, _⟩ => ⟨S1024x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QkvW.lean ====
abbrev S4096x1536 : Shape := ⟨2, ![4096, 1536]⟩
abbrev S4096x1024 : Shape := ⟨2, ![4096, 1024]⟩
abbrev S1536x1024 : Shape := ⟨2, ![1536, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S4096x1536, .bf16⟩
  | .local _ .vmem, ⟨1, _⟩ => ⟨S4096x1024, .bf16⟩
  | .local _ .vmem, ⟨2, _⟩ => ⟨S1536x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== QkvWRefIdeal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .bf16⟩
  | .hbm, ⟨3, _⟩ => ⟨S1024x1536, .bf16⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Qkv.lean ====
abbrev S4096x1024 : Shape := ⟨2, ![4096, 1024]⟩
abbrev S1x1536x1024 : Shape := ⟨3, ![1, 1536, 1024]⟩
abbrev S4096x1536 : Shape := ⟨2, ![4096, 1536]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1536x1024, .bf16⟩
  | .hbm, ⟨2, _⟩ => ⟨S4096x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x1024 : Shape := ⟨2, ![4096, 1024]⟩
abbrev S1x1536x1024 : Shape := ⟨3, ![1, 1536, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1536x1024, .bf16⟩
  | .hbm, ⟨2, _⟩ => ⟨S1536x1024, .bf16⟩
  | .hbm, ⟨3, _⟩ => ⟨S1024x1536, .bf16⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Norm.lean ====
abbrev S8x4096x704 : Shape := ⟨3, ![8, 4096, 704]⟩
abbrev S1x8x704x1024 : Shape := ⟨4, ![1, 8, 704, 1024]⟩
abbrev S4096x1024 : Shape := ⟨2, ![4096, 1024]⟩
abbrev S1x1024 : Shape := ⟨2, ![1, 1024]⟩
abbrev S2x1024x704 : Shape := ⟨3, ![2, 1024, 704]⟩
abbrev S1x2x704x1024 : Shape := ⟨4, ![1, 2, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8x4096x704, .bf16⟩
  | .hbm, ⟨1, _⟩ => ⟨S1x8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S2x1024x704, .bf16⟩
  | .local _ .vmem, ⟨1, _⟩ => ⟨S2x1024x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c0_i32_20 : BitVec 32 := 0#32
  let v42 : BitVec 1 := Scalar.cmpi .eq arg0 c0_i32_20
  let v43 : BitVec 32 := Scalar.extui v42
  let c0_i32_21 : BitVec 32 := 0#32
  let v44 : BitVec 1 := Scalar.cmpi .ne v43 c0_i32_21
  v44

def k0_cond5 (i : grid0.Coords) : BitVec 1 :=
  let arg0 : BitVec 32 := BitVec.ofNat 32 (i 0).val
  let c0_i32_22 : BitVec 32 := 0#32
  let v45 : BitVec 1 := Scalar.cmpi .sgt arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== NormRefIdeal.lean ====
abbrev S8x4096x704 : Shape := ⟨3, ![8, 4096, 704]⟩
abbrev S1x8x704x1024 : Shape := ⟨4, ![1, 8, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024x5632 : Shape := ⟨2, ![1024, 5632]⟩
abbrev S4096x5632 : Shape := ⟨2, ![4096, 5632]⟩
abbrev S4096x8x704 : Shape := ⟨3, ![4096, 8, 704]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S1x8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S5632x1024, .bf16⟩
  | .hbm, ⟨26, _⟩ => ⟨S1024x5632, .bf16⟩
  | .hbm, ⟨27, _⟩ => ⟨S4096x1024, .f32⟩
  | .hbm, ⟨28, _⟩ => ⟨S1024x5632, .f32⟩
  | .hbm, ⟨29, _⟩ => ⟨S4096x5632, .f32⟩
  | .hbm, ⟨30, _⟩ => ⟨S4096x5632, .bf16⟩
  | .hbm, ⟨31, _⟩ => ⟨S4096x8x704, .bf16⟩
  | .hbm, ⟨32, _⟩ => ⟨S4096x5632, .bf16⟩
  | .hbm, ⟨33, _⟩ => ⟨S4096x5632, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== MixD.lean ====
abbrev S8x4096x512 : Shape := ⟨3, ![8, 4096, 512]⟩
abbrev S1x8x1024x512 : Shape := ⟨4, ![1, 8, 1024, 512]⟩
abbrev S4096x1024 : Shape := ⟨2, ![4096, 1024]⟩
abbrev S1x1024 : Shape := ⟨2, ![1, 1024]⟩
abbrev S2x1024x512 : Shape := ⟨3, ![2, 1024, 512]⟩
abbrev S1x2x1024x512 : Shape := ⟨4, ![1, 2, 1024, 512]⟩
abbrev S1024x1024 : Shape := ⟨2, ![1024, 1024]⟩
abbrev S1x1024x512 : Shape := ⟨3, ![1, 1024, 512]⟩
abbrev S1024x512 : Shape := ⟨2, ![1024, 512]⟩
abbrev S1x1x1024x512 : Shape := ⟨4, ![1, 1, 1024, 512]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8x4096x512, .bf16⟩
  | .hbm, ⟨1, _⟩ => ⟨S1x8x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S2x1024x512, .bf16⟩
  | .local _ .vmem, ⟨1, _⟩ => ⟨S2x1024x512, .bf16⟩
  | .local _ .vmem, ⟨2, _⟩ => ⟨S1x2x1024x512, .bf16⟩
  | .local _ .vmem, ⟨3, _⟩ => ⟨S1x2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c0_i32_20 : BitVec 32 := 0#32
  let v42 : BitVec 1 := Scalar.cmpi .eq arg0 c0_i32_20
  let v43 : BitVec 32 := Scalar.extui v42
  let c0_i32_21 : BitVec 32 := 0#32
  let v44 : BitVec 1 := Scalar.cmpi .ne v43 c0_i32_21
  v44

def k0_cond5 (i : grid0.Coords) : BitVec 1 :=
  let arg0 : BitVec 32 := BitVec.ofNat 32 (i 0).val
  let c0_i32_22 : BitVec 32 := 0#32
  let v45 : BitVec 1 := Scalar.cmpi .sgt arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixDRefIdeal.lean ====
abbrev S8x4096x512 : Shape := ⟨3, ![8, 4096, 512]⟩
abbrev S1x8x1024x512 : Shape := ⟨4, ![1, 8, 1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S4096x8x512 : Shape := ⟨3, ![4096, 8, 512]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S1x8x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S8x1024x512, .bf16⟩
  | .hbm, ⟨26, _⟩ => ⟨S1024x8x512, .bf16⟩
  | .hbm, ⟨27, _⟩ => ⟨S1024x4096, .bf16⟩
  | .hbm, ⟨28, _⟩ => ⟨S4096x1024, .f32⟩
  | .hbm, ⟨29, _⟩ => ⟨S1024x4096, .f32⟩
  | .hbm, ⟨30, _⟩ => ⟨S4096x4096, .f32⟩
  | .hbm, ⟨31, _⟩ => ⟨S4096x8x512, .bf16⟩
  | .hbm, ⟨32, _⟩ => ⟨S4096x4096, .bf16⟩
  | .hbm, ⟨33, _⟩ => ⟨S4096x4096, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== DownP.lean ====
abbrev S4x4096x704 : Shape := ⟨3, ![4, 4096, 704]⟩
abbrev S1x4x704x1024 : Shape := ⟨4, ![1, 4, 704, 1024]⟩
abbrev S4096x1024 : Shape := ⟨2, ![4096, 1024]⟩
abbrev S1x1024 : Shape := ⟨2, ![1, 1024]⟩
abbrev S2x1024x704 : Shape := ⟨3, ![2, 1024, 704]⟩
abbrev S1x2x704x1024 : Shape := ⟨4, ![1, 2, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S1x4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S2x1024x704, .bf16⟩
  | .local _ .vmem, ⟨1, _⟩ => ⟨S2x1024x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DownPRefIdeal.lean ====
abbrev S4x4096x704 : Shape := ⟨3, ![4, 4096, 704]⟩
abbrev S1x4x704x1024 : Shape := ⟨4, ![1, 4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S1x4x704x1024, .bf16⟩
  | .hbm, ⟨2, _⟩ => ⟨S4096x1024, .f32⟩
  | .hbm, ⟨3, _⟩ => ⟨S1x1024, .f32⟩
  | .hbm, ⟨4, _⟩ => ⟨S4096x4x704, .bf16⟩
  | .hbm, ⟨5, _⟩ => ⟨S4096x2816, .bf16⟩
  | .hbm, ⟨6, _⟩ => ⟨S2816x1024, .bf16⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutP.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutPRefIdeal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AttD.lean ====
abbrev S4096x1536 : Shape := ⟨2, ![4096, 1536]⟩
abbrev S1x1536x1024 : Shape := ⟨3, ![1, 1536, 1024]⟩
abbrev S4096x1024 : Shape := ⟨2, ![4096, 1024]⟩
abbrev S1x1024 : Shape := ⟨2, ![1, 1024]⟩
abbrev S1024x1536 : Shape := ⟨2, ![1024, 1536]⟩
abbrev S1024x1024 : Shape := ⟨2, ![1024, 1024]⟩
abbrev S1536x1024 : Shape := ⟨2, ![1536, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1x1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1x1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_20 : BitVec 32 := 0#32
  let v38 : BitVec 1 := Scalar.cmpi .ne v37 c0_i32_20
  v38

def k0_cond2 (i : grid0.Coords) : BitVec 1 :=
  let arg0 : BitVec 32 := BitVec.ofNat 32 (i 0).val
  let c0_i32_21 : BitVec 32 := 0#32
  let v39 : BitVec 1 := Scalar.cmpi .sgt arg0 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== AttDRefIdeal.lean ====
abbrev S4096x1536 : Shape := ⟨2, ![4096, 1536]⟩
abbrev S1x1536x1024 : Shape := ⟨3, ![1, 1536, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1536x1024 : Shape := ⟨2, ![1536, 1024]⟩
abbrev S1024x1536 : Shape := ⟨2, ![1024, 1536]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1x1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1536x1024, .bf16⟩
  | .hbm, ⟨26, _⟩ => ⟨S1024x1536, .bf16⟩
  | .hbm, ⟨27, _⟩ => ⟨S4096x1024, .f32⟩
  | .hbm, ⟨28, _⟩ => ⟨S1024x1536, .f32⟩
  | .hbm, ⟨29, _⟩ => ⟨S4096x1536, .f32⟩
  | .hbm, ⟨30, _⟩ => ⟨S4096x1536, .f32⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== OutD.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutDRefIdeal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S_, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DownL.lean ====
abbrev S4x4096x704 : Shape := ⟨3, ![4, 4096, 704]⟩
abbrev S1x4x704x1024 : Shape := ⟨4, ![1, 4, 704, 1024]⟩
abbrev S4096x1024 : Shape := ⟨2, ![4096, 1024]⟩
abbrev S2x1024x704 : Shape := ⟨3, ![2, 1024, 704]⟩
abbrev S1x2x704x1024 : Shape := ⟨4, ![1, 2, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x704, .bf16⟩
  | .hbm, ⟨1, _⟩ => ⟨S1x4x704x1024, .bf16⟩
  | .hbm, ⟨2, _⟩ => ⟨S4096x1024, .f32⟩
  | .hbm, ⟨3, _⟩ => ⟨S4096x1024, .f32⟩
  | .local _ .vmem, ⟨0, _⟩ => ⟨S2x1024x704, .bf16⟩
  | .local _ .vmem, ⟨1, _⟩ => ⟨S2x1024x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DownLRefIdeal.lean ====
abbrev S4x4096x704 : Shape := ⟨3, ![4, 4096, 704]⟩
abbrev S1x4x704x1024 : Shape := ⟨4, ![1, 4, 704, 1024]⟩
abbrev S4096x1024 : Shape := ⟨2, ![4096, 1024]⟩
abbrev S4096x4x704 : Shape := ⟨3, ![4096, 4, 704]⟩
abbrev S4096x2816 : Shape := ⟨2, ![4096, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S1x4x704x1024, .bf16⟩
  | .hbm, ⟨2, _⟩ => ⟨S4096x1024, .f32⟩
  | .hbm, ⟨3, _⟩ => ⟨S4096x4x704, .bf16⟩
  | .hbm, ⟨4, _⟩ => ⟨S4096x2816, .bf16⟩
  | .hbm, ⟨5, _⟩ => ⟨S2816x1024, .bf16⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.AttnCases.lean ====
/- The cases of the attention gradient's grid (first point, middle points, last point) and what each window does in
   each of them: which outputs are stored into, and that the row of sink gradients, which the last point leaves alone,
   is nevertheless written back there. -/
module

public import proofs.«01_k».proof.Proof.Gen.KernelIdeal.Frame
public import proofs.«01_k».proof.Proof.Gen.KernelIdeal.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → cond0_1 (grid0.coords t) → ¬cond0_2 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → ¬cond0_2 (grid0.coords t) → cfg0.idle 8 (grid0.coords t) = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x100000000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → cfg0.idle 9 (grid0.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → ¬cond0_2 (grid0.coords t) → cfg0.fresh 9 t.val = false := by
  intro t; rw [fresh0_9_eq t]; revert t; decide +kernel
/-- At the last point the body stores nothing into the sink row: the printed configuration calls output 9 idle there. -/
theorem idleAt0_9_C : ∀ t : Fin cfg0.N, ¬cond0_0 (grid0.coords t) → ¬cond0_1 (grid0.coords t) → cond0_2 (grid0.coords t) → cfg0.idle 9 (grid0.coords t) = true := by decide +kernel
/-- Yet it is written back there: the sink row leaves once, after the last point. -/
theorem flushAt0_9_C : ∀ t : Fin cfg0.N, ¬cond0_0 (grid0.coords t) → ¬cond0_1 (grid0.coords t) → cond0_2 (grid0.coords t) → (cfg0.win 9).flush t = true := by decide +kernel
/-- At the last point the sink row is not fresh: the earlier points stored into it. -/
theorem notFresh0_9_C : ∀ t : Fin cfg0.N, ¬cond0_0 (grid0.coords t) → ¬cond0_1 (grid0.coords t) → cond0_2 (grid0.coords t) → cfg0.fresh 9 t.val = false := by
  intro t; rw [fresh0_9_eq t]; revert t; decide +kernel

/-! ## The kernel body on any staging memrefs: a subtype the run finds -/

/-- One staging buffer of output window 8, through which its contents are stated (`View.read_writes_of_cover`: the
    choice does not matter). -/
abbrev VO0_8 : View sig .tc .vmem S128x1536 .bf16 := (Memref.whole cc0_stg8_0 : Memref sig .tc .vmem S128x1536 .bf16).view
/-- One staging buffer of output window 9, through which its contents are stated (`View.read_writes_of_cover`: the
    choice does not matter). -/
abbrev VO0_9 : View sig .tc .vmem S1x128 .f32 := (Memref.whole cc0_stg9_0 : Memref sig .tc .vmem S1x128 .f32).view
/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1536 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S128x1536 .f32 := Memref.whole cc0_scratch0
abbrev scM0_1 : Memref sig .tc .vmem S128x1536 .f32 := Memref.whole cc0_scratch1
abbrev scM0_2 : Memref sig .tc .vmem S128x512 .f32 := Memref.whole cc0_scratch2
/-- The scratch `arg11` the kernel carries between points, as a view: what it holds is stated through it. -/
abbrev VS0_0 : View sig .tc .vmem S128x1536 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.AttnRunA.lean ====
/- The attention gradient's body run at the first point of the grid. -/
module

public import proofs.«01_k».proof.Proof.AttnCases

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1216000 in
/-- The body run at the first point: the pieces it leaves in each buffer it stores into, found by the run, with the run itself. -/
noncomputable def kernelRun0_A (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) :
    Σ' (L8 : List (View.Piece (Elt F) S128x1536 .bf16)), Σ' (L9 : List (View.Piece (Elt F) S1x128 .f32)), Σ' (LS0 : List (View.Piece (Elt F) S128x1536 .f32)), Σ' (LT1 : List (View.Piece (Elt F) S128x1536 .f32)), { LT2 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LT2)) -∗ K ⟨⟩))
          ⊢ wp frame (wpE (defs₀ (F := F)) Variants.none c none) E (cc0_attn_bwd0 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_attn_bwd0_eq_skeleton]; unfold cc0_attn_bwd0_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Hand

end
-- ==== Proof.AttnRunB.lean ====
/- The attention gradient's body run at a middle point of the grid. -/
module

public import proofs.«01_k».proof.Proof.AttnRunA

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1196000 in
/-- The body run at a middle point: the pieces it leaves in each buffer it stores into, found by the run, with the run itself. -/
noncomputable def kernelRun0_B (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) :
    Σ' (L8 : List (View.Piece (Elt F) S128x1536 .bf16)), Σ' (L9 : List (View.Piece (Elt F) S1x128 .f32)), Σ' (LS0 : List (View.Piece (Elt F) S128x1536 .f32)), Σ' (LT1 : List (View.Piece (Elt F) S128x1536 .f32)), { LT2 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg11 fullShare xs0 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LT2)) -∗ K ⟨⟩))
          ⊢ wp frame (wpE (defs₀ (F := F)) Variants.none c none) E (cc0_attn_bwd0 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_attn_bwd0_eq_skeleton]; unfold cc0_attn_bwd0_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Hand

end
-- ==== Proof.AttnRunC.lean ====
/- The attention gradient's body run at the last point of the grid. -/
module

public import proofs.«01_k».proof.Proof.AttnRunB

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the last point: the pieces it leaves in each buffer it stores into, found by the run, with the run itself. -/
noncomputable def kernelRun0_C (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) :
    Σ' (L8 : List (View.Piece (Elt F) S128x1536 .bf16)), Σ' (LS0 : List (View.Piece (Elt F) S128x1536 .f32)), Σ' (LT1 : List (View.Piece (Elt F) S128x1536 .f32)), { LT2 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg11 fullShare xs0 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xo9 ∗ owns (c : Thread nD τ) arg11 fullShare xs0 ∗ (∃ d, owns (c : Thread nD τ) arg12 fullShare d) ∗ (∃ d, owns (c : Thread nD τ) arg13 fullShare d)) -∗ K ⟨⟩))
          ⊢ wp frame (wpE (defs₀ (F := F)) Variants.none c none) E (cc0_attn_bwd0 i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], fun E K => ?run⟩
  case run =>
    simp only [cc0_attn_bwd0_eq_skeleton]; unfold cc0_attn_bwd0_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.KernelIdeal.Hand

end
-- ==== Proof.AttnOuts.lean ====
/- What the attention gradient's body leaves behind at each point: the gradient block, the running row of sink gradients,
   and the carried block. -/
module

public import proofs.«01_k».proof.Proof.AttnRunC
public import Idealize.ShloMosaic.Lib.Pipeline.FrameBody
public import Idealize.ShloMosaic.Lib.Pipeline.TableIdle
public import Idealize.ShloMosaic.Lib.Ring

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 are of SEVERAL sizes (2 stores of `S128x1024`, `S128x512`): cut into blocks of `![128, 512]` they tile its block (checked by the kernel's evaluation: Lib/Ring.lean `Piece.tiledBy`), so they cover it. -/
theorem cover0_A_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (y : S128x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 ![128, 512] (by sl_kernel_rfl) y

/-- What case A leaves in output 8's staging buffer: its pieces read back over junk. -/
def out0_A_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) : Vec F S128x1536 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case A's pieces for output 9 tile its block (2 stores of `S1x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1 S1x128.size (by sl_kernel_rfl) y

/-- What case A leaves in output 9's staging buffer: its pieces read back over junk. -/
def out0_A_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) : Vec F S1x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1)

/-- Case A's pieces for scratch `arg11`, which the kernel carries between points, cover it: 2 pieces of `S128x1536` tiling it (Lib/Ring.lean `Piece.tiledL`). -/
theorem scover0_A_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (y : S128x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1 S128x1536.size (by sl_kernel_rfl) y

/-- What case A leaves in scratch `arg11`: its pieces read back over junk. -/
def sout0_A_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) : Vec F S128x1536 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1)

/-- Case B's pieces for output 8 are of SEVERAL sizes (2 stores of `S128x1024`, `S128x512`): cut into blocks of `![128, 512]` they tile its block (checked by the kernel's evaluation: Lib/Ring.lean `Piece.tiledBy`), so they cover it. -/
theorem cover0_B_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) (y : S128x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).1 ![128, 512] (by sl_kernel_rfl) y

/-- What case B leaves in output 8's staging buffer: its pieces read back over junk. -/
def out0_B_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) : Vec F S128x1536 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).1)

/-- Case B's pieces for output 9 tile its block (1 store of `S1x128`, checked by the kernel's evaluation: Lib/Ring.lean `Piece.tiledL`, linear in the pieces, through a loop's `@[irreducible]` trip theorem too), so they cover it. -/
theorem cover0_B_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).2.1 S1x128.size (by sl_kernel_rfl) y

/-- What case B leaves in output 9's staging buffer: its pieces read back over junk. -/
def out0_B_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) : Vec F S1x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).2.1)

/-- Case B's pieces for scratch `arg11`, which the kernel carries between points, cover it: 1 piece of `S128x1536` tiling it (Lib/Ring.lean `Piece.tiledL`). -/
theorem scover0_B_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) (y : S128x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).2.2.1 S128x1536.size (by sl_kernel_rfl) y

/-- What case B leaves in scratch `arg11`: its pieces read back over junk. -/
def sout0_B_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) : Vec F S128x1536 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).2.2.1)

/-- Case C's pieces for output 8 tile its block (1 store of `S128x1536`, checked by the kernel's evaluation: Lib/Ring.lean `Piece.tiledL`, linear in the pieces, through a loop's `@[irreducible]` trip theorem too), so they cover it. -/
theorem cover0_C_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) (y : S128x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).1 S128x1536.size (by sl_kernel_rfl) y

/-- What case C leaves in output 8's staging buffer: its pieces read back over junk. -/
def out0_C_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) : Vec F S128x1536 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0).1)

/-- The last point leaves the row of sink gradients as it found it. -/
def out0_C_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) : Vec F S1x128 .f32 := xo9

/-- Case C stores nothing into scratch `arg11`: it holds what the point before left. -/
def sout0_C_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S128x128 .f32) (harg8 : arg8.IsWhole) (arg9 : Memref sig .tc .vmem S128x1536 .bf16) (harg9 : arg9.IsWhole) (arg10 : Memref sig .tc .vmem S1x128 .f32) (harg10 : arg10.IsWhole) (arg11 : Memref sig .tc .vmem S128x1536 .f32) (harg11 : arg11.IsWhole) (arg12 : Memref sig .tc .vmem S128x1536 .f32) (harg12 : arg12.IsWhole) (arg13 : Memref sig .tc .vmem S128x512 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S128x1024 .bf16) (x6 : Vec F S128x4096 .bf16) (x7 : Vec F S128x128 .f32) (xo9 : Vec F S1x128 .f32) (xs0 : Vec F S128x1536 .f32) : Vec F S128x1536 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x1536 .bf16 × Vec F S1x128 .f32 × Vec F S128x1536 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 33 = 0 then
      if h1 : (n + 1) < 32 then
        if h2 : (n + 1) % 33 = 32 then
          False.elim (by have hN : n + 1 < 33 := lt_of_lt_of_eq hn (show cfg0.N = 33 from N_0); omega)
        else
          (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 33 := lt_of_lt_of_eq hn (show cfg0.N = 33 from N_0); omega)
    else
      if h1 : (n + 1) < 32 then
        if h2 : (n + 1) % 33 = 32 then
          False.elim (by have hN : n + 1 < 33 := lt_of_lt_of_eq hn (show cfg0.N = 33 from N_0); omega)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
      else
        if h2 : (n + 1) % 33 = 32 then
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 33 = 0) (h1 : t.val < 32) (h2 : ¬t.val % 33 = 32) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 33 = 0) (h1 : t.val < 32) (h2 : ¬t.val % 33 = 32) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 33 = 0) (h1 : ¬t.val < 32) (h2 : t.val % 33 = 32) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

end Cert.KernelIdeal.Hand

end
-- ==== Proof.AttnFrame.lean ====
/- The attention gradient's run over the whole grid: the proof data of its pipeline, the body at every point, and the run
   of the whole program, its arguments unchanged and every counter at zero. -/
module

public import proofs.«01_k».proof.Proof.AttnOuts
public import Idealize.ShloMosaic.Lib.Pipeline.Frame
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 33 := lt_of_lt_of_eq t.isLt (show cfg0.N = 33 from N_0)
  rw [after0_9, after0_9]
  by_cases h0 : t.val % 33 = 0
  · by_cases h1 : t.val < 32
    · by_cases h2 : t.val % 33 = 32
      · exfalso; omega
      · rw [liveAt0_9_A t ((hcond0_0 t).mpr h0) ((hcond0_1 t).mpr h1) (fun h => h2 ((hcond0_2 t).mp h))] at hi
        exact absurd hi Bool.false_ne_true
    · exfalso; omega
  · by_cases h1 : t.val < 32
    · by_cases h2 : t.val % 33 = 32
      · exfalso; omega
      · rw [liveAt0_9_B t (fun h => h0 ((hcond0_0 t).mp h)) ((hcond0_1 t).mpr h1) (fun h => h2 ((hcond0_2 t).mp h))] at hi
        exact absurd hi Bool.false_ne_true
    · by_cases h2 : t.val % 33 = 32
      · rw [outsAt0_C m c t h0 h1 h2]; rfl
      · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 33 = 0) (h1 : t.val < 32) (h2 : ¬t.val % 33 = 32) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) ((hcond0_1 t).mpr h1) (fun h => h2 ((hcond0_2 t).mp h))]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 33 = 0) (h1 : ¬t.val < 32) (h2 : t.val % 33 = 32) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        by_cases hz : t.val = 0
        · rw [PhiS_castSucc m c t, PhiS_zero m c _ _ hz, PhiA0_eq]
          rw [outsAt0_A m c t h0 h1 h2]
          unfold out0_A_8 out0_A_9 sout0_A_0; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [HS0]; · iexact HS0
          isplitl [HS1]; · iexact HS1
          isplitl [HS2]; · iexact HS2
          iintro ⟨H0, H1, H2, H3, H4, H5, H6, H7, ⟨%e8, H8⟩, ⟨%e9, H9⟩, ⟨%es0, HS0⟩, ⟨%fT1, HS1⟩, ⟨%fT2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _)
        · exfalso; have hN : t.val < 33 := lt_of_lt_of_eq t.isLt (show cfg0.N = 33 from N_0); omega
    · exfalso; omega
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          simp only [before0_9_B m c t h0 h1 h2]
          unfold out0_B_8 out0_B_9 sout0_B_0; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexact HS0
          isplitl [HS1]; · iexact HS1
          isplitl [HS2]; · iexact HS2
          iintro ⟨H0, H1, H2, H3, H4, H5, H6, H7, ⟨%e8, H8⟩, ⟨%e9, H9⟩, ⟨%es0, HS0⟩, ⟨%fT1, HS1⟩, ⟨%fT2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _)
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [idleAt0_9_C t (fun h => h0 ((hcond0_0 t).mp h)) (fun h => h1 ((hcond0_1 t).mp h)) ((hcond0_2 t).mpr h2), flushAt0_9_C t (fun h => h0 ((hcond0_0 t).mp h)) (fun h => h1 ((hcond0_1 t).mp h)) ((hcond0_2 t).mpr h2)], after0_9]
        by_cases hz : t.val = 0
        · exfalso; have hN : t.val < 33 := lt_of_lt_of_eq t.isLt (show cfg0.N = 33 from N_0); omega
        · rw [PhiS_castSucc m c t, PhiS_pos m c _ _ hz]
          rw [outsAt0_C m c t h0 h1 h2]
          simp only [before0_9_C m c t h0 h1 h2]
          unfold out0_C_8 out0_C_9 sout0_C_0; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexact HS0
          isplitl [HS1]; · iexact HS1
          isplitl [HS2]; · iexact HS2
          iintro ⟨H0, H1, H2, H3, H4, H5, H6, H7, ⟨%e8, H8⟩, H9, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _ _)
          iexact H9
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`: -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.AttnKernel.lean ====
/- The machine-word program is the idealized one's text, so its frame is the same run. -/
module

public import proofs.«01_k».proof.Defs
public import proofs.«01_k».proof.Proof.Gen.Kernel
public import proofs.«01_k».proof.Proof.AttnFrame
@[expose] public section
noncomputable section
namespace Cert.Proof
open Idealize.ShloMosaic Idealize.SL.Sem
attribute [local instance] Cert.Kernel.Gen.facts Cert.KernelIdeal.Gen.facts
set_option maxRecDepth 100000
set_option maxHeartbeats 20000000
/-- The two programs have the same kernel body. -/
theorem body_eq : Cert.Kernel.cc0_attn_bwd0 (F := Bits) = Cert.KernelIdeal.cc0_attn_bwd0 (F := Bits) := rfl
/-- The two programs have the same loop bodies. -/
theorem labels_eq : Cert.Kernel.defs₀ (F := Bits) = Cert.KernelIdeal.defs₀ (F := Bits) := by
  refine congrArg Defs.onTc (funext fun l => funext fun a => ?_)
  match l, a with
  | 0, (t, s) =>
    dsimp only
    rw [body_eq]
    rfl
/-- … and the same host program. -/
theorem main_eq : Cert.Kernel.main (F := Bits) = Cert.KernelIdeal.main (F := Bits) := rfl
/-- … and the same labels. -/
theorem defs_eq : Cert.Kernel.defs (F := Bits) = Cert.KernelIdeal.defs (F := Bits) := congrArg (Pipeline.defs Cert.KernelIdeal.pcfgs) labels_eq
/-- The frame of the program at machine words. -/
theorem kernel_frame : Cert.quiescent_Kernel := fun m ρ _ => by
  rw [defs_eq, main_eq]
  exact Cert.KernelIdeal.Hand.frame (F := Bits) m ρ
end Cert.Proof
end
-- ==== Proof.AttnBody.lean ====
/- The arithmetic of one grid point of the attention gradient, written once for all the heads: the values the body stores
   are these functions of the blocks it loads, and over the ideal values each is a plain sum. -/
module

public import proofs.«01_k».proof.Proof.Gen.KernelIdeal.Skeleton
public import Idealize.ShloMosaic.Lib.Pipeline.Value
public import Idealize.ShloMosaic.Lib.ValueIdx
public import Idealize.ShloMosaic.Lib.ValueIdxCoords
public import Idealize.ShloMosaic.Lib.Pointwise
public import Idealize.ShloMosaic.Lib.Pointwise.IndexBridge
public import Idealize.ShloMosaic.Lib.WholeRead

@[expose] public section

noncomputable section

namespace Cert.KernelIdeal.Hand

open Idealize.ShloMosaic Cert.KernelIdeal.Gen

variable {F : FTy → Type} [FloatOps F]

/-- A place in a two-axis block, from its row and column. -/
abbrev p2 {n0 n1 : Nat} (a : Fin n0) (b : Fin n1) : (⟨2, ![n0, n1]⟩ : Shape).Idx := ValueIdx.ix2 a b
theorem p2_eq {n0 n1 : Nat} (a : Fin n0) (b : Fin n1) : p2 a b = ix2 a b := (ix2_eq_valueIdx a b).symm

/-! ## The stored values as functions of the loaded pieces -/

/-- Query head `g` of group `m`. -/
abbrev hd (m g : Fin 4) : Fin 16 := ⟨4 * m.val + g.val, by omega⟩

theorem inb_q (h : Fin 16) : ∀ a, (![0, 64 * h.val] : Fin 2 → ℕ) a + S128x64.size a ≤ S128x1024.size a := fun a => by
  have := h.isLt
  match a with
  | 0 => show 0 + 128 ≤ 128; omega
  | 1 => show 64 * h.val + 64 ≤ 1024; omega
theorem inb_kv (m : Fin 4) : ∀ a, (![0, 64 * m.val] : Fin 2 → ℕ) a + S128x64.size a ≤ S128x256.size a := fun a => by
  have := m.isLt
  match a with
  | 0 => show 0 + 128 ≤ 128; omega
  | 1 => show 64 * m.val + 64 ≤ 256; omega
theorem inb_p (j : Fin 32) : ∀ a, (![0, 128 * j.val] : Fin 2 → ℕ) a + S128x128.size a ≤ S128x4096.size a := fun a => by
  have := j.isLt
  match a with
  | 0 => show 0 + 128 ≤ 128; omega
  | 1 => show 128 * j.val + 128 ≤ 4096; omega

/-- Head `h`'s columns of a block of all the heads. -/
def ldQ (M : Memref sig .tc .vmem S128x1024 .bf16) (hM : M.IsWhole) (x : Vec F S128x1024 .bf16) (h : Fin 16) : Vec F S128x64 .bf16 :=
  View.readAt (Elt F) M.view (Rect.unit (s := S128x1024) ![0, 64 * h.val] S128x64.size (inb_q h)).toLoadRect (hM.unread x)
/-- Group `m`'s columns of a block of keys or values. -/
def ldKV (M : Memref sig .tc .vmem S128x256 .bf16) (hM : M.IsWhole) (x : Vec F S128x256 .bf16) (m : Fin 4) : Vec F S128x64 .bf16 :=
  View.readAt (Elt F) M.view (Rect.unit (s := S128x256) ![0, 64 * m.val] S128x64.size (inb_kv m)).toLoadRect (hM.unread x)
/-- The `j`-th square of a block of probabilities: two for each head, the keys before and the block's own. -/
def ldP (M : Memref sig .tc .vmem S128x4096 .bf16) (hM : M.IsWhole) (x : Vec F S128x4096 .bf16) (j : Fin 32) : Vec F S128x128 .bf16 :=
  View.readAt (Elt F) M.view (Rect.unit (s := S128x4096) ![0, 128 * j.val] S128x128.size (inb_p j)).toLoadRect (hM.unread x)

theorem slices_key (g : Fin 4) : S512x128.Slices ![128 * g.val, 0] S128x128 := match g with
  | 0 => slices_S512x128_o0_0_S128x128
  | 1 => slices_S512x128_o128_0_S128x128
  | 2 => slices_S512x128_o256_0_S128x128
  | 3 => slices_S512x128_o384_0_S128x128
theorem slices_col (g : Fin 4) : S512x64.Slices ![128 * g.val, 0] S128x64 := match g with
  | 0 => slices_S512x64_o0_0_S128x64
  | 1 => slices_S512x64_o128_0_S128x64
  | 2 => slices_S512x64_o256_0_S128x64
  | 3 => slices_S512x64_o384_0_S128x64

/-- Four heads' rows, one head below another. -/
def rows4 (X : Fin 4 → Vec F S128x64 .bf16) : FVec F S512x64 .bf16 :=
  concatenate S512x64 0 [⟨S128x64, X 0⟩, ⟨S128x64, X 1⟩, ⟨S128x64, X 2⟩, ⟨S128x64, X 3⟩] concatenates_S128x64_S128x64_S128x64_S128x64_S512x64_d0
/-- Four heads' squares, one head below another. -/
def keys4 (X : Fin 4 → FVec F S128x128 .bf16) : FVec F S512x128 .bf16 :=
  concatenate S512x128 0 [⟨S128x128, X 0⟩, ⟨S128x128, X 1⟩, ⟨S128x128, X 2⟩, ⟨S128x128, X 3⟩] concatenates_S128x128_S128x128_S128x128_S128x128_S512x128_d0
/-- A square of probabilities as loaded. -/
def sq (P : Vec F S128x128 .bf16) : FVec F S128x128 .bf16 := shapeCast S128x128 P shapeCasts_S128x128_S128x128
/-- The gradient of the probabilities, of head `g`: the heads' output gradients against the values. -/
def dprob (v : Vec F S128x64 .bf16) (D : Fin 4 → Vec F S128x64 .bf16) (g : Fin 4) : FVec F S128x128 .f32 :=
  extractStridedSlice S128x128 ![128 * g.val, 0]
    (matmul dot_S512x64_S128x64_S512x128_1_1_0_0_n_n none (rows4 D) v (constant S512x128 .f32 0x00000000#32)) (slices_key g)
/-- A square's row sums, as a column. -/
def rowSum (x : FVec F S128x128 .f32) : FVec F S128x1 .f32 :=
  shapeCast S128x1 (multiReduction .add [1] S128 x 0x00000000#32 reduces_S128x128_S128 (.inl rfl) rfl) shapeCasts_S128_S128x1
/-- A square's column sums, as a row. -/
def colSum (x : FVec F S128x128 .f32) : FVec F S1x128 .f32 :=
  shapeCast S1x128 (multiReduction .add [0] S128 x 0x00000000#32 reduces_S128x128_S128_2 (.inl rfl) rfl) shapeCasts_S128_S1x128

section Group
variable (kp kc vp vc : Vec F S128x64 .bf16) (Q D : Fin 4 → Vec F S128x64 .bf16) (PP PC : Fin 4 → Vec F S128x128 .bf16)

/-- Each query's sum of probability times its gradient, of head `g`. -/
def deltaG (g : Fin 4) : FVec F S128x1 .f32 :=
  addf (rowSum (mulf (extf .f32 (sq (PP g)) bitsLt_bf16_f32) (dprob vp D g))) (rowSum (mulf (extf .f32 (sq (PC g)) bitsLt_bf16_f32) (dprob vc D g)))
/-- The gradient of the scores from the probabilities `P` and their gradient against `v`, less each row's sum. -/
def dscore (v : Vec F S128x64 .bf16) (P : Fin 4 → Vec F S128x128 .bf16) (g : Fin 4) : FVec F S128x128 .bf16 :=
  truncf .bf16 (mulf (extf .f32 (sq (P g)) bitsLt_bf16_f32)
    (subf (dprob v D g) (broadcastTo S128x128 (deltaG vp vc D PP PC g) broadcasts_S128x1_S128x128))) bitsLt_bf16_f32
/-- The gradient of the queries of head `g`. -/
def dquery (g : Fin 4) : FVec F S128x64 .f32 :=
  shapeCast S128x64 (extractStridedSlice S128x64 ![128 * g.val, 0]
    (mulf (addf
      (matmul dot_S512x128_S128x64_S512x64_1_0_0_1_n_n none (keys4 (dscore vp vc D PP PC vp PP)) kp (constant S512x64 .f32 0x00000000#32))
      (matmul dot_S512x128_S128x64_S512x64_1_0_0_1_n_n none (keys4 (dscore vp vc D PP PC vc PC)) kc (constant S512x64 .f32 0x00000000#32)))
      (broadcast S512x64 (Scalar.ofBits .f32 0x3E000000#32))) (slices_col g)) shapeCasts_S128x64_S128x64
/-- The gradient of the keys that the squares `P` multiply. -/
def dkey (v : Vec F S128x64 .bf16) (P : Fin 4 → Vec F S128x128 .bf16) : FVec F S128x64 .f32 :=
  shapeCast S128x64 (mulf
    (matmul dot_S512x128_S512x64_S128x64_0_0_1_1_n_n none (keys4 (dscore vp vc D PP PC v P)) (rows4 Q) (constant S128x64 .f32 0x00000000#32))
    (broadcast S128x64 (Scalar.ofBits .f32 0x3E000000#32))) shapeCasts_S128x64_S128x64
/-- The gradient of the values that the squares `P` multiply. -/
def dvalue (P : Fin 4 → Vec F S128x128 .bf16) : FVec F S128x64 .f32 :=
  shapeCast S128x64 (matmul dot_S512x128_S512x64_S128x64_0_0_1_1_n_n none (keys4 fun g => sq (P g)) (rows4 D)
    (constant S128x64 .f32 0x00000000#32)) shapeCasts_S128x64_S128x64
/-- The row of sink gradients, after one more head. -/
def sinkStep (lane : IVec S128x128 32) (ps : FVec F S128x128 .f32) (acc : FVec F S1x128 .f32) (h : BitVec 32) (g : Fin 4) : FVec F S1x128 .f32 :=
  subf acc (colSum (mulf (select (cmpi .eq lane (broadcast S128x128 h)) ps (broadcast S128x128 (Scalar.ofBits .f32 0x00000000#32)))
    (broadcastTo S128x128 (deltaG vp vc D PP PC g) broadcasts_S128x1_S128x128)))
end Group

/-! ## The loaded pieces at an element -/

theorem ldQ_apply (M : Memref sig .tc .vmem S128x1024 .bf16) (hM : M.IsWhole) (x : Vec F S128x1024 .bf16) (h : Fin 16) (r : Fin 128) (d : Fin 64) :
    ldQ M hM x h (p2 r d) = x (p2 r ⟨64 * h.val + d.val, by omega⟩) := by
  unfold ldQ
  refine (hM.readAt_unread x _ _).trans (congrArg x (funext fun a => Fin.ext ?_))
  match a with
  | ⟨0, _⟩ => exact (by show 0 + 1 * r.val = r.val; omega)
  | ⟨1, _⟩ => exact (by show 64 * h.val + 1 * d.val = 64 * h.val + d.val; omega)
theorem ldKV_apply (M : Memref sig .tc .vmem S128x256 .bf16) (hM : M.IsWhole) (x : Vec F S128x256 .bf16) (m : Fin 4) (r : Fin 128) (d : Fin 64) :
    ldKV M hM x m (p2 r d) = x (p2 r ⟨64 * m.val + d.val, by omega⟩) := by
  unfold ldKV
  refine (hM.readAt_unread x _ _).trans (congrArg x (funext fun a => Fin.ext ?_))
  match a with
  | ⟨0, _⟩ => exact (by show 0 + 1 * r.val = r.val; omega)
  | ⟨1, _⟩ => exact (by show 64 * m.val + 1 * d.val = 64 * m.val + d.val; omega)
theorem ldP_apply (M : Memref sig .tc .vmem S128x4096 .bf16) (hM : M.IsWhole) (x : Vec F S128x4096 .bf16) (j : Fin 32) (r k : Fin 128) :
    ldP M hM x j (p2 r k) = x (p2 r ⟨128 * j.val + k.val, by omega⟩) := by
  unfold ldP
  refine (hM.readAt_unread x _ _).trans (congrArg x (funext fun a => Fin.ext ?_))
  match a with
  | ⟨0, _⟩ => exact (by show 0 + 1 * r.val = r.val; omega)
  | ⟨1, _⟩ => exact (by show 128 * j.val + 1 * k.val = 128 * j.val + k.val; omega)

/-! ## The stored values at an element, over the ideal values -/

/-- Row `r` of head `g` among the four heads' rows. -/
abbrev rw4 (g : Fin 4) (r : Fin 128) : Fin 512 := ⟨128 * g.val + r.val, by omega⟩

theorem rows4_apply (X : Fin 4 → Vec F S128x64 .bf16) (g : Fin 4) (r : Fin 128) (d : Fin 64) : rows4 X (p2 (rw4 g r) d) = X g (p2 r d) := by
  unfold rows4
  match g with
  | 0 => exact concatenate_apply_piece 0 [⟨S128x64, X 0⟩, ⟨S128x64, X 1⟩, ⟨S128x64, X 2⟩, ⟨S128x64, X 3⟩] _ (p2 (rw4 0 r) d) 0 (by simp) S128x64 (X 0) rfl rfl 0 rfl (p2 r d) (fun b hb => by match b with | ⟨0, _⟩ => exact absurd rfl hb | ⟨1, _⟩ => rfl) (by show 0 + r.val = 128 * 0 + r.val; omega)
  | 1 => exact concatenate_apply_piece 0 [⟨S128x64, X 0⟩, ⟨S128x64, X 1⟩, ⟨S128x64, X 2⟩, ⟨S128x64, X 3⟩] _ (p2 (rw4 1 r) d) 1 (by simp) S128x64 (X 1) rfl rfl 128 rfl (p2 r d) (fun b hb => by match b with | ⟨0, _⟩ => exact absurd rfl hb | ⟨1, _⟩ => rfl) (by show 128 + r.val = 128 * 1 + r.val; omega)
  | 2 => exact concatenate_apply_piece 0 [⟨S128x64, X 0⟩, ⟨S128x64, X 1⟩, ⟨S128x64, X 2⟩, ⟨S128x64, X 3⟩] _ (p2 (rw4 2 r) d) 2 (by simp) S128x64 (X 2) rfl rfl 256 rfl (p2 r d) (fun b hb => by match b with | ⟨0, _⟩ => exact absurd rfl hb | ⟨1, _⟩ => rfl) (by show 256 + r.val = 128 * 2 + r.val; omega)
  | 3 => exact concatenate_apply_piece 0 [⟨S128x64, X 0⟩, ⟨S128x64, X 1⟩, ⟨S128x64, X 2⟩, ⟨S128x64, X 3⟩] _ (p2 (rw4 3 r) d) 3 (by simp) S128x64 (X 3) rfl rfl 384 rfl (p2 r d) (fun b hb => by match b with | ⟨0, _⟩ => exact absurd rfl hb | ⟨1, _⟩ => rfl) (by show 384 + r.val = 128 * 3 + r.val; omega)
theorem keys4_apply (X : Fin 4 → FVec F S128x128 .bf16) (g : Fin 4) (r d : Fin 128) : keys4 X (p2 (rw4 g r) d) = X g (p2 r d) := by
  unfold keys4
  match g with
  | 0 => exact concatenate_apply_piece 0 [⟨S128x128, X 0⟩, ⟨S128x128, X 1⟩, ⟨S128x128, X 2⟩, ⟨S128x128, X 3⟩] _ (p2 (rw4 0 r) d) 0 (by simp) S128x128 (X 0) rfl rfl 0 rfl (p2 r d) (fun b hb => by match b with | ⟨0, _⟩ => exact absurd rfl hb | ⟨1, _⟩ => rfl) (by show 0 + r.val = 128 * 0 + r.val; omega)
  | 1 => exact concatenate_apply_piece 0 [⟨S128x128, X 0⟩, ⟨S128x128, X 1⟩, ⟨S128x128, X 2⟩, ⟨S128x128, X 3⟩] _ (p2 (rw4 1 r) d) 1 (by simp) S128x128 (X 1) rfl rfl 128 rfl (p2 r d) (fun b hb => by match b with | ⟨0, _⟩ => exact absurd rfl hb | ⟨1, _⟩ => rfl) (by show 128 + r.val = 128 * 1 + r.val; omega)
  | 2 => exact concatenate_apply_piece 0 [⟨S128x128, X 0⟩, ⟨S128x128, X 1⟩, ⟨S128x128, X 2⟩, ⟨S128x128, X 3⟩] _ (p2 (rw4 2 r) d) 2 (by simp) S128x128 (X 2) rfl rfl 256 rfl (p2 r d) (fun b hb => by match b with | ⟨0, _⟩ => exact absurd rfl hb | ⟨1, _⟩ => rfl) (by show 256 + r.val = 128 * 2 + r.val; omega)
  | 3 => exact concatenate_apply_piece 0 [⟨S128x128, X 0⟩, ⟨S128x128, X 1⟩, ⟨S128x128, X 2⟩, ⟨S128x128, X 3⟩] _ (p2 (rw4 3 r) d) 3 (by simp) S128x128 (X 3) rfl rfl 384 rfl (p2 r d) (fun b hb => by match b with | ⟨0, _⟩ => exact absurd rfl hb | ⟨1, _⟩ => rfl) (by show 384 + r.val = 128 * 3 + r.val; omega)

/-- A sum over the four heads' rows is the sum over the heads of the sums over a head's rows. -/
theorem sum_rw4 {M : Type} [AddCommMonoid M] (f : Fin 512 → M) : ∑ κ, f κ = ∑ g : Fin 4, ∑ r : Fin 128, f (rw4 g r) := by
  rw [← Equiv.sum_comp (finProdFinEquiv (m := 4) (n := 128)) f, Fintype.sum_prod_type]
  refine Finset.sum_congr rfl fun g _ => Finset.sum_congr rfl fun r _ => congrArg f (Fin.ext ?_)
  show r.val + 128 * g.val = 128 * g.val + r.val
  omega

theorem mm_nt (A : FVec Ideal S512x64 .bf16) (B : FVec Ideal S128x64 .bf16) (κ : Fin 512) (j : Fin 128) :
    matmul dot_S512x64_S128x64_S512x128_1_1_0_0_n_n none A B (constant S512x128 .f32 0x00000000#32) (p2 κ j) = ∑ d : Fin 64, A (p2 κ d) * B (p2 j d) := by
  simp only [p2_eq]; pointwise
theorem mm_nn (A : FVec Ideal S512x128 .bf16) (B : FVec Ideal S128x64 .bf16) (κ : Fin 512) (j : Fin 64) :
    matmul dot_S512x128_S128x64_S512x64_1_0_0_1_n_n none A B (constant S512x64 .f32 0x00000000#32) (p2 κ j) = ∑ k : Fin 128, A (p2 κ k) * B (p2 k j) := by
  simp only [p2_eq]; pointwise
theorem mm_tn (A : FVec Ideal S512x128 .bf16) (B : FVec Ideal S512x64 .bf16) (k : Fin 128) (j : Fin 64) :
    matmul dot_S512x128_S512x64_S128x64_0_0_1_1_n_n none A B (constant S128x64 .f32 0x00000000#32) (p2 k j) = ∑ κ : Fin 512, A (p2 κ k) * B (p2 κ j) := by
  simp only [p2_eq]; pointwise
theorem rowSum_apply (x : FVec Ideal S128x128 .f32) (r : Fin 128) : rowSum x (p2 r 0) = ∑ j : Fin 128, x (p2 r j) := by
  unfold rowSum; simp only [p2_eq]; pointwise
theorem colSum_apply (x : FVec Ideal S128x128 .f32) (l : Fin 128) : colSum x (p2 0 l) = ∑ r : Fin 128, x (p2 r l) := by
  unfold colSum; simp only [p2_eq]; pointwise

/-- The scale of the scores. -/
def c8 : EReal := Ideal.ofBits .f32 0x3E000000#32

theorem sq_eq (P : Vec F S128x128 .bf16) : sq P = P := shapeCast_self _ _

theorem dprob_apply (v : Vec Ideal S128x64 .bf16) (D : Fin 4 → Vec Ideal S128x64 .bf16) (g : Fin 4) (r j : Fin 128) :
    dprob v D g (p2 r j) = ∑ d : Fin 64, D g (p2 r d) * v (p2 j d) := by
  unfold dprob
  rw [extractStridedSlice_apply ![128 * g.val, 0] _ (slices_key g) (p2 r j) (p2 (rw4 g r) j) (fun a => by
    match a with
    | ⟨0, _⟩ => rfl
    | ⟨1, _⟩ => exact (Nat.zero_add _).symm), mm_nt]
  simp only [rows4_apply]

section Group
variable (kp kc vp vc : Vec Ideal S128x64 .bf16) (Q D : Fin 4 → Vec Ideal S128x64 .bf16) (PP PC : Fin 4 → Vec Ideal S128x128 .bf16)

theorem deltaG_apply (g : Fin 4) (r : Fin 128) : deltaG vp vc D PP PC g (p2 r 0)
    = (∑ j : Fin 128, PP g (p2 r j) * dprob vp D g (p2 r j)) + ∑ j : Fin 128, PC g (p2 r j) * dprob vc D g (p2 r j) := by
  unfold deltaG
  rw [sq_eq, sq_eq]
  show rowSum _ (p2 r 0) + rowSum _ (p2 r 0) = _
  rw [rowSum_apply, rowSum_apply]
  rfl

theorem bcol_apply (x : FVec Ideal S128x1 .f32) (r j : Fin 128) : broadcastTo S128x128 x broadcasts_S128x1_S128x128 (p2 r j) = x (p2 r 0) :=
  broadcastTo_apply x broadcasts_S128x1_S128x128 (p2 r j) (p2 r 0) (fun a => by
    match a with
    | ⟨0, _⟩ => rfl
    | ⟨1, _⟩ => rfl)

theorem dscore_apply (v : Vec Ideal S128x64 .bf16) (P : Fin 4 → Vec Ideal S128x128 .bf16) (g : Fin 4) (r j : Fin 128) :
    dscore vp vc D PP PC v P g (p2 r j) = P g (p2 r j) * (dprob v D g (p2 r j) - deltaG vp vc D PP PC g (p2 r 0)) := by
  unfold dscore
  rw [sq_eq]
  show P g (p2 r j) * (dprob v D g (p2 r j) - broadcastTo S128x128 _ _ (p2 r j)) = _
  rw [bcol_apply]

theorem dquery_apply (g : Fin 4) (r : Fin 128) (d : Fin 64) : dquery kp kc vp vc D PP PC g (p2 r d)
    = ((∑ j : Fin 128, dscore vp vc D PP PC vp PP g (p2 r j) * kp (p2 j d))
      + ∑ j : Fin 128, dscore vp vc D PP PC vc PC g (p2 r j) * kc (p2 j d)) * c8 := by
  unfold dquery
  rw [shapeCast_self, extractStridedSlice_apply ![128 * g.val, 0] _ (slices_col g) (p2 r d) (p2 (rw4 g r) d) (fun a => by
    match a with
    | ⟨0, _⟩ => rfl
    | ⟨1, _⟩ => exact (Nat.zero_add _).symm)]
  show (matmul (F := Ideal) dot_S512x128_S128x64_S512x64_1_0_0_1_n_n none (keys4 _) kp _ (p2 (rw4 g r) d) + matmul (F := Ideal) dot_S512x128_S128x64_S512x64_1_0_0_1_n_n none (keys4 _) kc _ (p2 (rw4 g r) d)) * c8 = _
  rw [mm_nn, mm_nn]
  simp only [keys4_apply]

theorem dkey_apply (v : Vec Ideal S128x64 .bf16) (P : Fin 4 → Vec Ideal S128x128 .bf16) (j : Fin 128) (d : Fin 64) :
    dkey vp vc Q D PP PC v P (p2 j d)
      = (∑ g : Fin 4, ∑ r : Fin 128, dscore vp vc D PP PC v P g (p2 r j) * Q g (p2 r d)) * c8 := by
  unfold dkey
  rw [shapeCast_self]
  show matmul _ none _ (rows4 Q) _ (p2 j d) * c8 = _
  rw [mm_tn, sum_rw4]
  simp only [keys4_apply, rows4_apply]

theorem dvalue_apply (P : Fin 4 → Vec Ideal S128x128 .bf16) (j : Fin 128) (d : Fin 64) :
    dvalue D P (p2 j d) = ∑ g : Fin 4, ∑ r : Fin 128, P g (p2 r j) * D g (p2 r d) := by
  unfold dvalue
  rw [shapeCast_self, mm_tn, sum_rw4]
  simp only [keys4_apply, rows4_apply, sq_eq]

theorem sinkStep_apply (lane : IVec S128x128 32) (hl : ∀ r l : Fin 128, lane (p2 r l) = BitVec.ofNat 32 l.val)
    (ps : FVec Ideal S128x128 .f32) (acc : FVec Ideal S1x128 .f32) (h : Fin 16) (g : Fin 4) (l : Fin 128) :
    sinkStep vp vc D PP PC lane ps acc (BitVec.ofNat 32 h.val) g (p2 0 l)
      = acc (p2 0 l) - ∑ r : Fin 128, (if l.val = h.val then ps (p2 r l) else 0) * deltaG vp vc D PP PC g (p2 r 0) := by
  unfold sinkStep
  show acc (p2 0 l) - colSum _ (p2 0 l) = _
  rw [colSum_apply]
  refine congrArg (acc (p2 0 l) - ·) (Finset.sum_congr rfl fun r _ => ?_)
  show Scalar.select (Scalar.cmpi .eq (lane (p2 r l)) (BitVec.ofNat 32 h.val)) (ps (p2 r l)) (Ideal.ofBits .f32 0x00000000#32)
    * broadcastTo S128x128 _ _ (p2 r l) = _
  rw [bcol_apply, hl, Ideal.ofBits_zero_f32]
  congr 1
  have hlt := l.isLt
  have hh := h.isLt
  by_cases e : l.val = h.val
  · rw [if_pos e, e]
    simp [Scalar.select, Scalar.cmpi, IntOp.cmpi]
  · rw [if_neg e]
    have : BitVec.ofNat 32 l.val ≠ BitVec.ofNat 32 h.val := fun he => e (by
      have := congrArg BitVec.toNat he
      simp only [BitVec.toNat_ofNat] at this
      omega)
    have hb : (BitVec.ofNat 32 l.val == BitVec.ofNat 32 h.val) = false := beq_false_of_ne this
    simp [Scalar.select, Scalar.cmpi, IntOp.cmpi, hb]
end Group

end Cert.KernelIdeal.Hand

end
-- ==== Proof.AttnPieces.lean ====
/- What the body leaves in its accumulators at one grid point, as one function of the column: the pieces it stores, head by
   head, are read back as the gradients of the block's own rows and of the rows before. -/
module

public import proofs.«01_k».proof.Proof.AttnBody

@[expose] public section

noncomputable section

namespace Cert.KernelIdeal.Hand

open Idealize.ShloMosaic Cert.KernelIdeal.Gen

variable {F : FTy → Type} [FloatOps F]

section Point
variable (kp kc vp vc : Fin 4 → Vec F S128x64 .bf16) (Q D : Fin 16 → Vec F S128x64 .bf16) (P : Fin 32 → Vec F S128x128 .bf16)

/-- Group `m`'s four heads. -/
abbrev grp (X : Fin 16 → Vec F S128x64 .bf16) (m : Fin 4) : Fin 4 → Vec F S128x64 .bf16 := fun g => X (hd m g)
/-- Group `m`'s squares over the keys before. -/
abbrev sqP (m : Fin 4) : Fin 4 → Vec F S128x128 .bf16 := fun g => P ⟨2 * (hd m g).val, by have := (hd m g).isLt; omega⟩
/-- Group `m`'s squares over the block's own keys. -/
abbrev sqC (m : Fin 4) : Fin 4 → Vec F S128x128 .bf16 := fun g => P ⟨2 * (hd m g).val + 1, by have := (hd m g).isLt; omega⟩

/-- The gradients of the block's own rows: queries, keys, values. -/
def ownAt (y : S128x1536.Idx) : F .f32 :=
  if (y 1).val < 1024 then
    let m : Fin 4 := ⟨(y 1).val / 256 % 4, by omega⟩
    dquery (kp m) (kc m) (vp m) (vc m) (grp D m) (sqP P m) (sqC P m) ⟨(y 1).val / 64 % 4, by omega⟩
      (p2 (y 0) ⟨(y 1).val % 64, by omega⟩)
  else
    let m : Fin 4 := ⟨(y 1).val / 64 % 4, by omega⟩
    if (y 1).val < 1280 then
      dkey (vp m) (vc m) (grp Q m) (grp D m) (sqP P m) (sqC P m) (vc m) (sqC P m) (p2 (y 0) ⟨(y 1).val % 64, by omega⟩)
    else dvalue (grp D m) (sqC P m) (p2 (y 0) ⟨(y 1).val % 64, by omega⟩)

/-- What the block adds to the gradients of the rows before: keys, values. -/
def backAt (y : S128x512.Idx) : F .f32 :=
  let m : Fin 4 := ⟨(y 1).val / 64 % 4, by omega⟩
  if (y 1).val < 256 then
    dkey (vp m) (vc m) (grp Q m) (grp D m) (sqP P m) (sqC P m) (vp m) (sqP P m) (p2 (y 0) ⟨(y 1).val % 64, by omega⟩)
  else dvalue (grp D m) (sqP P m) (p2 (y 0) ⟨(y 1).val % 64, by omega⟩)

theorem ownAt_query (m g : Fin 4) (x : S128x64.Idx) (y : S128x1536.Idx) (h0 : y 0 = x 0)
    (h1 : (y 1).val = 256 * m.val + 64 * g.val + (x 1).val) :
    ownAt kp kc vp vc Q D P y = dquery (kp m) (kc m) (vp m) (vc m) (grp D m) (sqP P m) (sqC P m) g x := by
  have hx : (x 1).val < 64 := (x 1).isLt
  have := m.isLt; have := g.isLt
  have e1 : (⟨(y 1).val / 256 % 4, by omega⟩ : Fin 4) = m := Fin.ext (by show _ = _; simp only; omega)
  have e2 : (⟨(y 1).val / 64 % 4, by omega⟩ : Fin 4) = g := Fin.ext (by simp only; omega)
  have e3 : p2 (y 0) ⟨(y 1).val % 64, by omega⟩ = x := funext fun a => by
    match a with
    | 0 => exact h0
    | 1 => exact Fin.ext (by show (y 1).val % 64 = _; omega)
  unfold ownAt
  rw [if_pos (by omega)]
  simp only [e1, e2]
  exact congrArg (dquery (kp m) (kc m) (vp m) (vc m) (grp D m) (sqP P m) (sqC P m) g) e3
theorem ownAt_key (m : Fin 4) (x : S128x64.Idx) (y : S128x1536.Idx) (h0 : y 0 = x 0)
    (h1 : (y 1).val = 1024 + 64 * m.val + (x 1).val) :
    ownAt kp kc vp vc Q D P y = dkey (vp m) (vc m) (grp Q m) (grp D m) (sqP P m) (sqC P m) (vc m) (sqC P m) x := by
  have hx : (x 1).val < 64 := (x 1).isLt
  have := m.isLt
  have e2 : (⟨(y 1).val / 64 % 4, by omega⟩ : Fin 4) = m := Fin.ext (by simp only; omega)
  have e3 : p2 (y 0) ⟨(y 1).val % 64, by omega⟩ = x := funext fun a => by
    match a with
    | 0 => exact h0
    | 1 => exact Fin.ext (by show (y 1).val % 64 = _; omega)
  unfold ownAt
  rw [if_neg (by omega)]
  simp only [e2]
  rw [if_pos (by omega)]
  exact congrArg (dkey (vp m) (vc m) (grp Q m) (grp D m) (sqP P m) (sqC P m) (vc m) (sqC P m)) e3
theorem ownAt_value (m : Fin 4) (x : S128x64.Idx) (y : S128x1536.Idx) (h0 : y 0 = x 0)
    (h1 : (y 1).val = 1280 + 64 * m.val + (x 1).val) :
    ownAt kp kc vp vc Q D P y = dvalue (grp D m) (sqC P m) x := by
  have hx : (x 1).val < 64 := (x 1).isLt
  have := m.isLt
  have e2 : (⟨(y 1).val / 64 % 4, by omega⟩ : Fin 4) = m := Fin.ext (by simp only; omega)
  have e3 : p2 (y 0) ⟨(y 1).val % 64, by omega⟩ = x := funext fun a => by
    match a with
    | 0 => exact h0
    | 1 => exact Fin.ext (by show (y 1).val % 64 = _; omega)
  unfold ownAt
  rw [if_neg (by omega)]
  simp only [e2]
  rw [if_neg (by omega)]
  exact congrArg (dvalue (grp D m) (sqC P m)) e3
theorem backAt_key (m : Fin 4) (x : S128x64.Idx) (y : S128x512.Idx) (h0 : y 0 = x 0)
    (h1 : (y 1).val = 64 * m.val + (x 1).val) :
    backAt vp vc Q D P y = dkey (vp m) (vc m) (grp Q m) (grp D m) (sqP P m) (sqC P m) (vp m) (sqP P m) x := by
  have hx : (x 1).val < 64 := (x 1).isLt
  have := m.isLt
  have e2 : (⟨(y 1).val / 64 % 4, by omega⟩ : Fin 4) = m := Fin.ext (by simp only; omega)
  have e3 : p2 (y 0) ⟨(y 1).val % 64, by omega⟩ = x := funext fun a => by
    match a with
    | 0 => exact h0
    | 1 => exact Fin.ext (by show (y 1).val % 64 = _; omega)
  unfold backAt
  simp only [e2]
  rw [if_pos (by omega)]
  exact congrArg (dkey (vp m) (vc m) (grp Q m) (grp D m) (sqP P m) (sqC P m) (vp m) (sqP P m)) e3
theorem backAt_value (m : Fin 4) (x : S128x64.Idx) (y : S128x512.Idx) (h0 : y 0 = x 0)
    (h1 : (y 1).val = 256 + 64 * m.val + (x 1).val) :
    backAt vp vc Q D P y = dvalue (grp D m) (sqP P m) x := by
  have hx : (x 1).val < 64 := (x 1).isLt
  have := m.isLt
  have e2 : (⟨(y 1).val / 64 % 4, by omega⟩ : Fin 4) = m := Fin.ext (by simp only; omega)
  have e3 : p2 (y 0) ⟨(y 1).val % 64, by omega⟩ = x := funext fun a => by
    match a with
    | 0 => exact h0
    | 1 => exact Fin.ext (by show (y 1).val % 64 = _; omega)
  unfold backAt
  simp only [e2]
  rw [if_neg (by omega)]
  exact congrArg (dvalue (grp D m) (sqP P m)) e3

/-- A stored piece of query gradients is the row function on its columns. -/
theorem own_query_piece (m g : Fin 4) {o : ℕ} (ho : o = 256 * m.val + 64 * g.val) {inb : ∀ a, (![0, o] : Fin 2 → ℕ) a + S128x64.size a ≤ S128x1536.size a}
    {w : S128x64.Idx → F .f32} (hw : w = dquery (kp m) (kc m) (vp m) (vc m) (grp D m) (sqP P m) (sqC P m) g) (x : S128x64.Idx) :
    w x = ownAt kp kc vp vc Q D P ((Rect.unit (s := S128x1536) ![0, o] S128x64.size inb).emb x) := by
  rw [hw, ownAt_query kp kc vp vc Q D P m g x]
  · exact Fin.ext (by show 0 + 1 * (x 0).val = _; omega)
  · show o + 1 * (x 1).val = _; omega
/-- The same for the keys. -/
theorem own_key_piece (m : Fin 4) {o : ℕ} (ho : o = 1024 + 64 * m.val) {inb : ∀ a, (![0, o] : Fin 2 → ℕ) a + S128x64.size a ≤ S128x1536.size a}
    {w : S128x64.Idx → F .f32} (hw : w = dkey (vp m) (vc m) (grp Q m) (grp D m) (sqP P m) (sqC P m) (vc m) (sqC P m)) (x : S128x64.Idx) :
    w x = ownAt kp kc vp vc Q D P ((Rect.unit (s := S128x1536) ![0, o] S128x64.size inb).emb x) := by
  rw [hw, ownAt_key kp kc vp vc Q D P m x]
  · exact Fin.ext (by show 0 + 1 * (x 0).val = _; omega)
  · show o + 1 * (x 1).val = _; omega
/-- The same for the values. -/
theorem own_value_piece (m : Fin 4) {o : ℕ} (ho : o = 1280 + 64 * m.val) {inb : ∀ a, (![0, o] : Fin 2 → ℕ) a + S128x64.size a ≤ S128x1536.size a}
    {w : S128x64.Idx → F .f32} (hw : w = dvalue (grp D m) (sqC P m)) (x : S128x64.Idx) :
    w x = ownAt kp kc vp vc Q D P ((Rect.unit (s := S128x1536) ![0, o] S128x64.size inb).emb x) := by
  rw [hw, ownAt_value kp kc vp vc Q D P m x]
  · exact Fin.ext (by show 0 + 1 * (x 0).val = _; omega)
  · show o + 1 * (x 1).val = _; omega
/-- A stored piece for the keys of the rows before. -/
theorem back_key_piece (m : Fin 4) {o : ℕ} (ho : o = 64 * m.val) {inb : ∀ a, (![0, o] : Fin 2 → ℕ) a + S128x64.size a ≤ S128x512.size a}
    {w : S128x64.Idx → F .f32} (hw : w = dkey (vp m) (vc m) (grp Q m) (grp D m) (sqP P m) (sqC P m) (vp m) (sqP P m)) (x : S128x64.Idx) :
    w x = backAt vp vc Q D P ((Rect.unit (s := S128x512) ![0, o] S128x64.size inb).emb x) := by
  rw [hw, backAt_key vp vc Q D P m x]
  · exact Fin.ext (by show 0 + 1 * (x 0).val = _; omega)
  · show o + 1 * (x 1).val = _; omega
/-- A stored piece for the values of the rows before. -/
theorem back_value_piece (m : Fin 4) {o : ℕ} (ho : o = 256 + 64 * m.val) {inb : ∀ a, (![0, o] : Fin 2 → ℕ) a + S128x64.size a ≤ S128x512.size a}
    {w : S128x64.Idx → F .f32} (hw : w = dvalue (grp D m) (sqP P m)) (x : S128x64.Idx) :
    w x = backAt vp vc Q D P ((Rect.unit (s := S128x512) ![0, o] S128x64.size inb).emb x) := by
  rw [hw, backAt_value vp vc Q D P m x]
  · exact Fin.ext (by show 0 + 1 * (x 0).val = _; omega)
  · show o + 1 * (x 1).val = _; omega

/-- The row of sink gradients after the first `n` heads, from the row before. -/
def sinkSum (lane : IVec S128x128 32) (ps : FVec F S128x128 .f32) (acc : FVec F S1x128 .f32) : ℕ → FVec F S1x128 .f32
  | 0 => acc
  | n + 1 => sinkStep (vp ⟨n / 4 % 4, by omega⟩) (vc ⟨n / 4 % 4, by omega⟩) (grp D ⟨n / 4 % 4, by omega⟩) (sqP P ⟨n / 4 % 4, by omega⟩) (sqC P ⟨n / 4 % 4, by omega⟩)
      lane ps (sinkSum lane ps acc n) (BitVec.ofNat 32 n) ⟨n % 4, by omega⟩
end Point

end Cert.KernelIdeal.Hand

end
-- ==== Proof.AttnPoint.lean ====
/- The pieces that the body stores at a point of the grid, read back: the accumulator of the block's own rows and the one of
   the rows before are the functions of the column in AttnPieces. -/
module

public import proofs.«01_k».proof.Proof.AttnPieces
public import proofs.«01_k».proof.Proof.AttnOuts
public import Idealize.ShloMosaic.Lib.VecWindow

@[expose] public section

set_option maxRecDepth 16384

noncomputable section

namespace Cert.KernelIdeal.Hand

open Idealize.ShloMosaic Idealize.ShloMosaic.Tactic Cert.KernelIdeal.Gen

variable {F : FTy → Type} [FloatOps F]

section Args
variable (c : Dev nD) (i : grid0.Coords) (arg1 : Memref sig .tc .vmem S128x1024 .bf16) (harg1 : arg1.IsWhole) (arg2 : Memref sig .tc .vmem S128x256 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x1024 .bf16) (harg6 : arg6.IsWhole)
  (arg7 : Memref sig .tc .vmem S128x4096 .bf16) (harg7 : arg7.IsWhole) (arg8 : Memref sig .tc .vmem S128x128 .f32) (harg8 : arg8.IsWhole)
  (arg9 : Memref sig .tc .vmem S128x1536 .bf16) (harg9 : arg9.IsWhole) (arg10 : Memref sig .tc .vmem S1x128 .f32) (harg10 : arg10.IsWhole)
  (arg11 : Memref sig .tc .vmem S128x1536 .f32) (harg11 : arg11.IsWhole) (arg12 : Memref sig .tc .vmem S128x1536 .f32) (harg12 : arg12.IsWhole)
  (arg13 : Memref sig .tc .vmem S128x512 .f32) (harg13 : arg13.IsWhole)
  (x0 : Vec F S128x1024 .bf16) (x1 : Vec F S128x256 .bf16) (x2 : Vec F S128x256 .bf16) (x3 : Vec F S128x256 .bf16) (x4 : Vec F S128x256 .bf16)
  (x5 : Vec F S128x1024 .bf16) (x6 : Vec F S128x4096 .bf16) (x7 : Vec F S128x128 .f32) (xo9 : Vec F S1x128 .f32) (xs0 : Vec F S128x1536 .f32)

/-- Every piece stored into the accumulator of the block's own rows is the row function on its columns. -/
theorem own_pieces : ∀ p ∈ kernelRun0_B.sl.HS1_24 c arg1 harg1 arg2 harg2 arg3 harg3 arg4 harg4 arg5 harg5 arg6 harg6 arg7 harg7 x0 x1 x2 x3 x4 x5 x6, ∀ x,
    p.2 x = ownAt (ldKV arg3 harg3 x2) (ldKV arg2 harg2 x1) (ldKV arg5 harg5 x4) (ldKV arg4 harg4 x3) (ldQ arg1 harg1 x0) (ldQ arg6 harg6 x5) (ldP arg7 harg7 x6) (p.1.emb x) := by
  unfold kernelRun0_B.sl.HS1_24
  exact (List.forall_mem_cons.2 ⟨own_value_piece _ _ _ _ _ _ _ 3 (o := 1472) rfl (inb := inb_S128x1536_S128x64_0_1472) rfl,
    (List.forall_mem_cons.2 ⟨own_key_piece _ _ _ _ _ _ _ 3 (o := 1216) rfl (inb := inb_S128x1536_S128x64_0_1216) rfl,
    (List.forall_mem_cons.2 ⟨own_query_piece _ _ _ _ _ _ _ 3 3 (o := 960) rfl (inb := inb_S128x1536_S128x64_0_960) rfl,
    (List.forall_mem_cons.2 ⟨own_query_piece _ _ _ _ _ _ _ 3 2 (o := 896) rfl (inb := inb_S128x1536_S128x64_0_896) rfl,
    (List.forall_mem_cons.2 ⟨own_query_piece _ _ _ _ _ _ _ 3 1 (o := 832) rfl (inb := inb_S128x1536_S128x64_0_832) rfl,
    (List.forall_mem_cons.2 ⟨own_query_piece _ _ _ _ _ _ _ 3 0 (o := 768) rfl (inb := inb_S128x1536_S128x64_0_768) rfl,
    (List.forall_mem_cons.2 ⟨own_value_piece _ _ _ _ _ _ _ 2 (o := 1408) rfl (inb := inb_S128x1536_S128x64_0_1408) rfl,
    (List.forall_mem_cons.2 ⟨own_key_piece _ _ _ _ _ _ _ 2 (o := 1152) rfl (inb := inb_S128x1536_S128x64_0_1152) rfl,
    (List.forall_mem_cons.2 ⟨own_query_piece _ _ _ _ _ _ _ 2 3 (o := 704) rfl (inb := inb_S128x1536_S128x64_0_704) rfl,
    (List.forall_mem_cons.2 ⟨own_query_piece _ _ _ _ _ _ _ 2 2 (o := 640) rfl (inb := inb_S128x1536_S128x64_0_640) rfl,
    (List.forall_mem_cons.2 ⟨own_query_piece _ _ _ _ _ _ _ 2 1 (o := 576) rfl (inb := inb_S128x1536_S128x64_0_576) rfl,
    (List.forall_mem_cons.2 ⟨own_query_piece _ _ _ _ _ _ _ 2 0 (o := 512) rfl (inb := inb_S128x1536_S128x64_0_512) rfl,
    (List.forall_mem_cons.2 ⟨own_value_piece _ _ _ _ _ _ _ 1 (o := 1344) rfl (inb := inb_S128x1536_S128x64_0_1344) rfl,
    (List.forall_mem_cons.2 ⟨own_key_piece _ _ _ _ _ _ _ 1 (o := 1088) rfl (inb := inb_S128x1536_S128x64_0_1088) rfl,
    (List.forall_mem_cons.2 ⟨own_query_piece _ _ _ _ _ _ _ 1 3 (o := 448) rfl (inb := inb_S128x1536_S128x64_0_448) rfl,
    (List.forall_mem_cons.2 ⟨own_query_piece _ _ _ _ _ _ _ 1 2 (o := 384) rfl (inb := inb_S128x1536_S128x64_0_384) rfl,
    (List.forall_mem_cons.2 ⟨own_query_piece _ _ _ _ _ _ _ 1 1 (o := 320) rfl (inb := inb_S128x1536_S128x64_0_320) rfl,
    (List.forall_mem_cons.2 ⟨own_query_piece _ _ _ _ _ _ _ 1 0 (o := 256) rfl (inb := inb_S128x1536_S128x64_0_256) rfl,
    (List.forall_mem_cons.2 ⟨own_value_piece _ _ _ _ _ _ _ 0 (o := 1280) rfl (inb := inb_S128x1536_S128x64_0_1280) rfl,
    (List.forall_mem_cons.2 ⟨own_key_piece _ _ _ _ _ _ _ 0 (o := 1024) rfl (inb := inb_S128x1536_S128x64_0_1024) rfl,
    (List.forall_mem_cons.2 ⟨own_query_piece _ _ _ _ _ _ _ 0 3 (o := 192) rfl (inb := inb_S128x1536_S128x64_0_192) rfl,
    (List.forall_mem_cons.2 ⟨own_query_piece _ _ _ _ _ _ _ 0 2 (o := 128) rfl (inb := inb_S128x1536_S128x64_0_128) rfl,
    (List.forall_mem_cons.2 ⟨own_query_piece _ _ _ _ _ _ _ 0 1 (o := 64) rfl (inb := inb_S128x1536_S128x64_0_64) rfl,
    (List.forall_mem_cons.2 ⟨own_query_piece _ _ _ _ _ _ _ 0 0 (o := 0) rfl (inb := inb_S128x1536_S128x64_0_0) rfl,
    (List.forall_mem_nil _)⟩)⟩)⟩)⟩)⟩)⟩)⟩)⟩)⟩)⟩)⟩)⟩)⟩)⟩)⟩)⟩)⟩)⟩)⟩)⟩)⟩)⟩)⟩)⟩)
/-- Every piece stored into the accumulator of the rows before is the row function on its columns. -/
theorem back_pieces : ∀ p ∈ kernelRun0_B.sl.HS2_8 c arg1 harg1 arg4 harg4 arg5 harg5 arg6 harg6 arg7 harg7 x0 x3 x4 x5 x6, ∀ x,
    p.2 x = backAt (ldKV arg5 harg5 x4) (ldKV arg4 harg4 x3) (ldQ arg1 harg1 x0) (ldQ arg6 harg6 x5) (ldP arg7 harg7 x6) (p.1.emb x) := by
  unfold kernelRun0_B.sl.HS2_8
  exact (List.forall_mem_cons.2 ⟨back_value_piece _ _ _ _ _ 3 (o := 448) rfl (inb := inb_S128x512_S128x64_0_448) rfl,
    (List.forall_mem_cons.2 ⟨back_key_piece _ _ _ _ _ 3 (o := 192) rfl (inb := inb_S128x512_S128x64_0_192) rfl,
    (List.forall_mem_cons.2 ⟨back_value_piece _ _ _ _ _ 2 (o := 384) rfl (inb := inb_S128x512_S128x64_0_384) rfl,
    (List.forall_mem_cons.2 ⟨back_key_piece _ _ _ _ _ 2 (o := 128) rfl (inb := inb_S128x512_S128x64_0_128) rfl,
    (List.forall_mem_cons.2 ⟨back_value_piece _ _ _ _ _ 1 (o := 320) rfl (inb := inb_S128x512_S128x64_0_320) rfl,
    (List.forall_mem_cons.2 ⟨back_key_piece _ _ _ _ _ 1 (o := 64) rfl (inb := inb_S128x512_S128x64_0_64) rfl,
    (List.forall_mem_cons.2 ⟨back_value_piece _ _ _ _ _ 0 (o := 256) rfl (inb := inb_S128x512_S128x64_0_256) rfl,
    (List.forall_mem_cons.2 ⟨back_key_piece _ _ _ _ _ 0 (o := 0) rfl (inb := inb_S128x512_S128x64_0_0) rfl,
    (List.forall_mem_nil _)⟩)⟩)⟩)⟩)⟩)⟩)⟩)⟩)
/-- The accumulator of the block's own rows, read back whole. -/
theorem own_read (y : S128x1536.Idx) : kernelRun0_B.sl.v781 c arg1 harg1 arg2 harg2 arg3 harg3 arg4 harg4 arg5 harg5 arg6 harg6 arg7 harg7 arg12 x0 x1 x2 x3 x4 x5 x6 y
    = ownAt (ldKV arg3 harg3 x2) (ldKV arg2 harg2 x1) (ldKV arg5 harg5 x4) (ldKV arg4 harg4 x3) (ldQ arg1 harg1 x0) (ldQ arg6 harg6 x5) (ldP arg7 harg7 x6) y := by
  unfold kernelRun0_B.sl.v781 View.readCov
  rw [View.readAt_apply]
  refine (View.read_writes_apply_of_pieces _ _ _ _ (own_pieces c arg1 harg1 arg2 harg2 arg3 harg3 arg4 harg4 arg5 harg5 arg6 harg6 arg7 harg7 x0 x1 x2 x3 x4 x5 x6) _ (View.cover_of_tiledL (kernelRun0_B.sl.HS1_24 c arg1 harg1 arg2 harg2 arg3 harg3 arg4 harg4 arg5 harg5 arg6 harg6 arg7 harg7 x0 x1 x2 x3 x4 x5 x6) S128x64.size (by sl_kernel_rfl) _)).trans ?_
  exact congrArg _ (Rect.emb_unit_full (s := S128x1536) inb_S128x1536_S128x1536_0_0 y)
/-- The accumulator of the rows before, read back whole. -/
theorem back_read (y : S128x512.Idx) : kernelRun0_B.sl.v777 c arg1 harg1 arg4 harg4 arg5 harg5 arg6 harg6 arg7 harg7 arg13 x0 x3 x4 x5 x6 y
    = backAt (ldKV arg5 harg5 x4) (ldKV arg4 harg4 x3) (ldQ arg1 harg1 x0) (ldQ arg6 harg6 x5) (ldP arg7 harg7 x6) y := by
  unfold kernelRun0_B.sl.v777 View.readCov
  rw [View.readAt_apply]
  refine (View.read_writes_apply_of_pieces _ _ _ _ (back_pieces c arg1 harg1 arg4 harg4 arg5 harg5 arg6 harg6 arg7 harg7 x0 x3 x4 x5 x6) _ (View.cover_of_tiledL (kernelRun0_B.sl.HS2_8 c arg1 harg1 arg4 harg4 arg5 harg5 arg6 harg6 arg7 harg7 x0 x3 x4 x5 x6) S128x64.size (by sl_kernel_rfl) _)).trans ?_
  exact congrArg _ (Rect.emb_unit_full (s := S128x512) inb_S128x512_S128x512_0_0 y)
end Args

/-- The carried rows `X` with `B` added to their keys and values. -/
def leaving (X : Vec Ideal S128x1536 .f32) (B : S128x512.Idx → EReal) (y : S128x1536.Idx) : EReal :=
  if h : (y 1).val < 1024 then X y else X y + B (p2 (y 0) ⟨(y 1).val - 1024, by have : (y 1).val < 1536 := (y 1).isLt; omega⟩)
theorem leaving_low (X : Vec Ideal S128x1536 .f32) (B : S128x512.Idx → EReal) (y : S128x1536.Idx) (h : (y 1).val < 1024) : leaving X B y = X y :=
  dif_pos h
theorem leaving_high (X : Vec Ideal S128x1536 .f32) (B : S128x512.Idx → EReal) (x : S128x512.Idx) (y : S128x1536.Idx) (h0 : y 0 = x 0)
    (h1 : (y 1).val = 1024 + (x 1).val) : leaving X B y = X y + B x := by
  have e3 : p2 (y 0) ⟨(y 1).val - 1024, by have : (y 1).val < 1536 := (y 1).isLt; omega⟩ = x := funext fun a => by
    match a with
    | 0 => exact h0
    | 1 => exact Fin.ext (by show (y 1).val - 1024 = _; omega)
  unfold leaving
  rw [dif_neg (by omega)]
  exact congrArg (fun z => X y + B z) e3

section Exact
variable (c : Dev nD) (i : grid0.Coords) (arg1 : Memref sig .tc .vmem S128x1024 .bf16) (harg1 : arg1.IsWhole) (arg2 : Memref sig .tc .vmem S128x256 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x1024 .bf16) (harg6 : arg6.IsWhole)
  (arg7 : Memref sig .tc .vmem S128x4096 .bf16) (harg7 : arg7.IsWhole) (arg8 : Memref sig .tc .vmem S128x128 .f32) (harg8 : arg8.IsWhole)
  (arg9 : Memref sig .tc .vmem S128x1536 .bf16) (harg9 : arg9.IsWhole) (arg10 : Memref sig .tc .vmem S1x128 .f32) (harg10 : arg10.IsWhole)
  (arg11 : Memref sig .tc .vmem S128x1536 .f32) (harg11 : arg11.IsWhole) (arg12 : Memref sig .tc .vmem S128x1536 .f32) (harg12 : arg12.IsWhole)
  (arg13 : Memref sig .tc .vmem S128x512 .f32) (harg13 : arg13.IsWhole)
  (x0 : Vec Ideal S128x1024 .bf16) (x1 : Vec Ideal S128x256 .bf16) (x2 : Vec Ideal S128x256 .bf16) (x3 : Vec Ideal S128x256 .bf16) (x4 : Vec Ideal S128x256 .bf16)
  (x5 : Vec Ideal S128x1024 .bf16) (x6 : Vec Ideal S128x4096 .bf16) (x7 : Vec Ideal S128x128 .f32) (xo9 : Vec Ideal S1x128 .f32) (xs0 : Vec Ideal S128x1536 .f32)

/-- After a middle point the carried rows are the block's own. -/
theorem carry_B (hc0 : ¬cond0_0 i) (hc1 : cond0_1 i) (hc2 : ¬cond0_2 i) (y : S128x1536.Idx) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0 y = ownAt (ldKV arg3 harg3 x2) (ldKV arg2 harg2 x1) (ldKV arg5 harg5 x4) (ldKV arg4 harg4 x3) (ldQ arg1 harg1 x0) (ldQ arg6 harg6 x5) (ldP arg7 harg7 x6) y := by
  unfold sout0_B_0 kernelRun0_B
  dsimp only
  rw [View.read_writes_full]
  exact (congrFun (shapeCast_self _ _) y).trans (own_read c arg1 harg1 arg2 harg2 arg3 harg3 arg4 harg4 arg5 harg5 arg6 harg6 arg7 harg7 arg12 x0 x1 x2 x3 x4 x5 x6 y)
/-- After a middle point the sinks' row has the point's heads added. -/
theorem sinks_B (hc0 : ¬cond0_0 i) (hc1 : cond0_1 i) (hc2 : ¬cond0_2 i) (y : S1x128.Idx) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0 y = xo9 y + sinkSum (ldKV arg5 harg5 x4) (ldKV arg4 harg4 x3) (ldQ arg6 harg6 x5) (ldP arg7 harg7 x6) kernelRun0_B.sl.v9 (kernelRun0_B.sl.r c arg8 harg8 x7) k0_pay5 16 y := by
  unfold out0_B_9 kernelRun0_B
  dsimp only
  rw [View.read_writes_full]
  refine congrArg₂ (· + ·) ((congrFun (shapeCast_self _ _) y).trans ?_) (congrFun (show kernelRun0_B.sl.r_141 c arg4 harg4 arg5 harg5 arg6 harg6 arg7 harg7 arg8 harg8 x3 x4 x5 x6 x7 = sinkSum (ldKV arg5 harg5 x4) (ldKV arg4 harg4 x3) (ldQ arg6 harg6 x5) (ldP arg7 harg7 x6) kernelRun0_B.sl.v9 (kernelRun0_B.sl.r c arg8 harg8 x7) k0_pay5 16 from rfl) y)
  exact (harg10.readAt_unread xo9 (Rect.unit (s := S1x128) ![0, 0] S1x128.size inb_S1x128_S1x128_0_0).toLoadRect y).trans
    (congrArg xo9 (Rect.emb_unit_full (s := S1x128) inb_S1x128_S1x128_0_0 y))
/-- After the first point the carried rows are the block's own. -/
theorem carry_A (hc0 : cond0_0 i) (hc1 : cond0_1 i) (hc2 : ¬cond0_2 i) (y : S128x1536.Idx) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y = ownAt (ldKV arg3 harg3 x2) (ldKV arg2 harg2 x1) (ldKV arg5 harg5 x4) (ldKV arg4 harg4 x3) (ldQ arg1 harg1 x0) (ldQ arg6 harg6 x5) (ldP arg7 harg7 x6) y := by
  unfold sout0_A_0 kernelRun0_A
  dsimp only
  rw [View.read_writes_full]
  exact (congrFun (shapeCast_self _ _) y).trans (own_read c arg1 harg1 arg2 harg2 arg3 harg3 arg4 harg4 arg5 harg5 arg6 harg6 arg7 harg7 arg12 x0 x1 x2 x3 x4 x5 x6 y)
/-- At the last point the rows that leave are the carried ones. -/
theorem rows_C (hc0 : ¬cond0_0 i) (hc1 : ¬cond0_1 i) (hc2 : cond0_2 i) (y : S128x1536.Idx) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0 y = xs0 y := by
  unfold out0_C_8 kernelRun0_C
  dsimp only
  rw [View.read_writes_full]
  exact (harg11.readAt_unread xs0 (Rect.unit (s := S128x1536) ![0, 0] S128x1536.size inb_S128x1536_S128x1536_0_0).toLoadRect y).trans <| congrArg xs0 (Rect.emb_unit_full (s := S128x1536) inb_S128x1536_S128x1536_0_0 y)
/-- At a middle point the rows that leave are the carried ones, with the point's part for the rows before added to the keys and values. -/
theorem rows_B (hc0 : ¬cond0_0 i) (hc1 : cond0_1 i) (hc2 : ¬cond0_2 i) (y : S128x1536.Idx) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0 y = leaving xs0 (backAt (ldKV arg5 harg5 x4) (ldKV arg4 harg4 x3) (ldQ arg1 harg1 x0) (ldQ arg6 harg6 x5) (ldP arg7 harg7 x6)) y := by
  unfold out0_B_8 kernelRun0_B
  dsimp only
  refine View.read_writes_apply_of_pieces (Val := Elt Ideal) (e := .bf16) _ _ (leaving xs0 (backAt (ldKV arg5 harg5 x4) (ldKV arg4 harg4 x3) (ldQ arg1 harg1 x0) (ldQ arg6 harg6 x5) (ldP arg7 harg7 x6))) _ (List.forall_mem_cons.2 ⟨fun x => ?_, List.forall_mem_cons.2 ⟨fun x => ?_, List.forall_mem_nil _⟩⟩) y ?_
  · refine (congrArg₂ (· + ·) (harg11.readAt_unread xs0 (Rect.unit (s := S128x1536) ![0, 1024] S128x512.size inb_S128x1536_S128x512_0_1024).toLoadRect x)
      (back_read c arg1 harg1 arg4 harg4 arg5 harg5 arg6 harg6 arg7 harg7 arg13 x0 x3 x4 x5 x6 x)).trans ?_
    exact (leaving_high _ _ x _ (Fin.ext (by show 0 + 1 * (x 0).val = _; omega)) (by show 1024 + 1 * (x 1).val = _; omega)).symm
  · refine (harg11.readAt_unread xs0 (Rect.unit (s := S128x1536) ![0, 0] S128x1024.size inb_S128x1536_S128x1024_0_0).toLoadRect x).trans ?_
    have hx : (x 1).val < 1024 := (x 1).isLt
    exact (leaving_low _ _ _ (by show 0 + 1 * (x 1).val < 1024; omega)).symm
  · exact cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo9 xs0 y
/-- After the first point the sinks' row is the point's own sum. -/
theorem sinks_A (hc0 : cond0_0 i) (hc1 : cond0_1 i) (hc2 : ¬cond0_2 i) (y : S1x128.Idx) :
    out0_A_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y = sinkSum (ldKV arg5 harg5 x4) (ldKV arg4 harg4 x3) (ldQ arg6 harg6 x5) (ldP arg7 harg7 x6) kernelRun0_B.sl.v9 (kernelRun0_B.sl.r c arg8 harg8 x7) k0_pay5 16 y := by
  unfold out0_A_9 kernelRun0_A
  dsimp only
  rw [View.read_writes_full]
  refine (congrArg₂ (· + ·) ((congrFun (shapeCast_self _ _) y).trans ?_) (congrFun (show kernelRun0_A.sl.r_141 c arg4 harg4 arg5 harg5 arg6 harg6 arg7 harg7 arg8 harg8 x3 x4 x5 x6 x7 = sinkSum (ldKV arg5 harg5 x4) (ldKV arg4 harg4 x3) (ldQ arg6 harg6 x5) (ldP arg7 harg7 x6) kernelRun0_B.sl.v9 (kernelRun0_B.sl.r c arg8 harg8 x7) k0_pay5 16 from rfl) y)).trans (zero_add _)
  unfold kernelRun0_A.sl.v769 kernelRun0_A.sl.H9_1
  rw [View.readCov_full]
  exact Ideal.ofBits_zero_f32
end Exact

end Cert.KernelIdeal.Hand

end
-- ==== Proof.AttnBlocks.lean ====
/- The blocks that the body loads at a grid point, as rows and columns of the whole arrays. -/
module

public import proofs.«01_k».proof.Proof.AttnPoint
public import proofs.«01_k».proof.Proof.AttnFrame
public import Idealize.ShloMosaic.Lib.Pipeline.ValueKit

@[expose] public section

set_option maxRecDepth 16384

noncomputable section

namespace Cert.KernelIdeal.Hand

open Idealize.ShloMosaic Idealize.ShloMosaic.Tactic Idealize.ShloMosaic.TcCoe Cert.KernelIdeal.Gen
open Idealize.ShloMosaic.Pipeline (Dat)

variable {F : FTy → Type} [FloatOps F]
variable (m : (ℓ : Loc nD τ sig) → Buf (Elt F) ℓ)

/-- Row `r` of block `b`. -/
abbrev rowAt (b : Fin 32) (r : Fin 128) : Fin 4096 := ⟨128 * b.val + r.val, by omega⟩
/-- The block before, the first one before itself. -/
abbrev before (b : Fin 32) : Fin 32 := ⟨b.val - 1, by omega⟩

section Reads
variable {e : EltTy}
/-- Head `h`'s columns of block `b`'s rows. -/
def headOf {w : ℕ} (hw : 1024 ≤ w) (X : Vec F ⟨2, ![4096, w]⟩ .bf16) (b : Fin 32) (h : Fin 16) : Vec F S128x64 .bf16 :=
  fun x => X (p2 (rowAt b (x 0)) ⟨64 * h.val + (x 1).val, by have := h.isLt; have : (x 1).val < 64 := (x 1).isLt; omega⟩)
/-- Group `m`'s keys of block `b`'s rows. -/
def keysOf (X : Vec F S4096x1536 .bf16) (b : Fin 32) (m : Fin 4) : Vec F S128x64 .bf16 :=
  fun x => X (p2 (rowAt b (x 0)) ⟨1024 + 64 * m.val + (x 1).val, by have := m.isLt; have : (x 1).val < 64 := (x 1).isLt; omega⟩)
/-- Group `m`'s values of block `b`'s rows. -/
def valuesOf (X : Vec F S4096x1536 .bf16) (b : Fin 32) (m : Fin 4) : Vec F S128x64 .bf16 :=
  fun x => X (p2 (rowAt b (x 0)) ⟨1280 + 64 * m.val + (x 1).val, by have := m.isLt; have : (x 1).val < 64 := (x 1).isLt; omega⟩)
/-- Block `b`'s `j`-th square of probabilities. -/
def squareOf (X : Vec F S4096x4096 .bf16) (b : Fin 32) (j : Fin 32) : Vec F S128x128 .bf16 :=
  fun x => X (p2 (rowAt b (x 0)) ⟨128 * j.val + (x 1).val, by have := j.isLt; have : (x 1).val < 128 := (x 1).isLt; omega⟩)
end Reads

theorem index_kc : ∀ t : Fin cfg0.N, cc0_transform_1 (grid0.coords t) = ![min t.val 31, 4] := by decide +kernel
theorem index_kp : ∀ t : Fin cfg0.N, cc0_transform_2 (grid0.coords t) = ![min t.val 31 - 1, 4] := by decide +kernel
theorem index_vc : ∀ t : Fin cfg0.N, cc0_transform_3 (grid0.coords t) = ![min t.val 31, 5] := by decide +kernel
theorem index_vp : ∀ t : Fin cfg0.N, cc0_transform_4 (grid0.coords t) = ![min t.val 31 - 1, 5] := by decide +kernel
theorem index_q : ∀ t : Fin cfg0.N, cc0_transform_0 (grid0.coords t) = ![min t.val 31, 0] := by decide +kernel
theorem index_do : ∀ t : Fin cfg0.N, cc0_transform_5 (grid0.coords t) = ![min t.val 31, 0] := by decide +kernel
theorem index_pr : ∀ t : Fin cfg0.N, cc0_transform_6 (grid0.coords t) = ![min t.val 31, 0] := by decide +kernel
theorem index_sp : ∀ t : Fin cfg0.N, cc0_transform_7 (grid0.coords t) = ![min t.val 31, 0] := by decide +kernel
theorem index_dz : ∀ t : Fin cfg0.N, cc0_transform_8 (grid0.coords t) = ![t.val - 1, 0] := by decide +kernel

theorem blk_kc (A : Vec F S4096x1536 .bf16) (t : Fin cfg0.N) (b : Fin 32) (hb : t.val = b.val) (y : S128x256.Idx) :
    ((cfg0.win 1).blk t).view.read (Elt F) A y = A (p2 (rowAt (b) (y 0)) ⟨1024 + (y 1).val, by have : (y 1).val < 256 := (y 1).isLt; omega⟩) := by
  have hi := index_kc t
  refine congrArg A (funext fun a => Fin.ext ?_)
  match a with
  | 0 =>
    show cc0_transform_1 (grid0.coords t) 0 * 128 + 1 * (y 0).val = 128 * b.val + (y 0).val
    rw [hi]
    show min t.val 31 * 128 + _ = _
    have := b.isLt
    omega
  | 1 =>
    show cc0_transform_1 (grid0.coords t) 1 * 256 + 1 * (y 1).val = 1024 + (y 1).val
    rw [hi]
    show 4 * 256 + _ = _
    omega
theorem blk_kp (A : Vec F S4096x1536 .bf16) (t : Fin cfg0.N) (b : Fin 32) (hb : t.val = b.val) (y : S128x256.Idx) :
    ((cfg0.win 2).blk t).view.read (Elt F) A y = A (p2 (rowAt (before b) (y 0)) ⟨1024 + (y 1).val, by have : (y 1).val < 256 := (y 1).isLt; omega⟩) := by
  have hi := index_kp t
  refine congrArg A (funext fun a => Fin.ext ?_)
  match a with
  | 0 =>
    show cc0_transform_2 (grid0.coords t) 0 * 128 + 1 * (y 0).val = 128 * (b.val - 1) + (y 0).val
    rw [hi]
    show (min t.val 31 - 1) * 128 + _ = _
    have := b.isLt
    omega
  | 1 =>
    show cc0_transform_2 (grid0.coords t) 1 * 256 + 1 * (y 1).val = 1024 + (y 1).val
    rw [hi]
    show 4 * 256 + _ = _
    omega
theorem blk_vc (A : Vec F S4096x1536 .bf16) (t : Fin cfg0.N) (b : Fin 32) (hb : t.val = b.val) (y : S128x256.Idx) :
    ((cfg0.win 3).blk t).view.read (Elt F) A y = A (p2 (rowAt (b) (y 0)) ⟨1280 + (y 1).val, by have : (y 1).val < 256 := (y 1).isLt; omega⟩) := by
  have hi := index_vc t
  refine congrArg A (funext fun a => Fin.ext ?_)
  match a with
  | 0 =>
    show cc0_transform_3 (grid0.coords t) 0 * 128 + 1 * (y 0).val = 128 * b.val + (y 0).val
    rw [hi]
    show min t.val 31 * 128 + _ = _
    have := b.isLt
    omega
  | 1 =>
    show cc0_transform_3 (grid0.coords t) 1 * 256 + 1 * (y 1).val = 1280 + (y 1).val
    rw [hi]
    show 5 * 256 + _ = _
    omega
theorem blk_vp (A : Vec F S4096x1536 .bf16) (t : Fin cfg0.N) (b : Fin 32) (hb : t.val = b.val) (y : S128x256.Idx) :
    ((cfg0.win 4).blk t).view.read (Elt F) A y = A (p2 (rowAt (before b) (y 0)) ⟨1280 + (y 1).val, by have : (y 1).val < 256 := (y 1).isLt; omega⟩) := by
  have hi := index_vp t
  refine congrArg A (funext fun a => Fin.ext ?_)
  match a with
  | 0 =>
    show cc0_transform_4 (grid0.coords t) 0 * 128 + 1 * (y 0).val = 128 * (b.val - 1) + (y 0).val
    rw [hi]
    show (min t.val 31 - 1) * 128 + _ = _
    have := b.isLt
    omega
  | 1 =>
    show cc0_transform_4 (grid0.coords t) 1 * 256 + 1 * (y 1).val = 1280 + (y 1).val
    rw [hi]
    show 5 * 256 + _ = _
    omega
theorem blk_do (A : Vec F S4096x1024 .bf16) (t : Fin cfg0.N) (b : Fin 32) (hb : t.val = b.val) (y : S128x1024.Idx) :
    ((cfg0.win 5).blk t).view.read (Elt F) A y = A (p2 (rowAt (b) (y 0)) (y 1)) := by
  have hi := index_do t
  refine congrArg A (funext fun a => Fin.ext ?_)
  match a with
  | 0 =>
    show cc0_transform_5 (grid0.coords t) 0 * 128 + 1 * (y 0).val = 128 * b.val + (y 0).val
    rw [hi]
    show min t.val 31 * 128 + _ = _
    have := b.isLt
    omega
  | 1 =>
    show cc0_transform_5 (grid0.coords t) 1 * 1024 + 1 * (y 1).val = (y 1).val
    rw [hi]
    show 0 * 1024 + _ = _
    omega
theorem blk_pr (A : Vec F S4096x4096 .bf16) (t : Fin cfg0.N) (b : Fin 32) (hb : t.val = b.val) (y : S128x4096.Idx) :
    ((cfg0.win 6).blk t).view.read (Elt F) A y = A (p2 (rowAt (b) (y 0)) (y 1)) := by
  have hi := index_pr t
  refine congrArg A (funext fun a => Fin.ext ?_)
  match a with
  | 0 =>
    show cc0_transform_6 (grid0.coords t) 0 * 128 + 1 * (y 0).val = 128 * b.val + (y 0).val
    rw [hi]
    show min t.val 31 * 128 + _ = _
    have := b.isLt
    omega
  | 1 =>
    show cc0_transform_6 (grid0.coords t) 1 * 4096 + 1 * (y 1).val = (y 1).val
    rw [hi]
    show 0 * 4096 + _ = _
    omega
theorem blk_sp (A : Vec F S4096x128 .f32) (t : Fin cfg0.N) (b : Fin 32) (hb : t.val = b.val) (y : S128x128.Idx) :
    ((cfg0.win 7).blk t).view.read (Elt F) A y = A (p2 (rowAt (b) (y 0)) (y 1)) := by
  have hi := index_sp t
  refine congrArg A (funext fun a => Fin.ext ?_)
  match a with
  | 0 =>
    show cc0_transform_7 (grid0.coords t) 0 * 128 + 1 * (y 0).val = 128 * b.val + (y 0).val
    rw [hi]
    show min t.val 31 * 128 + _ = _
    have := b.isLt
    omega
  | 1 =>
    show cc0_transform_7 (grid0.coords t) 1 * 128 + 1 * (y 1).val = (y 1).val
    rw [hi]
    show 0 * 128 + _ = _
    omega
theorem blk_q (A : Vec F S4096x1536 .bf16) (t : Fin cfg0.N) (b : Fin 32) (hb : t.val = b.val) (d : S128x1024.Idx → Elt F .bf16) (y : S128x1024.Idx) :
    (cfg0.win 0).fill (cfg0.grid.coords t) d (((cfg0.win 0).blk t).view.read (Elt F) A) y
      = A (p2 (rowAt b (y 0)) ⟨(y 1).val, by have : (y 1).val < 1024 := (y 1).isLt; omega⟩) := by
  have hi := index_q t
  unfold Pipeline.Window.fill
  rw [dif_pos (moved0_0 t y)]
  refine congrArg A (funext fun a => Fin.ext ?_)
  match a with
  | 0 =>
    show cc0_transform_0 (grid0.coords t) 0 * 128 + 1 * (y 0).val = 128 * b.val + (y 0).val
    rw [hi]
    show min t.val 31 * 128 + _ = _
    have := b.isLt
    omega
  | 1 =>
    show cc0_transform_0 (grid0.coords t) 1 * 1024 + 1 * (y 1).val = (y 1).val
    rw [hi]
    show 0 * 1024 + _ = _
    omega

/-- The arrays that the region stages: the projected rows, the output's gradient, the probabilities and the sink's. -/
def projA (c : Dev nD) : Vec F S4096x1536 .bf16 := V m c (Pipeline.arrRef spec0 0)
def gradA (c : Dev nD) : Vec F S4096x1024 .bf16 := V m c (Pipeline.arrRef spec0 5)
def probA (c : Dev nD) : Vec F S4096x4096 .bf16 := V m c (Pipeline.arrRef spec0 6)
def sinkA (c : Dev nD) : Vec F S4096x128 .f32 := V m c (Pipeline.arrRef spec0 7)

section Loads
variable (c : Dev nD) (t : Fin cfg0.N) (b : Fin 32) (hb : t.val = b.val)
include hb
theorem load_q : ldQ (ms0_0 t) (hs0_0 t) (X0_0 m c t) = headOf (by decide) (projA m c) b := by
  funext h x
  obtain ⟨r, d, rfl⟩ : ∃ r d, x = p2 r d := ⟨x 0, x 1, ValueIdx.eq_ix2 x⟩
  rw [ldQ_apply]
  exact blk_q (projA m c) t b hb _ _
theorem load_kc : ldKV (ms0_1 t) (hs0_1 t) (iblk m c 1 t) = keysOf (projA m c) b := by
  funext h x
  obtain ⟨r, d, rfl⟩ : ∃ r d, x = p2 r d := ⟨x 0, x 1, ValueIdx.eq_ix2 x⟩
  rw [ldKV_apply]
  refine (blk_kc (projA m c) t b hb _).trans (congrArg (projA m c) (congrArg (p2 _) (Fin.ext ?_)))
  exact (Nat.add_assoc _ _ _).symm
theorem load_kp : ldKV (ms0_2 t) (hs0_2 t) (iblk m c 2 t) = keysOf (projA m c) (before b) := by
  funext h x
  obtain ⟨r, d, rfl⟩ : ∃ r d, x = p2 r d := ⟨x 0, x 1, ValueIdx.eq_ix2 x⟩
  rw [ldKV_apply]
  refine (blk_kp (projA m c) t b hb _).trans (congrArg (projA m c) (congrArg (p2 _) (Fin.ext ?_)))
  exact (Nat.add_assoc _ _ _).symm
theorem load_vc : ldKV (ms0_3 t) (hs0_3 t) (iblk m c 3 t) = valuesOf (projA m c) b := by
  funext h x
  obtain ⟨r, d, rfl⟩ : ∃ r d, x = p2 r d := ⟨x 0, x 1, ValueIdx.eq_ix2 x⟩
  rw [ldKV_apply]
  refine (blk_vc (projA m c) t b hb _).trans (congrArg (projA m c) (congrArg (p2 _) (Fin.ext ?_)))
  exact (Nat.add_assoc _ _ _).symm
theorem load_vp : ldKV (ms0_4 t) (hs0_4 t) (iblk m c 4 t) = valuesOf (projA m c) (before b) := by
  funext h x
  obtain ⟨r, d, rfl⟩ : ∃ r d, x = p2 r d := ⟨x 0, x 1, ValueIdx.eq_ix2 x⟩
  rw [ldKV_apply]
  refine (blk_vp (projA m c) t b hb _).trans (congrArg (projA m c) (congrArg (p2 _) (Fin.ext ?_)))
  exact (Nat.add_assoc _ _ _).symm
theorem load_do : ldQ (ms0_5 t) (hs0_5 t) (iblk m c 5 t) = headOf (by decide) (gradA m c) b := by
  funext h x
  obtain ⟨r, d, rfl⟩ : ∃ r d, x = p2 r d := ⟨x 0, x 1, ValueIdx.eq_ix2 x⟩
  rw [ldQ_apply]
  exact blk_do (gradA m c) t b hb _
theorem load_pr : ldP (ms0_6 t) (hs0_6 t) (iblk m c 6 t) = squareOf (probA m c) b := by
  funext h x
  obtain ⟨r, d, rfl⟩ : ∃ r d, x = p2 r d := ⟨x 0, x 1, ValueIdx.eq_ix2 x⟩
  rw [ldP_apply]
  exact blk_pr (probA m c) t b hb _
end Loads

end Cert.KernelIdeal.Hand

end
-- ==== Proof.AttnArrays.lean ====
/- What the kernel's run leaves in its two result arrays, block by block: the carried rows over the grid, the row of sink
   gradients summed over it, and the arrays that the write-backs make of them. -/
module

public import proofs.«01_k».proof.Proof.AttnBlocks

@[expose] public section

set_option maxRecDepth 16384

noncomputable section

namespace Cert.KernelIdeal.Hand

open Idealize.ShloMosaic Idealize.ShloMosaic.Tactic Idealize.ShloMosaic.TcCoe Cert.KernelIdeal.Gen
open Idealize.ShloMosaic.Pipeline (Dat)

section Blocks
variable (A : Vec Ideal S4096x1536 .bf16) (G : Vec Ideal S4096x1024 .bf16) (P : Vec Ideal S4096x4096 .bf16) (S : Vec Ideal S4096x128 .f32)

/-- The gradients of block `b`'s own rows, as its point computes them. -/
def ownOf (b : Fin 32) (y : S128x1536.Idx) : EReal :=
  ownAt (keysOf A (before b)) (keysOf A b) (valuesOf A (before b)) (valuesOf A b) (headOf (by decide) A b) (headOf (by decide) G b) (squareOf P b) y
/-- What block `b`'s point adds to the keys and values of the block before. -/
def backOf (b : Fin 32) (y : S128x512.Idx) : EReal :=
  backAt (valuesOf A (before b)) (valuesOf A b) (headOf (by decide) A b) (headOf (by decide) G b) (squareOf P b) y
/-- Block `b`'s sink probabilities. -/
def sinkBlk (b : Fin 32) : Vec Ideal S128x128 .f32 := fun x => S (p2 (rowAt b (x 0)) (x 1))
/-- Block `b`'s row of sink gradients. -/
def sinkOf (b : Fin 32) (y : S1x128.Idx) : EReal :=
  sinkSum (F := Ideal) (valuesOf A (before b)) (valuesOf A b) (headOf (by decide) G b) (squareOf P b)
    (iota .tc S128x128 32 [1] iota_S128x128_d1_w32) (sinkBlk S b) k0_pay5 16 y
/-- The rows of gradients that leave for block `b`. -/
def rowsOf (b : Fin 32) (y : S128x1536.Idx) : EReal :=
  if h : b.val < 31 then leaving (ownOf A G P b) (backOf A G P ⟨b.val + 1, by omega⟩) y else ownOf A G P b y
theorem rowsOf_of_lt (b : Fin 32) (y : S128x1536.Idx) (h : b.val < 31) :
    rowsOf A G P b y = leaving (ownOf A G P b) (backOf A G P ⟨b.val + 1, by omega⟩) y := dif_pos h
theorem rowsOf_of_not (b : Fin 32) (y : S128x1536.Idx) (h : ¬b.val < 31) : rowsOf A G P b y = ownOf A G P b y := dif_neg h
end Blocks

variable (m : (ℓ : Loc nD τ sig) → Buf (Elt Ideal) ℓ)

theorem load_sp (c : Dev nD) (t : Fin cfg0.N) (b : Fin 32) (hb : t.val = b.val) :
    kernelRun0_B.sl.r c (ms0_7 t) (hs0_7 t) (iblk m c 7 t) = sinkBlk (sinkA m c) b := by
  funext y
  unfold kernelRun0_B.sl.r k0_pay4
  refine (congrFun (shapeCast_self _ _) y).trans ?_
  refine ((hs0_7 t).readAt_unread (iblk m c 7 t) (Rect.unit (s := S128x128) ![0, 0] S128x128.size inb_S128x128_S128x128_0_0).toLoadRect y).trans ?_
  rw [show (Rect.unit (s := S128x128) ![0, 0] S128x128.size inb_S128x128_S128x128_0_0).toLoadRect.idx y = y from Rect.emb_unit_full (s := S128x128) inb_S128x128_S128x128_0_0 y]
  exact blk_sp (sinkA m c) t b hb y

/-- After a point below 32 the carried rows are that block's own. -/
theorem carried (c : Dev nD) (t : Fin cfg0.N) (b : Fin 32) (hb : t.val = b.val) (y : S128x1536.Idx) :
    (outsAt0 m c t.val t.isLt).2.2 y = ownOf (projA m c) (gradA m c) (probA m c) b y := by
  have hlt := b.isLt
  by_cases h0 : t.val % 33 = 0
  · rw [outsAt0_A m c t h0 (by omega) (by omega)]
    dsimp only
    rw [carry_A, load_q m c t b hb, load_kc m c t b hb, load_kp m c t b hb, load_vc m c t b hb, load_vp m c t b hb, load_do m c t b hb, load_pr m c t b hb]
    rfl
  · rw [outsAt0_B m c t h0 (by omega) (by omega)]
    dsimp only
    rw [carry_B, load_q m c t b hb, load_kc m c t b hb, load_kp m c t b hb, load_vc m c t b hb, load_vp m c t b hb, load_do m c t b hb, load_pr m c t b hb]
    rfl

/-- After a point `t` below 32, the sinks' row is the sum of the blocks' rows up to it. -/
theorem summed (c : Dev nD) (y : S1x128.Idx) : ∀ (n : ℕ) (hn : n < 32) (ht : n < cfg0.N),
    (outsAt0 m c n ht).2.1 y = ∑ b : Fin (n + 1), sinkOf (projA m c) (gradA m c) (probA m c) (sinkA m c) ⟨b.val, by omega⟩ y
  | 0, hn, ht => by
    rw [outsAt0_A m c ⟨0, ht⟩ (Nat.zero_mod _) (by omega) (by simp)]
    dsimp only
    rw [sinks_A, load_vc m c ⟨0, ht⟩ 0 rfl, load_vp m c ⟨0, ht⟩ 0 rfl, load_do m c ⟨0, ht⟩ 0 rfl, load_pr m c ⟨0, ht⟩ 0 rfl, load_sp m c ⟨0, ht⟩ 0 rfl,
      Fin.sum_univ_one]
    rfl
  | n + 1, hn, ht => by
    rw [outsAt0_B m c ⟨n + 1, ht⟩ (by show ¬(n + 1) % 33 = 0; omega) hn (by show ¬(n + 1) % 33 = 32; omega)]
    dsimp only
    rw [sinks_B, load_vc m c ⟨n + 1, ht⟩ ⟨n + 1, hn⟩ rfl, load_vp m c ⟨n + 1, ht⟩ ⟨n + 1, hn⟩ rfl, load_do m c ⟨n + 1, ht⟩ ⟨n + 1, hn⟩ rfl,
      load_pr m c ⟨n + 1, ht⟩ ⟨n + 1, hn⟩ rfl, load_sp m c ⟨n + 1, ht⟩ ⟨n + 1, hn⟩ rfl]
    rw [show (outsAt0 m c (n + 1 - 1) (Nat.lt_of_le_of_lt (Nat.sub_le _ _) ht)).2.1 y = _ from summed c y n (by omega) (by omega), Fin.sum_univ_castSucc (n := n + 1)]
    rfl

/-- At a point `b + 1` the rows that leave are block `b`'s. -/
theorem left_rows (c : Dev nD) (t : Fin cfg0.N) (b : Fin 32) (hb : t.val = b.val + 1) (y : S128x1536.Idx) :
    (outsAt0 m c t.val t.isLt).1 y = rowsOf (projA m c) (gradA m c) (probA m c) b y := by
  have hlt := b.isLt
  have hpred : t.val - 1 = b.val := by omega
  have hX : (outsAt0 m c (t.val - 1) (Nat.lt_of_le_of_lt (Nat.sub_le _ _) t.isLt)).2.2 = ownOf (projA m c) (gradA m c) (probA m c) b :=
    funext fun y => carried m c ⟨t.val - 1, Nat.lt_of_le_of_lt (Nat.sub_le _ _) t.isLt⟩ b hpred y
  by_cases h : b.val < 31
  · have hb' : t.val = (⟨b.val + 1, by omega⟩ : Fin 32).val := hb
    rw [outsAt0_B m c t (by omega) (by omega) (by omega)]
    dsimp only
    rw [rows_B, hX, load_q m c t _ hb', load_vc m c t _ hb', load_vp m c t _ hb', load_do m c t _ hb', load_pr m c t _ hb']
    exact (rowsOf_of_lt _ _ _ b y h).symm
  · rw [outsAt0_C m c t (by omega) (by omega) (by omega)]
    dsimp only
    rw [rows_C, hX]
    exact (rowsOf_of_not _ _ _ b y h).symm

/-- The last point leaves the sinks' row as it was. -/
theorem sinks_last (c : Dev nD) (t : Fin cfg0.N) (h : t.val = 32) :
    (outsAt0 m c t.val t.isLt).2.1 = (outsAt0 m c (t.val - 1) (Nat.lt_of_le_of_lt (Nat.sub_le _ _) t.isLt)).2.1 := by
  rw [outsAt0_C m c t (by omega) (by omega) (by omega)]
  rfl

end Cert.KernelIdeal.Hand

end
-- ==== Proof.AttnRef.lean ====
/- The reference's arrays, read at coordinates: the batch of one, the block `b`, the group `m`, the head `g` of the group, the row `r` or key `j`, the column `d`. -/
module

public import proofs.«01_k».proof.Proof.Gen.ReferenceIdeal.Run
public import Idealize.ShloMosaic.Lib.Pointwise
public import Idealize.ShloMosaic.Lib.KernelVsHost

@[expose] public section

set_option maxRecDepth 16384
set_option maxHeartbeats 4000000

noncomputable section

namespace Cert.ReferenceIdeal.Read

open Idealize.ShloMosaic Idealize.ShloMosaic.TcCoe Idealize.ShloMosaic.StableHlo Cert.ReferenceIdeal.Gen Cert.ReferenceIdeal.Value

/-! ## Reductions of rank six -/

/-- What the last axis is reduced to, a row at a time. -/
theorem fiber5 (b : Fin 32) (m g : Fin 4) (r : Fin 128) (i : S1x32x4x4x128x257.Idx) :
    reducesTo_S1x32x4x4x128x257_S1x32x4x4x128_d5.drop i = ix5 0 b m g r ↔ ∃ k : Fin 257, ix6 0 b m g r k = i := by
  constructor
  · intro e
    refine ⟨i 5, ?_⟩
    funext a
    match a with
    | ⟨0, _⟩ => exact Fin.ext (congrArg Fin.val (congrFun e 0)).symm
    | ⟨1, _⟩ => exact Fin.ext (congrArg Fin.val (congrFun e 1)).symm
    | ⟨2, _⟩ => exact Fin.ext (congrArg Fin.val (congrFun e 2)).symm
    | ⟨3, _⟩ => exact Fin.ext (congrArg Fin.val (congrFun e 3)).symm
    | ⟨4, _⟩ => exact Fin.ext (congrArg Fin.val (congrFun e 4)).symm
    | ⟨5, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

/-- A column of one entry reduced over its two axes of length one. -/
theorem fiber05 (b : Fin 32) (m g : Fin 4) (r : Fin 128) (i : S1x32x4x4x128x1.Idx) :
    reducesTo_S1x32x4x4x128x1_S32x4x4x128_d0_5.drop i = ix4 b m g r ↔ ∃ _k : Fin 1, ix6 0 b m g r 0 = i := by
  constructor
  · intro e
    refine ⟨0, ?_⟩
    funext a
    match a with
    | ⟨0, _⟩ => exact (Subsingleton.elim (α := Fin 1) _ _)
    | ⟨1, _⟩ => exact Fin.ext (congrArg Fin.val (congrFun e 0)).symm
    | ⟨2, _⟩ => exact Fin.ext (congrArg Fin.val (congrFun e 1)).symm
    | ⟨3, _⟩ => exact Fin.ext (congrArg Fin.val (congrFun e 2)).symm
    | ⟨4, _⟩ => exact Fin.ext (congrArg Fin.val (congrFun e 3)).symm
    | ⟨5, _⟩ => exact (Subsingleton.elim (α := Fin 1) _ _)
  · rintro ⟨k, rfl⟩
    funext a
    match a with
    | ⟨0, _⟩ => rfl
    | ⟨1, _⟩ => rfl
    | ⟨2, _⟩ => rfl
    | ⟨3, _⟩ => rfl

/-- The sinks' column reduced over the blocks and rows. -/
theorem fiber0145 (m g : Fin 4) (i : S1x32x4x4x128x1.Idx) :
    reducesTo_S1x32x4x4x128x1_S4x4_d0_1_4_5.drop i = ix2 m g ↔ ∃ k : Fin 32 × Fin 128, ix6 0 k.1 m g k.2 0 = i := by
  constructor
  · intro e
    refine ⟨(i 1, i 4), ?_⟩
    funext a
    match a with
    | ⟨0, _⟩ => exact (Subsingleton.elim (α := Fin 1) _ _)
    | ⟨1, _⟩ => rfl
    | ⟨2, _⟩ => exact Fin.ext (congrArg Fin.val (congrFun e 0)).symm
    | ⟨3, _⟩ => exact Fin.ext (congrArg Fin.val (congrFun e 1)).symm
    | ⟨4, _⟩ => rfl
    | ⟨5, _⟩ => exact (Subsingleton.elim (α := Fin 1) _ _)
  · rintro ⟨k, rfl⟩
    funext a
    match a with
    | ⟨0, _⟩ => rfl
    | ⟨1, _⟩ => rfl

theorem sum5 (x : S1x32x4x4x128x257.Idx → EReal) (init : EReal) (b : Fin 32) (m g : Fin 4) (r : Fin 128) :
    Ideal.hostReduceAdd reducesTo_S1x32x4x4x128x257_S1x32x4x4x128_d5 x init (ix5 0 b m g r) = init + ∑ k : Fin 257, x (ix6 0 b m g r k) :=
  congrArg (init + ·) (Finset.sum_filter_eq_sum_of_fiber _ (fun k : Fin 257 => (ix6 0 b m g r k : S1x32x4x4x128x257.Idx)) (fun _ _ e => congrFun e 5) (fiber5 b m g r) x)

theorem sum05 (x : S1x32x4x4x128x1.Idx → EReal) (init : EReal) (b : Fin 32) (m g : Fin 4) (r : Fin 128) :
    Ideal.hostReduceAdd reducesTo_S1x32x4x4x128x1_S32x4x4x128_d0_5 x init (ix4 b m g r) = init + x (ix6 0 b m g r 0) :=
  congrArg (init + ·) ((Finset.sum_filter_eq_sum_of_fiber _ (fun _ : Fin 1 => ix6 0 b m g r 0) (fun _ _ _ => Subsingleton.elim _ _) (fiber05 b m g r) x).trans (by simp))

theorem sum0145 (x : S1x32x4x4x128x1.Idx → EReal) (init : EReal) (m g : Fin 4) :
    Ideal.hostReduceAdd reducesTo_S1x32x4x4x128x1_S4x4_d0_1_4_5 x init (ix2 m g) = init + ∑ b : Fin 32, ∑ r : Fin 128, x (ix6 0 b m g r 0) :=
  congrArg (init + ·) ((Finset.sum_filter_eq_sum_of_fiber _ (fun k : Fin 32 × Fin 128 => (ix6 0 k.1 m g k.2 0 : S1x32x4x4x128x1.Idx)) (fun _ _ e => Prod.ext (congrFun e 1) (congrFun e 4))
    (fiber0145 m g) x).trans (by simp only [Fintype.sum_prod_type]))

/-! ## The stages -/

section Stages
variable (V : Valuation τ sig (Elt Ideal))
variable (b : Fin 32) (m g : Fin 4) (r : Fin 128)

/-- The exponentials of the scores, the sink's last. -/
def eV (j : Fin 257) : EReal := (res_main_v103 V : Vec Ideal S1x32x4x4x128x257 .f32) (ix6 0 b m g r j)
/-- Their sum. -/
def tV : EReal := (res_main_v105 V : Vec Ideal S1x32x4x4x128x1 .f32) (ix6 0 b m g r 0)
/-- The gradient of the probabilities. -/
def dpV (j : Fin 257) : EReal := (res_main_v126 V : Vec Ideal S1x32x4x4x128x257 .f32) (ix6 0 b m g r j)
/-- The gradient of the scores. -/
def dsV (j : Fin 257) : EReal := (res_main_v139 V : Vec Ideal S1x32x4x4x128x257 .f32) (ix6 0 b m g r j)
/-- The gradient of the scores, masked and scaled. -/
def scV (j : Fin 256) : EReal := (res_main_v148 V : Vec Ideal S1x32x4x256x128x4 .f32) (ix6 0 b m j r g)
/-- The mask. -/
def okV (j : Fin 256) : BitVec 1 := (res_main_v79_1 V : Vec Ideal S1x32x4x4x128x256 .i1) (ix6 0 b m g r j)
/-- The probabilities. -/
def pV (j : Fin 256) : EReal := (res_main_v113 V : Vec Ideal S1x32x4x4x128x256 .f32) (ix6 0 b m g r j)
/-- The queries. -/
def qV (d : Fin 64) : EReal := (res_main_v6 V : Vec Ideal S1x32x128x4x4x64 .f32) (ix6 0 b r m g d)
/-- The output's gradient. -/
def oV (d : Fin 64) : EReal := (res_main_v120 V : Vec Ideal S1x32x4x64x4x128 .f32) (ix6 0 b m d g r)
/-- The window's keys. -/
def kV (j : Fin 256) (d : Fin 64) : EReal := (res_main_v14 V : Vec Ideal S1x32x256x4x64 .f32) (ix5 0 b j m d)
/-- The window's values. -/
def vV (j : Fin 256) (d : Fin 64) : EReal := (res_main_v22 V : Vec Ideal S1x32x256x4x64 .f32) (ix5 0 b j m d)
/-- The gradient of the window's keys. -/
def dkV (j : Fin 256) (d : Fin 64) : EReal := (res_main_v162 V : Vec Ideal S1x32x256x4x64 .bf16) (ix5 0 b j m d)
/-- The gradient of the window's values. -/
def dvV (j : Fin 256) (d : Fin 64) : EReal := (res_main_v153 V : Vec Ideal S1x32x256x4x64 .bf16) (ix5 0 b j m d)
/-- The projection. -/
def xV (i : Fin 4096) (k : Fin 1536) : EReal := (V (Proc.devRef .tc main_arg0) : Vec Ideal S4096x1536 .bf16) (ix2 i k)
/-- The output's gradient as given. -/
def gV (i : Fin 4096) (k : Fin 1024) : EReal := (V (Proc.devRef .tc main_arg2) : Vec Ideal S4096x1024 .bf16) (ix2 i k)

theorem total_apply : tV V b m g r = ∑ k : Fin 257, eV V b m g r k := by
  unfold tV eV res_main_v105
  pointwise [sum5]

/-- The output's gradient against the values. -/
theorem dprob_apply (j : Fin 256) : dpV V b m g r ⟨j.val, by omega⟩ = ∑ d : Fin 64, oV V b m g r d * vV V b m j d := by
  unfold dpV oV vV res_main_v126
  pointwise

/-- The sink's column gets none. -/
theorem dprob_sink : dpV V b m g r 256 = 0 := by
  unfold dpV res_main_v126
  pointwise

theorem dscore_apply (j : Fin 257) : dsV V b m g r j
    = (Ideal.div (dpV V b m g r j) (tV V b m g r)
      + -∑ k : Fin 257, dpV V b m g r k * Ideal.div 1 (tV V b m g r * tV V b m g r) * eV V b m g r k) * eV V b m g r j := by
  unfold dsV dpV tV eV res_main_v139
  pointwise [sum5, sum05]

theorem scaled_apply (j : Fin 256) : scV V b m g r j
    = if okV V b m g r j = 1#1 then dsV V b m g r ⟨j.val, by omega⟩ * Ideal.ofBits .f32 0x3E000000#32 else 0 := by
  unfold scV okV dsV res_main_v148
  pointwise
  rfl

theorem prob_apply (j : Fin 256) : pV V b m g r j = Ideal.div (eV V b m g r ⟨j.val, by omega⟩) (tV V b m g r) := by
  unfold pV eV tV res_main_v113
  pointwise

theorem dkey_apply (j : Fin 256) (d : Fin 64) : dkV V b m j d = ∑ r : Fin 128, ∑ g : Fin 4, scV V b m g r j * qV V b m g r d := by
  unfold dkV scV qV res_main_v162
  pointwise

theorem dvalue_apply (j : Fin 256) (d : Fin 64) : dvV V b m j d = ∑ g : Fin 4, ∑ r : Fin 128, oV V b m g r d * pV V b m g r j := by
  unfold dvV oV pV res_main_v153
  pointwise

theorem dout_apply (d : Fin 64) : oV V b m g r d = gV V ⟨b.val * 128 + r.val, by omega⟩ ⟨m.val * 256 + g.val * 64 + d.val, by omega⟩ := by
  unfold oV gV res_main_v120
  pointwise

theorem query_apply (d : Fin 64) : qV V b m g r d = xV V ⟨b.val * 128 + r.val, by omega⟩ ⟨m.val * 256 + g.val * 64 + d.val, by omega⟩ := by
  unfold qV xV res_main_v6
  pointwise

theorem key_own (j : Fin 128) (d : Fin 64) : kV V b m ⟨128 + j.val, by omega⟩ d = xV V ⟨b.val * 128 + j.val, by omega⟩ ⟨1024 + (m.val * 64 + d.val), by omega⟩ := by
  unfold kV xV res_main_v14 res_main_v4
  pointwise

theorem value_own (j : Fin 128) (d : Fin 64) : vV V b m ⟨128 + j.val, by omega⟩ d = xV V ⟨b.val * 128 + j.val, by omega⟩ ⟨1280 + (m.val * 64 + d.val), by omega⟩ := by
  unfold vV xV res_main_v22 res_main_v5
  pointwise

/-- The keys of the block before: zeros before the first. -/
theorem key_before (j : Fin 128) (d : Fin 64) : kV V b m ⟨j.val, by omega⟩ d
    = if b.val = 0 then 0 else xV V ⟨(b.val - 1) * 128 + j.val, by omega⟩ ⟨1024 + (m.val * 64 + d.val), by omega⟩ := by
  unfold kV xV res_main_v14 res_main_v4
  pointwise
  by_cases h : b.val = 0
  · rw [dif_pos (by omega), if_pos h]
  · rw [dif_neg (by omega), if_neg h]
    exact congrArg (V (Proc.devRef .tc main_arg0) : Vec Ideal S4096x1536 .bf16) (congrArg₂ ix2 (Fin.ext (by show b.val * 128 + j.val - 128 = (b.val - 1) * 128 + j.val; omega)) rfl)

theorem value_before (j : Fin 128) (d : Fin 64) : vV V b m ⟨j.val, by omega⟩ d
    = if b.val = 0 then 0 else xV V ⟨(b.val - 1) * 128 + j.val, by omega⟩ ⟨1280 + (m.val * 64 + d.val), by omega⟩ := by
  unfold vV xV res_main_v22 res_main_v5
  pointwise
  by_cases h : b.val = 0
  · rw [dif_pos (by omega), if_pos h]
  · rw [dif_neg (by omega), if_neg h]
    exact congrArg (V (Proc.devRef .tc main_arg0) : Vec Ideal S4096x1536 .bf16) (congrArg₂ ix2 (Fin.ext (by show b.val * 128 + j.val - 128 = (b.val - 1) * 128 + j.val; omega)) rfl)

/-- The gradient of the queries. -/
def queriesV : Vec Ideal S4096x1024 .bf16 :=
  shapeCast _ (truncf (F := Ideal) .bf16 (transpose S1x32x128x4x4x64 [0, 1, 3, 2, 4, 5] (Host.dotGeneral (F := Ideal) (φ₁ := .f32) (φ₂ := .f32) dot_S1x32x4x256x128x4_S1x32x256x4x64_S1x32x4x128x4x64_3_2_45_4_012_013 none (res_main_v148 V) (res_main_v14 V)) transposes_S1x32x4x128x4x64_S1x32x128x4x4x64_0_1_3_2_4_5) bitsLt_bf16_f32) shapeCasts_S1x32x128x4x4x64_S4096x1024

theorem queries_apply (d : Fin 64) : queriesV V (ix2 ⟨b.val * 128 + r.val, by omega⟩ ⟨m.val * 256 + g.val * 64 + d.val, by omega⟩)
    = ∑ j : Fin 256, scV V b m g r j * kV V b m j d := by
  unfold queriesV
  rw [shapeCast_apply _ _ _ (ix6 0 b r m g d) (by
    rw [Shape.rowMajor_val_six, Shape.rowMajor_val_two]
    show ((((0 * 32 + b.val) * 128 + r.val) * 4 + m.val) * 4 + g.val) * 64 + d.val = (b.val * 128 + r.val) * 1024 + (m.val * 256 + g.val * 64 + d.val)
    omega)]
  unfold scV kV
  pointwise
end Stages

/-- A window's gradient collected over the positions: what the position's own block gives and, where there is one, what the next block gives. -/
def collected (Z : Vec Ideal S1x32x256x4x64 .bf16) : Vec Ideal S4096x256 .bf16 :=
  shapeCast _ (addf (F := Ideal) (φ := .bf16) (shapeCast _ (extractStridedSlice S1x32x128x4x64 ![0, 0, 128, 0, 0] Z slices_S1x32x256x4x64_S1x32x128x4x64_0_0_128_0_0) shapeCasts_S1x32x128x4x64_S1x4096x4x64)
    (pad S1x4096x4x64 ![0, 0, 0, 0] ![0, 128, 0, 0] ![0, 0, 0, 0] (extractStridedSlice S1x3968x4x64 ![0, 128, 0, 0]
      (shapeCast S1x4096x4x64 (extractStridedSlice S1x32x128x4x64 ![0, 0, 0, 0, 0] Z slices_S1x32x256x4x64_S1x32x128x4x64_0_0_0_0_0) shapeCasts_S1x32x128x4x64_S1x4096x4x64)
      slices_S1x4096x4x64_S1x3968x4x64_0_128_0_0) (constant (F := Ideal) S_ .bf16 0x0000#16) pads_S1x3968x4x64_S1x4096x4x64_000_01280_000_000 h_S_)) shapeCasts_S1x4096x4x64_S4096x256

theorem collected_apply (Z : Vec Ideal S1x32x256x4x64 .bf16) (b : Fin 32) (r : Fin 128) (m : Fin 4) (d : Fin 64) :
    collected Z (ix2 ⟨b.val * 128 + r.val, by omega⟩ ⟨m.val * 64 + d.val, by omega⟩)
      = (Z (ix5 0 b ⟨128 + r.val, by omega⟩ m d) : EReal) + if h : b.val < 31 then Z (ix5 0 ⟨b.val + 1, by omega⟩ ⟨r.val, by omega⟩ m d) else 0 := by
  unfold collected
  rw [shapeCast_apply _ _ _ (ix4 0 ⟨b.val * 128 + r.val, by omega⟩ m d) (by
    rw [Shape.rowMajor_val_four, Shape.rowMajor_val_two]
    show ((0 * 4096 + (b.val * 128 + r.val)) * 4 + m.val) * 64 + d.val = (b.val * 128 + r.val) * 256 + (m.val * 64 + d.val)
    omega)]
  refine congrArg₂ (· + ·) ?_ ?_
  · rw [shapeCast_apply _ _ _ (ix5 0 b r m d) (by
      rw [Shape.rowMajor_val_four, Shape.rowMajor_val_five]
      show (((0 * 32 + b.val) * 128 + r.val) * 4 + m.val) * 64 + d.val = ((0 * 4096 + (b.val * 128 + r.val)) * 4 + m.val) * 64 + d.val
      omega)]
    pointwise
  · by_cases h : b.val < 31
    · rw [dif_pos h, pad_apply_of_inside _ _ _ _ _ _ _ _ (ix4 0 ⟨b.val * 128 + r.val, by omega⟩ m d) (fun a => by
        match a with
        | ⟨0, _⟩ => rfl
        | ⟨1, _⟩ => show b.val * 128 + r.val = 0 + (b.val * 128 + r.val) * 1; omega
        | ⟨2, _⟩ => show m.val = 0 + m.val * 1; omega
        | ⟨3, _⟩ => show d.val = 0 + d.val * 1; omega)]
      rw [extractStridedSlice_apply _ _ _ _ (ix4 0 ⟨b.val * 128 + r.val + 128, by omega⟩ m d) (fun a => by
        match a with
        | ⟨0, _⟩ => rfl
        | ⟨1, _⟩ => show b.val * 128 + r.val + 128 = 128 + (b.val * 128 + r.val); omega
        | ⟨2, _⟩ => show m.val = 0 + m.val; omega
        | ⟨3, _⟩ => show d.val = 0 + d.val; omega)]
      rw [shapeCast_apply _ _ _ (ix5 0 ⟨b.val + 1, by omega⟩ r m d) (by
        rw [Shape.rowMajor_val_four, Shape.rowMajor_val_five]
        show (((0 * 32 + (b.val + 1)) * 128 + r.val) * 4 + m.val) * 64 + d.val = ((0 * 4096 + (b.val * 128 + r.val + 128)) * 4 + m.val) * 64 + d.val
        omega)]
      pointwise
    · rw [dif_neg h, pad_apply_of_not_inside _ _ _ _ _ _ _ _ 1 (fun e => by
        have e2 : (b.val * 128 + r.val - 0) / 1 < 3968 := e.2.2
        omega)]
      pointwise

/-- The gradient of the projection, as the reference returns it. -/
def rowsV (V : Valuation τ sig (Elt Ideal)) : Vec Ideal S4096x1536 .bf16 :=
  concatenate S4096x1536 1 [⟨S4096x1024, queriesV V⟩, ⟨S4096x256, collected (res_main_v162 V)⟩, ⟨S4096x256, collected (res_main_v153 V)⟩] concatenates_S4096x1024_S4096x256_S4096x256_S4096x1536_d1

/-- The gradient of the sinks, as the reference returns it. -/
def sinksV (V : Valuation τ sig (Elt Ideal)) : Vec Ideal S1x128 .f32 :=
  pad S1x128 ![0, 0] ![0, 112] ![0, 0] (shapeCast _ (broadcastInDim S1x1x4x4x1x1 ![2, 3] bcast_S4x4_S1x1x4x4x1x1_2_3 (Host.reduceAdd (extractStridedSlice S1x32x4x4x128x1 ![0, 0, 0, 0, 0, 256] (res_main_v139 (V)) slices_S1x32x4x4x128x257_S1x32x4x4x128x1_0_0_0_0_0_256) (constant S_ .f32 0x00000000#32) reducesTo_S1x32x4x4x128x1_S4x4_d0_1_4_5 h_S_)) shapeCasts_S1x1x4x4x1x1_S1x16) (sitofp (F := Ideal) .f32 (constantI S_ 32 0#32)) pads_S1x16_S1x128_000_01120 h_S_

/-- The reference's run with its two results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v175) = rowsV (launchContents m c)
      ∧ r.2.mem ((c.tc : Thread nD τ).loc main_v176) = sinksV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  by
  have h := Value.run m ρ
  unfold res_main_v166 res_main_v157 at h
  exact h

end Cert.ReferenceIdeal.Read

end
-- ==== Proof.AttnReal.lean ====
/- Sums of real numbers among the extended ones: what distributes there. -/
module

public import Mathlib.Data.EReal.Operations
public import Mathlib.Data.EReal.Inv
public import Mathlib.Algebra.BigOperators.Fin
public import Idealize.ShloMosaic.PureOps.Ideal

@[expose] public section

namespace Cert.Attn

open Idealize.ShloMosaic

/-- A real number. -/
def IsReal (x : EReal) : Prop := ∃ r : ℝ, x = r

theorem IsReal.coe (r : ℝ) : IsReal r := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  rw [sub_eq_add_neg]; exact hx.add hy.neg

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A real factor goes into a sum of real numbers. -/
theorem sum_mul_real {ι : Type} (s : Finset ι) (f : ι → EReal) (h : ∀ i, IsReal (f i)) {c : EReal} (hc : IsReal c) : (∑ i ∈ s, f i) * c = ∑ i ∈ s, f i * c := by
  choose g hg using h
  obtain ⟨c, rfl⟩ := hc
  simp only [hg, ← coe_sum, ← EReal.coe_mul, Finset.sum_mul]

/-- A sign goes into a sum of real numbers. -/
theorem neg_sum_real {ι : Type} (s : Finset ι) (f : ι → EReal) (h : ∀ i, IsReal (f i)) : -(∑ i ∈ s, f i) = ∑ i ∈ s, -f i := by
  choose g hg using h
  simp only [hg, ← coe_sum, ← EReal.coe_neg, Finset.sum_neg_distrib]

/-- Division by a real number other than zero. -/
theorem div_real (x t : ℝ) (ht : t ≠ 0) : Ideal.div (x : EReal) (t : EReal) = ((x / t : ℝ) : EReal) := by
  unfold Ideal.div
  rw [if_neg (by exact_mod_cast ht), ← EReal.coe_inv, ← EReal.coe_mul, div_eq_mul_inv]

theorem IsReal.div {x t : EReal} (hx : IsReal x) (ht : IsReal t) (h0 : t ≠ 0) : IsReal (Ideal.div x t) := by
  obtain ⟨a, rfl⟩ := hx; obtain ⟨b, rfl⟩ := ht
  exact ⟨a / b, div_real a b (fun h => h0 (by rw [h]; rfl))⟩

theorem div_zero_left {t : EReal} (ht : IsReal t) (h0 : t ≠ 0) : Ideal.div 0 t = 0 := by
  obtain ⟨b, rfl⟩ := ht
  exact (div_real 0 b (fun h => h0 (by rw [h]; rfl))).trans (by simp)

/-- THE ROW: the gradient of a softmax's scores, once from the exponentials `e`, their sum `t` and the gradient `d`
    of the probabilities, and once from the probabilities `e / t`. -/
theorem score_row {n : ℕ} (d e : Fin n → EReal) (t : EReal) (hd : ∀ k, IsReal (d k)) (he : ∀ k, IsReal (e k)) (ht : IsReal t) (h0 : t ≠ 0) (j : Fin n) :
    (Ideal.div (d j) t + -∑ k, d k * Ideal.div 1 (t * t) * e k) * e j = Ideal.div (e j) t * (d j - ∑ k, Ideal.div (e k) t * d k) := by
  choose D hD using hd
  choose E hE using he
  obtain ⟨T, rfl⟩ := ht
  have hT : T ≠ 0 := fun h => h0 (by rw [h]; rfl)
  have h1 : Ideal.div 1 ((T * T : ℝ) : EReal) = ((1 / (T * T) : ℝ) : EReal) := div_real 1 (T * T) (mul_ne_zero hT hT)
  simp only [hD, hE, h1, div_real _ T hT, ← EReal.coe_mul, ← coe_sum, ← EReal.coe_neg, ← EReal.coe_add, ← EReal.coe_sub]
  refine congrArg (fun r : ℝ => (r : EReal)) ?_
  have e1 : ∑ k, D k * (1 / (T * T)) * E k = (∑ k, E k / T * D k) / T := by
    rw [Finset.sum_div]
    exact Finset.sum_congr rfl fun k _ => by field_simp
  rw [e1]
  field_simp
  ring

/-- A 32-bit pattern whose exponent is not all ones is a real number. -/
theorem ofBits_real_f32 (x : BitVec 32) (h : (x.extractLsb' 23 8).toNat ≠ 2 ^ 8 - 1) : IsReal (Ideal.ofBits .f32 x) := by
  show IsReal (Ideal.ieee 8 23 x)
  unfold Ideal.ieee
  simp only [if_neg h]
  split
  · exact ⟨_, rfl⟩
  · exact ⟨_, rfl⟩

end Cert.Attn

end
-- ==== Proof.AttnMatch.lean ====
/- The launch's two arrays against the reference's: the same gradients, read entry by entry. -/
module

public import proofs.«01_k».proof.Proof.AttnArrays
public import proofs.«01_k».proof.Proof.AttnRef
public import proofs.«01_k».proof.Proof.AttnReal

@[expose] public section

set_option maxRecDepth 16384
set_option maxHeartbeats 4000000

noncomputable section

namespace Cert.KernelIdeal.Hand

open Idealize.ShloMosaic Cert.KernelIdeal.Gen Cert.ReferenceIdeal.Read Cert.Attn

/-- The launch's arrays hold the reference's stages, and those are real numbers. -/
structure Agree (A : Vec Ideal S4096x1536 .bf16) (G : Vec Ideal S4096x1024 .bf16) (P : Vec Ideal S4096x4096 .bf16) (S : Vec Ideal S4096x128 .f32)
    (V : Valuation Cert.ReferenceIdeal.τ Cert.ReferenceIdeal.sig (Elt Ideal)) : Prop where
  proj : ∀ i k, A (p2 i k) = xV V i k
  grad : ∀ i k, G (p2 i k) = gV V i k
  prob : ∀ (b : Fin 32) (m g : Fin 4) (r : Fin 128) (j : Fin 256), P (p2 (rowAt b r) ⟨256 * (4 * m.val + g.val) + j.val, by omega⟩) = pV V b m g r j
  sink : ∀ (b : Fin 32) (m g : Fin 4) (r : Fin 128), S (p2 (rowAt b r) ⟨4 * m.val + g.val, by omega⟩) = Ideal.div (eV V b m g r 256) (tV V b m g r)
  proj_real : ∀ i k, IsReal (xV V i k)
  grad_real : ∀ i k, IsReal (gV V i k)
  expo_real : ∀ b m g r j, IsReal (eV V b m g r j)
  total_real : ∀ b m g r, IsReal (tV V b m g r)
  total_ne : ∀ b m g r, tV V b m g r ≠ 0
  masked : ∀ b m g r (j : Fin 256), okV V b m g r j ≠ 1#1 → eV V b m g r ⟨j.val, by omega⟩ = 0
  first : ∀ (b : Fin 32) m g r (j : Fin 128), b.val = 0 → eV V b m g r ⟨j.val, by omega⟩ = 0

/-- A window's two halves. -/
theorem sum_halves {M : Type} [AddCommMonoid M] (f : Fin 256 → M) :
    ∑ j, f j = (∑ j : Fin 128, f ⟨j.val, by omega⟩) + ∑ j : Fin 128, f ⟨128 + j.val, by omega⟩ :=
  Fin.sum_univ_add (a := 128) (b := 128) f

section Match
variable {A : Vec Ideal S4096x1536 .bf16} {G : Vec Ideal S4096x1024 .bf16} {P : Vec Ideal S4096x4096 .bf16} {S : Vec Ideal S4096x128 .f32}
    {V : Valuation Cert.ReferenceIdeal.τ Cert.ReferenceIdeal.sig (Elt Ideal)} (H : Agree A G P S V)
variable (b : Fin 32) (m g : Fin 4) (r : Fin 128)
include H

theorem value_at (j : Fin 128) (d : Fin 64) : valuesOf A b m (p2 j d) = vV V b m ⟨128 + j.val, by omega⟩ d := by
  rw [value_own]
  refine Eq.trans ?_ (H.proj _ _)
  exact congrArg A (congrArg₂ p2 (Fin.ext (by show 128 * b.val + j.val = b.val * 128 + j.val; omega))
    (Fin.ext (by show 1280 + 64 * m.val + d.val = 1280 + (m.val * 64 + d.val); omega)))

theorem key_at (j : Fin 128) (d : Fin 64) : keysOf A b m (p2 j d) = kV V b m ⟨128 + j.val, by omega⟩ d := by
  rw [key_own]
  refine Eq.trans ?_ (H.proj _ _)
  exact congrArg A (congrArg₂ p2 (Fin.ext (by show 128 * b.val + j.val = b.val * 128 + j.val; omega))
    (Fin.ext (by show 1024 + 64 * m.val + d.val = 1024 + (m.val * 64 + d.val); omega)))

theorem value_prev (hb : b.val ≠ 0) (j : Fin 128) (d : Fin 64) : valuesOf A (before b) m (p2 j d) = vV V b m ⟨j.val, by omega⟩ d := by
  rw [value_before, if_neg hb]
  refine Eq.trans ?_ (H.proj _ _)
  exact congrArg A (congrArg₂ p2 (Fin.ext (by show 128 * (b.val - 1) + j.val = (b.val - 1) * 128 + j.val; omega))
    (Fin.ext (by show 1280 + 64 * m.val + d.val = 1280 + (m.val * 64 + d.val); omega)))

theorem key_prev (hb : b.val ≠ 0) (j : Fin 128) (d : Fin 64) : keysOf A (before b) m (p2 j d) = kV V b m ⟨j.val, by omega⟩ d := by
  rw [key_before, if_neg hb]
  refine Eq.trans ?_ (H.proj _ _)
  exact congrArg A (congrArg₂ p2 (Fin.ext (by show 128 * (b.val - 1) + j.val = (b.val - 1) * 128 + j.val; omega))
    (Fin.ext (by show 1024 + 64 * m.val + d.val = 1024 + (m.val * 64 + d.val); omega)))

theorem query_at (d : Fin 64) : headOf (by decide) A b (hd m g) (p2 r d) = qV V b m g r d := by
  rw [query_apply]
  refine Eq.trans ?_ (H.proj _ _)
  exact congrArg A (congrArg₂ p2 (Fin.ext (by show 128 * b.val + r.val = b.val * 128 + r.val; omega))
    (Fin.ext (by show 64 * (4 * m.val + g.val) + d.val = m.val * 256 + g.val * 64 + d.val; omega)))

theorem dout_at (d : Fin 64) : headOf (by decide) G b (hd m g) (p2 r d) = oV V b m g r d := by
  rw [dout_apply]
  refine Eq.trans ?_ (H.grad _ _)
  exact congrArg G (congrArg₂ p2 (Fin.ext (by show 128 * b.val + r.val = b.val * 128 + r.val; omega))
    (Fin.ext (by show 64 * (4 * m.val + g.val) + d.val = m.val * 256 + g.val * 64 + d.val; omega)))

theorem prob_prev (j : Fin 128) : sqP (squareOf P b) m g (p2 r j) = pV V b m g r ⟨j.val, by omega⟩ := by
  refine Eq.trans ?_ (H.prob _ _ _ _ _)
  exact congrArg P (congrArg₂ p2 rfl (Fin.ext (by show 128 * (2 * (4 * m.val + g.val)) + j.val = 256 * (4 * m.val + g.val) + j.val; omega)))

theorem prob_at (j : Fin 128) : sqC (squareOf P b) m g (p2 r j) = pV V b m g r ⟨128 + j.val, by omega⟩ := by
  refine Eq.trans ?_ (H.prob _ _ _ _ _)
  exact congrArg P (congrArg₂ p2 rfl (Fin.ext (by show 128 * (2 * (4 * m.val + g.val) + 1) + j.val = 256 * (4 * m.val + g.val) + (128 + j.val); omega)))

/-! ## Real numbers -/

omit H in
theorem c8_real : IsReal c8 := ofBits_real_f32 _ (by decide)

theorem prob_real (j : Fin 256) : IsReal (pV V b m g r j) := by
  rw [prob_apply]
  exact (H.expo_real _ _ _ _ _).div (H.total_real _ _ _ _) (H.total_ne _ _ _ _)

theorem query_real (d : Fin 64) : IsReal (qV V b m g r d) := by rw [query_apply]; exact H.proj_real _ _
theorem dout_real (d : Fin 64) : IsReal (oV V b m g r d) := by rw [dout_apply]; exact H.grad_real _ _

theorem key_real (j : Fin 256) (d : Fin 64) : IsReal (kV V b m j d) := by
  by_cases hj : j.val < 128
  · rw [show j = ⟨(⟨j.val, hj⟩ : Fin 128).val, by omega⟩ from rfl, key_before]
    split
    · exact IsReal.zero
    · exact H.proj_real _ _
  · rw [show j = ⟨128 + (⟨j.val - 128, by omega⟩ : Fin 128).val, by simp only; omega⟩ from Fin.ext (by simp only; omega), key_own]
    exact H.proj_real _ _

theorem value_real (j : Fin 256) (d : Fin 64) : IsReal (vV V b m j d) := by
  by_cases hj : j.val < 128
  · rw [show j = ⟨(⟨j.val, hj⟩ : Fin 128).val, by omega⟩ from rfl, value_before]
    split
    · exact IsReal.zero
    · exact H.proj_real _ _
  · rw [show j = ⟨128 + (⟨j.val - 128, by omega⟩ : Fin 128).val, by simp only; omega⟩ from Fin.ext (by simp only; omega), value_own]
    exact H.proj_real _ _

theorem dprob_real (j : Fin 257) : IsReal (dpV V b m g r j) := by
  by_cases hj : j.val < 256
  · rw [show j = ⟨(⟨j.val, hj⟩ : Fin 256).val, by omega⟩ from rfl, Cert.ReferenceIdeal.Read.dprob_apply]
    exact IsReal.sum _ _ fun d => (dout_real H _ _ _ _ _).mul (value_real H _ _ _ _)
  · rw [show j = 256 from Fin.ext (by show j.val = 256; omega), dprob_sink]
    exact IsReal.zero

theorem prob_first (hb : b.val = 0) (j : Fin 128) : pV V b m g r ⟨j.val, by omega⟩ = 0 := by
  rw [prob_apply, H.first b m g r j hb]
  exact div_zero_left (H.total_real _ _ _ _) (H.total_ne _ _ _ _)

/-! ## The gradient of the scores -/

/-- A row's sum of products. -/
def deltaV (V : Valuation Cert.ReferenceIdeal.τ Cert.ReferenceIdeal.sig (Elt Ideal)) (b : Fin 32) (m g : Fin 4) (r : Fin 128) : EReal :=
  ∑ k : Fin 256, pV V b m g r k * dpV V b m g r ⟨k.val, by omega⟩
/-- The gradient of a score from the probabilities. -/
def dsP (V : Valuation Cert.ReferenceIdeal.τ Cert.ReferenceIdeal.sig (Elt Ideal)) (b : Fin 32) (m g : Fin 4) (r : Fin 128) (j : Fin 256) : EReal :=
  pV V b m g r j * (dpV V b m g r ⟨j.val, by omega⟩ - deltaV V b m g r)

theorem dprob_at (j : Fin 128) : dprob (valuesOf A b m) (grp (headOf (by decide) G b) m) g (p2 r j) = dpV V b m g r ⟨128 + j.val, by omega⟩ := by
  refine (Hand.dprob_apply _ _ _ _ _).trans (Eq.trans ?_ (Cert.ReferenceIdeal.Read.dprob_apply V b m g r ⟨128 + j.val, by omega⟩).symm)
  exact Finset.sum_congr rfl fun d _ => congrArg₂ (· * ·) (dout_at H b m g r d) (value_at H b m j d)

theorem dprob_prev (hb : b.val ≠ 0) (j : Fin 128) : dprob (valuesOf A (before b) m) (grp (headOf (by decide) G b) m) g (p2 r j) = dpV V b m g r ⟨j.val, by omega⟩ := by
  refine (Hand.dprob_apply _ _ _ _ _).trans (Eq.trans ?_ (Cert.ReferenceIdeal.Read.dprob_apply V b m g r ⟨j.val, by omega⟩).symm)
  exact Finset.sum_congr rfl fun d _ => congrArg₂ (· * ·) (dout_at H b m g r d) (value_prev H b m hb j d)

theorem delta_at : deltaG (valuesOf A (before b) m) (valuesOf A b m) (grp (headOf (by decide) G b) m) (sqP (squareOf P b) m) (sqC (squareOf P b) m) g (p2 r 0) = deltaV V b m g r := by
  rw [deltaG_apply]
  unfold deltaV
  rw [sum_halves]
  refine congrArg₂ (· + ·) (Finset.sum_congr rfl fun j _ => ?_) (Finset.sum_congr rfl fun j _ => ?_)
  · rw [prob_prev H]
    by_cases hb : b.val = 0
    · rw [prob_first H b m g r hb, zero_mul, zero_mul]
    · rw [dprob_prev H b m g r hb]
  · rw [prob_at H, dprob_at H]

theorem dscore_at (j : Fin 128) :
    dscore (valuesOf A (before b) m) (valuesOf A b m) (grp (headOf (by decide) G b) m) (sqP (squareOf P b) m) (sqC (squareOf P b) m) (valuesOf A b m) (sqC (squareOf P b) m) g (p2 r j)
      = dsP V b m g r ⟨128 + j.val, by omega⟩ := by
  rw [Hand.dscore_apply, delta_at H, prob_at H, dprob_at H]
  rfl

theorem dscore_prev (j : Fin 128) :
    dscore (valuesOf A (before b) m) (valuesOf A b m) (grp (headOf (by decide) G b) m) (sqP (squareOf P b) m) (sqC (squareOf P b) m) (valuesOf A (before b) m) (sqP (squareOf P b) m) g (p2 r j)
      = dsP V b m g r ⟨j.val, by omega⟩ := by
  rw [Hand.dscore_apply, delta_at H, prob_prev H]
  unfold dsP
  by_cases hb : b.val = 0
  · rw [prob_first H b m g r hb, zero_mul, zero_mul]
  · rw [dprob_prev H b m g r hb]

theorem delta_real : IsReal (deltaV V b m g r) := IsReal.sum _ _ fun k => (prob_real H _ _ _ _ _).mul (dprob_real H _ _ _ _ _)
theorem dsP_real (j : Fin 256) : IsReal (dsP V b m g r j) := (prob_real H _ _ _ _ _).mul ((dprob_real H _ _ _ _ _).sub (delta_real H _ _ _ _))

theorem delta_eq : ∑ k : Fin 257, Ideal.div (eV V b m g r k) (tV V b m g r) * dpV V b m g r k = deltaV V b m g r := by
  rw [Fin.sum_univ_castSucc]
  show (∑ k : Fin 256, Ideal.div (eV V b m g r ⟨k.val, by omega⟩) (tV V b m g r) * dpV V b m g r ⟨k.val, by omega⟩) + Ideal.div (eV V b m g r 256) (tV V b m g r) * dpV V b m g r 256 = _
  rw [dprob_sink, mul_zero, add_zero]
  unfold deltaV
  exact Finset.sum_congr rfl fun k _ => by rw [prob_apply]

theorem dsV_eq (j : Fin 257) : dsV V b m g r j = Ideal.div (eV V b m g r j) (tV V b m g r) * (dpV V b m g r j - deltaV V b m g r) := by
  rw [Cert.ReferenceIdeal.Read.dscore_apply, score_row _ _ _ (dprob_real H b m g r) (H.expo_real b m g r) (H.total_real _ _ _ _) (H.total_ne _ _ _ _), delta_eq H]

theorem dsV_key (j : Fin 256) : dsV V b m g r ⟨j.val, by omega⟩ = dsP V b m g r j := by
  rw [dsV_eq H]
  unfold dsP
  rw [prob_apply]

theorem scaled_eq (j : Fin 256) : scV V b m g r j = dsP V b m g r j * c8 := by
  rw [scaled_apply]
  split
  · rw [dsV_key H]; rfl
  · rename_i hn
    unfold dsP
    rw [prob_apply, H.masked b m g r j hn, div_zero_left (H.total_real _ _ _ _) (H.total_ne _ _ _ _), zero_mul, zero_mul]

theorem dsV_sink : dsV V b m g r 256 = -(Ideal.div (eV V b m g r 256) (tV V b m g r) * deltaV V b m g r) := by
  rw [dsV_eq H, dprob_sink, zero_sub, mul_neg]

/-! ## The gradients -/

theorem dquery_at (d : Fin 64) :
    dquery (keysOf A (before b) m) (keysOf A b m) (valuesOf A (before b) m) (valuesOf A b m) (grp (headOf (by decide) G b) m) (sqP (squareOf P b) m) (sqC (squareOf P b) m) g (p2 r d)
      = ∑ j : Fin 256, scV V b m g r j * kV V b m j d := by
  rw [dquery_apply]
  have e : (∑ j : Fin 256, scV V b m g r j * kV V b m j d) = (∑ j : Fin 256, dsP V b m g r j * kV V b m j d) * c8 := by
    rw [sum_mul_real _ _ (fun j => (dsP_real H _ _ _ _ _).mul (key_real H _ _ _ _)) c8_real]
    exact Finset.sum_congr rfl fun j _ => by rw [scaled_eq H, mul_right_comm]
  rw [e, sum_halves]
  refine congrArg (· * c8) (congrArg₂ (· + ·) (Finset.sum_congr rfl fun j _ => ?_) (Finset.sum_congr rfl fun j _ => ?_))
  · rw [dscore_prev H]
    by_cases hb : b.val = 0
    · unfold dsP
      rw [prob_first H b m g r hb, zero_mul, zero_mul, zero_mul]
    · rw [key_prev H b m hb]
  · rw [dscore_at H, key_at H]

theorem dkey_sum (j : Fin 256) (d : Fin 64) : (∑ g : Fin 4, ∑ r : Fin 128, dsP V b m g r j * qV V b m g r d) * c8 = dkV V b m j d := by
  rw [Cert.ReferenceIdeal.Read.dkey_apply, Finset.sum_comm]
  rw [sum_mul_real _ _ (fun r => IsReal.sum _ _ fun g => (dsP_real H _ _ _ _ _).mul (query_real H _ _ _ _ _)) c8_real]
  refine Finset.sum_congr rfl fun r _ => ?_
  rw [sum_mul_real _ _ (fun g => (dsP_real H _ _ _ _ _).mul (query_real H _ _ _ _ _)) c8_real]
  exact Finset.sum_congr rfl fun g _ => by rw [scaled_eq H, mul_right_comm]

theorem dkey_at (j : Fin 128) (d : Fin 64) :
    dkey (valuesOf A (before b) m) (valuesOf A b m) (grp (headOf (by decide) A b) m) (grp (headOf (by decide) G b) m) (sqP (squareOf P b) m) (sqC (squareOf P b) m) (valuesOf A b m) (sqC (squareOf P b) m) (p2 j d)
      = dkV V b m ⟨128 + j.val, by omega⟩ d := by
  rw [Hand.dkey_apply, ← dkey_sum H]
  exact congrArg (· * c8) (Finset.sum_congr rfl fun g _ => Finset.sum_congr rfl fun r _ => congrArg₂ (· * ·) (dscore_at H b m g r j) (query_at H b m g r d))

theorem dkey_prev (j : Fin 128) (d : Fin 64) :
    dkey (valuesOf A (before b) m) (valuesOf A b m) (grp (headOf (by decide) A b) m) (grp (headOf (by decide) G b) m) (sqP (squareOf P b) m) (sqC (squareOf P b) m) (valuesOf A (before b) m) (sqP (squareOf P b) m) (p2 j d)
      = dkV V b m ⟨j.val, by omega⟩ d := by
  rw [Hand.dkey_apply, ← dkey_sum H]
  exact congrArg (· * c8) (Finset.sum_congr rfl fun g _ => Finset.sum_congr rfl fun r _ => congrArg₂ (· * ·) (dscore_prev H b m g r j) (query_at H b m g r d))

theorem dvalue_at (j : Fin 128) (d : Fin 64) :
    dvalue (grp (headOf (by decide) G b) m) (sqC (squareOf P b) m) (p2 j d) = dvV V b m ⟨128 + j.val, by omega⟩ d := by
  rw [Hand.dvalue_apply, Cert.ReferenceIdeal.Read.dvalue_apply]
  exact Finset.sum_congr rfl fun g _ => Finset.sum_congr rfl fun r _ => by rw [mul_comm]; exact congrArg₂ (· * ·) (dout_at H b m g r d) (prob_at H b m g r j)

theorem dvalue_prev (j : Fin 128) (d : Fin 64) :
    dvalue (grp (headOf (by decide) G b) m) (sqP (squareOf P b) m) (p2 j d) = dvV V b m ⟨j.val, by omega⟩ d := by
  rw [Hand.dvalue_apply, Cert.ReferenceIdeal.Read.dvalue_apply]
  exact Finset.sum_congr rfl fun g _ => Finset.sum_congr rfl fun r _ => by rw [mul_comm]; exact congrArg₂ (· * ·) (dout_at H b m g r d) (prob_prev H b m g r j)

end Match

end Cert.KernelIdeal.Hand

end
-- ==== Proof.AttnResult.lean ====
/- The two arrays the attention gradient's launch leaves, and its run with them named. -/
module

public import proofs.«01_k».proof.Proof.AttnArrays

@[expose] public section

set_option maxRecDepth 16384

noncomputable section

namespace Cert.KernelIdeal.Hand

open Idealize.ShloMosaic Idealize.ShloMosaic.Tactic Idealize.ShloMosaic.TcCoe Cert.KernelIdeal.Gen Idealize.SL.Sem
open Idealize.ShloMosaic.Pipeline (Dat)

section Arrays
variable (A : Vec Ideal S4096x1536 .bf16) (G : Vec Ideal S4096x1024 .bf16) (P : Vec Ideal S4096x4096 .bf16) (S : Vec Ideal S4096x128 .f32)
/-- The whole array of gradients. -/
def rowsAll : Vec Ideal S4096x1536 .bf16 := fun i =>
  rowsOf A G P ⟨(i 0).val / 128, by have : (i 0).val < 4096 := (i 0).isLt; omega⟩ (p2 ⟨(i 0).val % 128, Nat.mod_lt _ (by decide)⟩ ⟨(i 1).val, (i 1).isLt⟩)
/-- The sinks' row of gradients. -/
def sinkAll : Vec Ideal S1x128 .f32 := fun y => ∑ b : Fin 32, sinkOf A G P S b y
/-- The array at row `r` of block `b`. -/
theorem rowsAll_apply (b : Fin 32) (y : S128x1536.Idx) (i : S4096x1536.Idx) (h0 : (i 0).val = 128 * b.val + (y 0).val) (h1 : (i 1).val = (y 1).val) :
    rowsAll A G P i = rowsOf A G P b y := by
  have hy : (y 0).val < 128 := (y 0).isLt
  have e : (⟨(i 0).val / 128, by have : (i 0).val < 4096 := (i 0).isLt; omega⟩ : Fin 32) = b := Fin.ext (by show (i 0).val / 128 = b.val; omega)
  have e' : (p2 ⟨(i 0).val % 128, Nat.mod_lt _ (by decide)⟩ ⟨(i 1).val, (i 1).isLt⟩ : S128x1536.Idx) = y := funext fun a => Fin.ext (by
    match a with
    | 0 => show (i 0).val % 128 = (y 0).val; omega
    | 1 => exact h1)
  unfold rowsAll
  rw [e, e']
end Arrays

variable (m : (ℓ : Loc nD τ sig) → Buf (Elt Ideal) ℓ) (ρ : Dev nD → PrngReg)

theorem flush8_pos : ∀ t : Fin cfg0.N, (cfg0.win 8).flush t = true → 1 ≤ t.val := by decide +kernel

theorem emb_dz (t : Fin cfg0.N) (y : S128x1536.Idx) :
    ((((cfg0.win 8).blk t).view.emb y : S4096x1536.Idx) 0).val = 128 * (t.val - 1) + (y 0).val
      ∧ ((((cfg0.win 8).blk t).view.emb y : S4096x1536.Idx) 1).val = (y 1).val := by
  have hi := index_dz t
  constructor
  · show cc0_transform_8 (grid0.coords t) 0 * 128 + 1 * (y 0).val = 128 * (t.val - 1) + (y 0).val
    rw [hi]
    show (t.val - 1) * 128 + _ = _
    omega
  · show cc0_transform_8 (grid0.coords t) 1 * 1536 + 1 * (y 1).val = (y 1).val
    rw [hi]
    show 0 * 1536 + _ = _
    omega

/-- The array of gradients after the run. -/
theorem rows_final (c : Dev nD) : (dats m 0 c).arrAt 8 cfg0.N = rowsAll (projA m c) (gradA m c) (probA m c) := by
  refine (dats m 0 c).arrAt_eq_of_covers 8 _ (by decide +kernel) fun t hf y => ?_
  have h1 := flush8_pos t hf
  have ht : t.val < 33 := t.isLt
  have e := emb_dz t y
  refine Eq.trans ?_ (rowsAll_apply _ _ _ ⟨t.val - 1, by omega⟩ y _ e.1 e.2).symm
  refine Eq.trans ?_ (left_rows m c t ⟨t.val - 1, by omega⟩ (by show t.val = t.val - 1 + 1; omega) y)
  blk_simp
  rw [after0_8]

theorem whole9 : ∀ t : Fin cfg0.N, t.val = 32 → (cfg0.win 9).WholeAt t := by decide +kernel

/-- What the last point leaves in the sinks' row: the sum over every block. -/
theorem sinks_sum (c : Dev nD) (t : Fin cfg0.N) (ht : t.val = 32) (y : S1x128.Idx) :
    (outsAt0 m c t.val t.isLt).2.1 y = sinkAll (projA m c) (gradA m c) (probA m c) (sinkA m c) y := by
  rw [sinks_last m c t ht]
  have key : ∀ (n : ℕ) (hn : n < cfg0.N), n = 31 → (outsAt0 m c n hn).2.1 y = sinkAll (projA m c) (gradA m c) (probA m c) (sinkA m c) y := by
    intro n hn e
    rw [summed m c y n (by omega) hn]
    clear hn
    subst e
    rfl
  exact key _ _ (by omega)

/-- The sinks' row of gradients after the run. -/
theorem sinks_final (c : Dev nD) (t : Fin cfg0.N) (ht : t.val = 32) :
    (dats m 0 c).arrAt 9 cfg0.N = sinkAll (projA m c) (gradA m c) (probA m c) (sinkA m c) := by
  refine (dats m 0 c).arrAt_eq_of_after_last 9 t (whole9 t ht) _ fun j => ?_
  refine Eq.trans ?_ (sinks_sum m c t ht j)
  blk_simp
  exact congrFun (after0_9 m c t) _

/-- The run, its two arrays named, its arguments as launched. -/
theorem run_named : θ_run defs (onTc (τ := τ) (main (F := Ideal))) ⟨m, fun _ => 0, ρ⟩ fun r => ∀ c : Dev nD,
      (r.2.mem ((c.tc : Thread nD τ).loc main_v101_0) = rowsAll (projA m c) (gradA m c) (probA m c)
      ∧ r.2.mem ((c.tc : Thread nD τ).loc main_v101_1) = sinkAll (projA m c) (gradA m c) (probA m c) (sinkA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨((h.1 c).1 8).trans (rows_final m c), ((h.1 c).1 9).trans (sinks_final m c ⟨32, by decide⟩ rfl)⟩, h.2 c⟩)
    (θ_run_and (run_main m ρ) (unchanged m ρ))

end Cert.KernelIdeal.Hand

end
-- ==== Proof.AttnWhole.lean ====
/- The launch's two arrays are the reference's two results. -/
module

public import proofs.«01_k».proof.Proof.AttnMatch
public import proofs.«01_k».proof.Proof.AttnResult
public import Idealize.ShloMosaic.Lib.KernelVsHost

@[expose] public section

set_option maxRecDepth 16384
set_option maxHeartbeats 4000000

noncomputable section

namespace Cert.ReferenceIdeal.Read

open Idealize.ShloMosaic Cert.ReferenceIdeal.Gen Cert.ReferenceIdeal.Value

variable (V : Valuation τ sig (Elt Ideal))

theorem rowsV_query (i : Fin 4096) (k : Fin 1024) : rowsV V (ix2 i ⟨k.val, by omega⟩) = queriesV V (ix2 i k) := by
  unfold rowsV
  pointwise

theorem rowsV_key (i : Fin 4096) (k : Fin 256) : rowsV V (ix2 i ⟨1024 + k.val, by omega⟩) = collected (res_main_v162 V) (ix2 i k) := by
  unfold rowsV
  pointwise

theorem rowsV_value (i : Fin 4096) (k : Fin 256) : rowsV V (ix2 i ⟨1280 + k.val, by omega⟩) = collected (res_main_v153 V) (ix2 i k) := by
  unfold rowsV
  pointwise
  rw [dif_neg (by omega), dif_neg (by omega)]
  exact congrArg (fun q => collected (res_main_v153 V) (ix2 i q)) (Fin.ext (by show 1280 + k.val - 1024 - 256 = k.val; omega))

theorem sitofp_zero : (FloatOps.sitofp (F := Ideal) .f32 (0#32) : EReal) = 0 := by
  show (((BitVec.toInt 0#32 : ℤ) : ℝ) : EReal) = 0
  simp

theorem sinksV_low (m g : Fin 4) : (sinksV V (ix2 0 ⟨4 * m.val + g.val, by omega⟩) : EReal) = ∑ b : Fin 32, ∑ r : Fin 128, dsV V b m g r 256 := by
  have em : (4 * m.val + g.val) / 4 = m.val := by omega
  have eg : (4 * m.val + g.val) % 4 = g.val := by omega
  unfold sinksV
  pointwise
  rw [dif_pos (by omega)]
  refine (sum0145 _ _ _ _).trans ?_
  rw [zero_add]
  unfold dsV
  pointwise

theorem sinksV_high (l : Fin 128) (h : 16 ≤ l.val) : (sinksV V (ix2 0 l) : EReal) = 0 := by
  unfold sinksV
  pointwise
  rw [dif_neg (by omega)]
  exact sitofp_zero

end Cert.ReferenceIdeal.Read

namespace Cert.KernelIdeal.Hand

open Idealize.ShloMosaic Cert.KernelIdeal.Gen Cert.ReferenceIdeal.Read Cert.Attn

section Match
variable {A : Vec Ideal S4096x1536 .bf16} {G : Vec Ideal S4096x1024 .bf16} {P : Vec Ideal S4096x4096 .bf16} {S : Vec Ideal S4096x128 .f32}
    {V : Valuation Cert.ReferenceIdeal.τ Cert.ReferenceIdeal.sig (Elt Ideal)} (H : Agree A G P S V)
include H

/-- The columns of the queries. -/
theorem rows_query (b : Fin 32) (r : Fin 128) (m g : Fin 4) (d : Fin 64) :
    rowsAll A G P (p2 (rowAt b r) ⟨256 * m.val + 64 * g.val + d.val, by omega⟩) = ∑ j : Fin 256, scV V b m g r j * kV V b m j d := by
  rw [rowsAll_apply A G P b (p2 r ⟨256 * m.val + 64 * g.val + d.val, by omega⟩) _ rfl rfl, ← dquery_at H]
  have e : ownOf A G P b (p2 r ⟨256 * m.val + 64 * g.val + d.val, by omega⟩) = _ := ownAt_query _ _ _ _ _ _ _ m g (p2 r d) _ rfl rfl
  by_cases h : b.val < 31
  · rw [rowsOf_of_lt _ _ _ _ _ h, leaving_low _ _ _ (by show 256 * m.val + 64 * g.val + d.val < 1024; omega)]
    exact e
  · rw [rowsOf_of_not _ _ _ _ _ h]
    exact e

/-- The columns of the keys. -/
theorem rows_key (b : Fin 32) (r : Fin 128) (m : Fin 4) (d : Fin 64) :
    rowsAll A G P (p2 (rowAt b r) ⟨1024 + 64 * m.val + d.val, by omega⟩)
      = dkV V b m ⟨128 + r.val, by omega⟩ d + if h : b.val < 31 then dkV V ⟨b.val + 1, by omega⟩ m ⟨r.val, by omega⟩ d else 0 := by
  rw [rowsAll_apply A G P b (p2 r ⟨1024 + 64 * m.val + d.val, by omega⟩) _ rfl rfl]
  have e : ownOf A G P b (p2 r ⟨1024 + 64 * m.val + d.val, by omega⟩) = dkV V b m ⟨128 + r.val, by omega⟩ d :=
    (ownAt_key _ _ _ _ _ _ _ m (p2 r d) _ rfl rfl).trans (dkey_at H b m r d)
  by_cases h : b.val < 31
  · rw [rowsOf_of_lt _ _ _ _ _ h, dif_pos h, leaving_high _ _ (p2 r ⟨64 * m.val + d.val, by omega⟩) _ rfl (by show 1024 + 64 * m.val + d.val = 1024 + (64 * m.val + d.val); omega), e]
    exact congrArg (_ + ·) ((backAt_key _ _ _ _ _ m (p2 r d) _ rfl rfl).trans (dkey_prev H ⟨b.val + 1, by omega⟩ m r d))
  · rw [rowsOf_of_not _ _ _ _ _ h, dif_neg h, add_zero]
    exact e

/-- The columns of the values. -/
theorem rows_value (b : Fin 32) (r : Fin 128) (m : Fin 4) (d : Fin 64) :
    rowsAll A G P (p2 (rowAt b r) ⟨1280 + 64 * m.val + d.val, by omega⟩)
      = dvV V b m ⟨128 + r.val, by omega⟩ d + if h : b.val < 31 then dvV V ⟨b.val + 1, by omega⟩ m ⟨r.val, by omega⟩ d else 0 := by
  rw [rowsAll_apply A G P b (p2 r ⟨1280 + 64 * m.val + d.val, by omega⟩) _ rfl rfl]
  have e : ownOf A G P b (p2 r ⟨1280 + 64 * m.val + d.val, by omega⟩) = dvV V b m ⟨128 + r.val, by omega⟩ d :=
    (ownAt_value _ _ _ _ _ _ _ m (p2 r d) _ rfl rfl).trans (dvalue_at H b m r d)
  by_cases h : b.val < 31
  · rw [rowsOf_of_lt _ _ _ _ _ h, dif_pos h, leaving_high _ _ (p2 r ⟨256 + 64 * m.val + d.val, by omega⟩) _ rfl (by show 1280 + 64 * m.val + d.val = 1024 + (256 + 64 * m.val + d.val); omega), e]
    exact congrArg (_ + ·) ((backAt_value _ _ _ _ _ m (p2 r d) _ rfl rfl).trans (dvalue_prev H ⟨b.val + 1, by omega⟩ m r d))
  · rw [rowsOf_of_not _ _ _ _ _ h, dif_neg h, add_zero]
    exact e

/-- The array of rows. -/
theorem rows_match : rowsAll A G P = rowsV V := by
  funext i
  obtain ⟨b, hb⟩ : ∃ b : Fin 32, b.val = (i 0).val / 128 := ⟨⟨(i 0).val / 128, by have : (i 0).val < 4096 := (i 0).isLt; omega⟩, rfl⟩
  obtain ⟨r, hr⟩ : ∃ r : Fin 128, r.val = (i 0).val % 128 := ⟨⟨(i 0).val % 128, by omega⟩, rfl⟩
  have hlt : (i 1).val < 1536 := (i 1).isLt
  obtain ⟨d, hd⟩ : ∃ d : Fin 64, d.val = (i 1).val % 64 := ⟨⟨(i 1).val % 64, by omega⟩, rfl⟩
  obtain ⟨m, hm⟩ : ∃ m : Fin 4, m.val = if (i 1).val < 1024 then (i 1).val / 256 else (i 1).val / 64 % 4 :=
    ⟨⟨if (i 1).val < 1024 then (i 1).val / 256 else (i 1).val / 64 % 4, by split <;> omega⟩, rfl⟩
  obtain ⟨g, hg⟩ : ∃ g : Fin 4, g.val = (i 1).val / 64 % 4 := ⟨⟨(i 1).val / 64 % 4, by omega⟩, rfl⟩
  have two : ∀ (u : Fin 4096) (k : Fin 1536), u.val = (i 0).val → k.val = (i 1).val → i = ix2 u k := fun u k h0 h1 => funext fun a => Fin.ext (by
    match a with
    | 0 => exact h0.symm
    | 1 => exact h1.symm)
  by_cases h1 : (i 1).val < 1024
  · rw [if_pos h1] at hm
    rw [two (rowAt b r) ⟨256 * m.val + 64 * g.val + d.val, by omega⟩ (by show 128 * b.val + r.val = _; omega) (by show 256 * m.val + 64 * g.val + d.val = _; omega)]
    refine (rows_query H b r m g d).trans ?_
    rw [← queries_apply, ← rowsV_query]
    exact congrArg (rowsV V) (congrArg₂ ix2 (Fin.ext (by show b.val * 128 + r.val = 128 * b.val + r.val; omega)) (Fin.ext (by show m.val * 256 + g.val * 64 + d.val = 256 * m.val + 64 * g.val + d.val; omega)))
  · rw [if_neg h1] at hm
    by_cases h2 : (i 1).val < 1280
    · rw [two (rowAt b r) ⟨1024 + 64 * m.val + d.val, by omega⟩ (by show 128 * b.val + r.val = _; omega) (by show 1024 + 64 * m.val + d.val = _; omega)]
      refine (rows_key H b r m d).trans ?_
      refine Eq.trans (collected_apply (Cert.ReferenceIdeal.Value.res_main_v162 V) b r m d).symm ?_
      rw [← rowsV_key]
      exact congrArg (rowsV V) (congrArg₂ ix2 (Fin.ext (by show b.val * 128 + r.val = 128 * b.val + r.val; omega)) (Fin.ext (by show 1024 + (m.val * 64 + d.val) = 1024 + 64 * m.val + d.val; omega)))
    · rw [two (rowAt b r) ⟨1280 + 64 * m.val + d.val, by omega⟩ (by show 128 * b.val + r.val = _; omega) (by show 1280 + 64 * m.val + d.val = _; omega)]
      refine (rows_value H b r m d).trans ?_
      refine Eq.trans (collected_apply (Cert.ReferenceIdeal.Value.res_main_v153 V) b r m d).symm ?_
      rw [← rowsV_value]
      exact congrArg (rowsV V) (congrArg₂ ix2 (Fin.ext (by show b.val * 128 + r.val = 128 * b.val + r.val; omega)) (Fin.ext (by show 1280 + (m.val * 64 + d.val) = 1280 + 64 * m.val + d.val; omega)))

/-! ## The sinks -/

omit H in
/-- The sinks' row after the first `n` heads: the heads passed hold their sums, the others nothing. -/
theorem sinkSum_apply (b : Fin 32) (l : Fin 128) (n : ℕ) (hn : n ≤ 16) :
    (sinkSum (F := Ideal) (valuesOf A (before b)) (valuesOf A b) (headOf (by decide) G b) (squareOf P b)
      (iota .tc S128x128 32 [1] iota_S128x128_d1_w32) (sinkBlk S b) k0_pay5 n (p2 0 l) : EReal)
      = if l.val < n then -∑ r : Fin 128, sinkBlk S b (p2 r l) * deltaG (valuesOf A (before b) ⟨l.val / 4 % 4, by omega⟩) (valuesOf A b ⟨l.val / 4 % 4, by omega⟩)
          (grp (headOf (by decide) G b) ⟨l.val / 4 % 4, by omega⟩) (sqP (squareOf P b) ⟨l.val / 4 % 4, by omega⟩) (sqC (squareOf P b) ⟨l.val / 4 % 4, by omega⟩) ⟨l.val % 4, by omega⟩ (p2 r 0)
        else 0 := by
  induction n with
  | zero =>
    rw [if_neg (by omega)]
    unfold sinkSum k0_pay5
    show Ideal.ofBits .f32 0x00000000#32 = 0
    simp
  | succ n ih =>
    have ih := ih (by omega)
    unfold sinkSum
    refine (sinkStep_apply _ _ _ _ _ _ (fun r l => by simp [iota]) _ _ ⟨n, by omega⟩ _ l).trans ?_
    rw [ih]
    by_cases h : l.val = n
    · rw [if_neg (by omega), if_pos (by omega), zero_sub]
      subst h
      refine congrArg (-·) (Finset.sum_congr rfl fun r _ => ?_)
      rw [if_pos rfl]
    · have z : (∑ r : Fin 128, (if l.val = (⟨n, by omega⟩ : Fin 16).val then sinkBlk S b (p2 r l) else 0) * deltaG (valuesOf A (before b) ⟨n / 4 % 4, by omega⟩) (valuesOf A b ⟨n / 4 % 4, by omega⟩)
          (grp (headOf (by decide) G b) ⟨n / 4 % 4, by omega⟩) (sqP (squareOf P b) ⟨n / 4 % 4, by omega⟩) (sqC (squareOf P b) ⟨n / 4 % 4, by omega⟩) ⟨n % 4, by omega⟩ (p2 r 0)) = (0 : EReal) :=
        Finset.sum_eq_zero fun r _ => by rw [if_neg h, zero_mul]
      refine Eq.trans (congrArg (_ - ·) z) ?_
      rw [sub_zero]
      by_cases h' : l.val < n
      · rw [if_pos h', if_pos (by omega)]
      · rw [if_neg h', if_neg (by omega)]

theorem sinkOf_low (b : Fin 32) (m g : Fin 4) : sinkOf A G P S b (p2 0 ⟨4 * m.val + g.val, by omega⟩) = ∑ r : Fin 128, dsV V b m g r 256 := by
  refine (sinkSum_apply b ⟨4 * m.val + g.val, by omega⟩ 16 le_rfl).trans ?_
  rw [if_pos (by show 4 * m.val + g.val < 16; omega)]
  have em : (⟨(4 * m.val + g.val) / 4 % 4, by omega⟩ : Fin 4) = m := Fin.ext (by show (4 * m.val + g.val) / 4 % 4 = m.val; omega)
  have eg : (⟨(4 * m.val + g.val) % 4, by omega⟩ : Fin 4) = g := Fin.ext (by show (4 * m.val + g.val) % 4 = g.val; omega)
  simp only [em, eg]
  have hs : ∀ r : Fin 128, sinkBlk S b (p2 r ⟨4 * m.val + g.val, by omega⟩) = Ideal.div (eV V b m g r 256) (tV V b m g r) := fun r => H.sink b m g r
  rw [neg_sum_real]
  · refine Finset.sum_congr rfl fun r _ => ?_
    rw [hs, delta_at H, dsV_sink H]
  · intro r
    rw [hs, delta_at H]
    exact ((H.expo_real _ _ _ _ _).div (H.total_real _ _ _ _) (H.total_ne _ _ _ _)).mul (delta_real H _ _ _ _)

/-- The row of sinks. -/
theorem sinks_match : sinkAll A G P S = sinksV V := by
  funext y
  have hy : y = p2 0 (y 1) := funext fun a => Fin.ext (by
    match a with
    | 0 => have : (y 0).val < 1 := (y 0).isLt
           show (y 0).val = 0
           omega
    | 1 => rfl)
  have hl : (y 1).val < 128 := (y 1).isLt
  generalize hq : (⟨(y 1).val, hl⟩ : Fin 128) = l at *
  have hy' : y = p2 0 l := by rw [hy, ← hq]; rfl
  subst hy'
  by_cases h : l.val < 16
  · obtain ⟨m, hm⟩ : ∃ m : Fin 4, m.val = l.val / 4 := ⟨⟨l.val / 4, by omega⟩, rfl⟩
    obtain ⟨g, hg⟩ : ∃ g : Fin 4, g.val = l.val % 4 := ⟨⟨l.val % 4, by omega⟩, rfl⟩
    have e : l = ⟨4 * m.val + g.val, by omega⟩ := Fin.ext (by show l.val = 4 * m.val + g.val; omega)
    rw [e]
    refine Eq.trans ?_ (sinksV_low V m g).symm
    exact Finset.sum_congr rfl fun b _ => sinkOf_low H b m g
  · refine Eq.trans ?_ (sinksV_high V l (by omega)).symm
    refine Finset.sum_eq_zero fun b _ => ?_
    refine (sinkSum_apply b l 16 le_rfl).trans ?_
    rw [if_neg h]

end Match

end Cert.KernelIdeal.Hand

end
-- ==== Proof.AttnHost.lean ====
/- What the host operations before the launch compute: the attention probabilities, as the reference computes them. -/
module

public import proofs.«01_k».proof.Proof.AttnBlocks
public import proofs.«01_k».proof.Proof.Gen.ReferenceIdeal.Run

@[expose] public section

set_option maxRecDepth 16384
set_option maxHeartbeats 4000000

noncomputable section

namespace Cert.KernelIdeal.Hand

open Idealize.ShloMosaic Idealize.ShloMosaic.Tactic Idealize.ShloMosaic.TcCoe Idealize.ShloMosaic.StableHlo Cert.KernelIdeal.Gen

variable (V0 : Valuation τ sig (Elt Ideal)) (VR : Valuation Cert.ReferenceIdeal.τ Cert.ReferenceIdeal.sig (Elt Ideal))

/-- The buffers after the operations up to the masking of the scores. -/
def hv0 : Valuation τ sig (Elt Ideal) := after hostOps0 V0
/-- … after the masking. -/
def hv1 : Valuation τ sig (Elt Ideal) := after hostOps0_1 (hv0 V0)
/-- … after the softmax. -/
def hv2 : Valuation τ sig (Elt Ideal) := after hostOps0_2 (hv1 V0)
/-- … after the padding of the sinks' column. -/
def hv3 : Valuation τ sig (Elt Ideal) := after hostOps0_3 (hv2 V0)

variable (hA : V0 (Proc.devRef .tc main_arg0) = VR (Proc.devRef .tc Cert.ReferenceIdeal.main_arg0))
variable (hS : V0 (Proc.devRef .tc main_arg1) = VR (Proc.devRef .tc Cert.ReferenceIdeal.main_arg1))

/-- The mask, spread over the heads, is the reference's. -/
theorem mask_eq : broadcastInDim S1x32x4x4x128x256 ![0, 1, 2, 3, 4, 5] bcast_S1x32x1x1x128x256_S1x32x4x4x128x256_0_1_2_3_4_5 (hv0 V0 (Proc.devRef .tc main_v73))
    = Cert.ReferenceIdeal.Value.res_main_v79_1 VR := by
  unfold hv0
  simp only [hostOps0]
  after_results_simp
  rfl

/-- Two arrays side by side, each replaced by an equal one. -/
theorem cat_congr {β : Type} {A B C : Shape} {d : Fin C.rank} {x x' : A.Idx → β} {y y' : B.Idx → β} (h : Shape.Concatenates [A, B] C d) (hx : x = x') (hy : y = y') :
    concatenate C d [⟨A, x⟩, ⟨B, y⟩] h = concatenate C d [⟨A, x'⟩, ⟨B, y'⟩] h := by
  subst hx; subst hy; rfl

include hA in
/-- The keys' windows are the reference's. -/
theorem keys_eq : hv0 V0 (Proc.devRef .tc main_v13) = Cert.ReferenceIdeal.Value.res_main_v14 VR := by
  unfold hv0 Cert.ReferenceIdeal.Value.res_main_v14 Cert.ReferenceIdeal.Value.res_main_v4
  simp only [hostOps0]
  after_results_simp
  refine congrArg (fun x => extf (F := Ideal) (φ := .bf16) .f32 x bitsLt_bf16_f32) (cat_congr _ ?_ ?_)
  · after_results_simp
    refine congrArg (fun x => shapeCast _ x _) (cat_congr _ ?_ ?_)
    · after_results_simp
    · after_results_simp
      rw [hA]
      rfl
  · after_results_simp
    rw [hA]
    rfl

include hA in
/-- The queries are the reference's. -/
theorem queries_eq : hv0 V0 (Proc.devRef .tc main_v6) = Cert.ReferenceIdeal.Value.res_main_v6 VR := by
  unfold hv0 Cert.ReferenceIdeal.Value.res_main_v6
  simp only [hostOps0]
  after_results_simp
  rw [hA]
  rfl

/-- The bias is the reference's. -/
theorem bias_eq : hv0 V0 (Proc.devRef .tc main_v75) = (broadcastInDim S1x32x4x4x128x256 ![0, 1, 2, 3, 4, 5] bcast_S1x1x4x4x128x256_S1x32x4x4x128x256_0_1_2_3_4_5 (broadcastInDim S1x1x4x4x128x256 ![2, 3, 4, 5] bcast_S4x4x128x256_S1x1x4x4x128x256_2_3_4_5 (mulf (F := Ideal) (broadcastInDim S4x4x128x256 ![0, 1, 2, 3] bcast_S4x4x1x1_S4x4x128x256_0_1_2_3 (Host.negf (broadcastInDim S4x4x1x1 ![0, 1] bcast_S4x4_S4x4x1x1_0_1 (shapeCast _ (Host.exp (mulf (F := Ideal) (broadcastInDim S16 ![] bcast_S_S16 (constant (F := Ideal) S_ .f32 0x3F317218#32)) (Host.divf (mulf (F := Ideal) (broadcastInDim S16 ![] bcast_S_S16 (constant (F := Ideal) S_ .f32 0xC1000000#32)) (addf (broadcastInDim S16 ![] bcast_S_S16 (constant (F := Ideal) S_ .f32 0x3F800000#32)) (sitofp .f32 (iotaInDim S16 32 0)))) (broadcastInDim S16 ![] bcast_S_S16 (constant (F := Ideal) S_ .f32 0x41800000#32))))) shapeCasts_S16_S4x4)))) (broadcastInDim S4x4x128x256 ![0, 1, 2, 3] bcast_S1x1x128x256_S4x4x128x256_0_1_2_3 (broadcastInDim S1x1x128x256 ![2, 3] bcast_S128x256_S1x1x128x256_2_3 (sitofp .f32 (Cert.ReferenceIdeal.Value.res_main_v35 VR))))))) := by
  unfold hv0
  simp only [hostOps0]
  after_results_simp
  rfl

/-- The products are those of the queries and keys. -/
theorem dots_eq : hv0 V0 (Proc.devRef .tc main_v24) = (mulf (F := Ideal) (transpose S1x32x4x4x128x256 [0, 1, 2, 5, 4, 3] (Host.dotGeneral (F := Ideal) (φ₁ := .f32) (φ₂ := .f32) dot_S1x32x256x4x64_S1x32x128x4x4x64_S1x32x4x256x128x4_4_5_2_24_013_013 none (hv0 V0 (Proc.devRef .tc main_v13) : Vec Ideal S1x32x256x4x64 .f32) (hv0 V0 (Proc.devRef .tc main_v6) : Vec Ideal S1x32x128x4x4x64 .f32)) transposes_S1x32x4x256x128x4_S1x32x4x4x128x256_0_1_2_5_4_3) (broadcastInDim S1x32x4x4x128x256 ![] bcast_S_S1x32x4x4x128x256 (constant (F := Ideal) S_ .f32 0x3E000000#32))) := by
  unfold hv0
  simp only [hostOps0]
  after_results_simp

/-- The scores are their sum. -/
theorem biased_eq : (hv0 V0 (Proc.devRef .tc main_v76) : Vec Ideal S1x32x4x4x128x256 .f32) = addf (F := Ideal) (φ := .f32) (hv0 V0 (Proc.devRef .tc main_v24) : Vec Ideal S1x32x4x4x128x256 .f32) (hv0 V0 (Proc.devRef .tc main_v75)) := by
  unfold hv0
  simp only [hostOps0]
  after_results_simp

theorem sinks_arg : hv1 V0 (Proc.devRef .tc main_arg1) = V0 (Proc.devRef .tc main_arg1) := by
  unfold hv1 hv0
  simp only [hostOps0, hostOps0_1, TRef.unary, TRef.ternary, TRef.toBuf, TRef.ofBuf, cast_eq]
  after_results_simp

/-- The masked scores. -/
theorem masked_eq : (hv1 V0 (Proc.devRef .tc main_v77) : Vec Ideal S1x32x4x4x128x256 .f32)
    = select (broadcastInDim S1x32x4x4x128x256 ![0, 1, 2, 3, 4, 5] bcast_S1x32x1x1x128x256_S1x32x4x4x128x256_0_1_2_3_4_5 (hv0 V0 (Proc.devRef .tc main_v73)))
        (hv0 V0 (Proc.devRef .tc main_v76) : Vec Ideal S1x32x4x4x128x256 .f32) (broadcastInDim S1x32x4x4x128x256 ![] bcast_S_S1x32x4x4x128x256 (id (constant (F := Ideal) S_ .f32 0xFF800000#32))) := by
  unfold hv1
  simp only [hostOps0_1, TRef.unary, TRef.ternary, TRef.toBuf, TRef.ofBuf, cast_eq]
  after_results_simp
  have h : hv0 V0 (Proc.devRef .tc main_cst_11) = constant (F := Ideal) S_ .f32 0xFF800000#32 := by
    unfold hv0
    simp only [hostOps0]
    after_results_simp
  rw [h]

theorem cat_eq : (hv2 V0 (Proc.devRef .tc main_v80) : Vec Ideal S1x32x4x4x128x257 .f32)
    = concatenate S1x32x4x4x128x257 5 [⟨S1x32x4x4x128x256, (hv1 V0 (Proc.devRef .tc main_v77) : Vec Ideal S1x32x4x4x128x256 .f32)⟩,
      ⟨S1x32x4x4x128x1, broadcastInDim S1x32x4x4x128x1 ![0, 1, 2, 3, 4, 5] bcast_S1x1x4x4x1x1_S1x32x4x4x128x1_0_1_2_3_4_5 (shapeCast _ (hv1 V0 (Proc.devRef .tc main_arg1)) shapeCasts_S1x16_S1x1x4x4x1x1)⟩]
      concatenates_S1x32x4x4x128x256_S1x32x4x4x128x1_S1x32x4x4x128x257_d5 := by
  unfold hv2
  simp only [hostOps0_2]
  after_results_simp
  rfl

include hA hS in
/-- The scores with the sink's column are the reference's. -/
theorem scores_eq : hv2 V0 (Proc.devRef .tc main_v80) = Cert.ReferenceIdeal.Value.res_main_v82 VR := by
  rw [cat_eq, masked_eq, mask_eq V0 VR, biased_eq, dots_eq, bias_eq V0 VR, keys_eq V0 VR hA, queries_eq V0 VR hA, sinks_arg, hS]
  rfl

include hA hS in
/-- The exponentials are the reference's. -/
theorem expo_eq : hv2 V0 (Proc.devRef .tc main_v87) = Cert.ReferenceIdeal.Value.res_main_v103 VR := by
  unfold Cert.ReferenceIdeal.Value.res_main_v103 Cert.ReferenceIdeal.Value.res_main_v83
  rw [← scores_eq V0 VR hA hS]
  unfold hv2
  simp only [hostOps0_2]
  after_results_simp

include hA hS in
/-- Their sums are the reference's. -/
theorem total_eq : hv2 V0 (Proc.devRef .tc main_v89) = Cert.ReferenceIdeal.Value.res_main_v105 VR := by
  unfold Cert.ReferenceIdeal.Value.res_main_v105
  rw [← expo_eq V0 VR hA hS]
  unfold hv2
  simp only [hostOps0_2]
  after_results_simp

/-- The probabilities, one row per position and head. -/
def headRows (E : Vec Ideal S1x32x4x4x128x257 .f32) (T : Vec Ideal S1x32x4x4x128x1 .f32) : Vec Ideal S4096x16x257 .f32 :=
  shapeCast _ (transpose S32x128x4x4x257 [0, 3, 1, 2, 4] (shapeCast _ (Host.divf (F := Ideal) (φ := .f32) E (broadcastInDim S1x32x4x4x128x257 ![0, 1, 2, 3, 4, 5] bcast_S1x32x4x4x128x1_S1x32x4x4x128x257_0_1_2_3_4_5 T))
    shapeCasts_S1x32x4x4x128x257_S32x4x4x128x257) transposes_S32x4x4x128x257_S32x128x4x4x257_0_3_1_2_4) shapeCasts_S32x128x4x4x257_S4096x16x257

theorem rows_eq : hv2 V0 (Proc.devRef .tc main_v94) = headRows (hv2 V0 (Proc.devRef .tc main_v87)) (hv2 V0 (Proc.devRef .tc main_v89)) := by
  unfold hv2 headRows
  simp only [hostOps0_2]
  after_results_simp
  rfl

/-- The probabilities' array. -/
theorem probs_eq : (hv3 V0 (Proc.devRef .tc main_v97) : Vec Ideal S4096x4096 .bf16)
    = truncf (F := Ideal) .bf16 (shapeCast _ (extractStridedSlice S4096x16x256 ![0, 0, 0] (hv2 V0 (Proc.devRef .tc main_v94) : Vec Ideal S4096x16x257 .f32) slices_S4096x16x257_S4096x16x256_0_0_0) shapeCasts_S4096x16x256_S4096x4096) bitsLt_bf16_f32 := by
  unfold hv3 hv2
  simp only [hostOps0_3, hostOps0_2, TRef.unary, TRef.binary, TRef.toBuf, TRef.ofBuf, cast_eq]
  after_results_simp
  rfl

/-- The sinks' probabilities. -/
theorem sink_probs_eq : (hv3 V0 (Proc.devRef .tc main_v100) : Vec Ideal S4096x128 .f32)
    = pad S4096x128 ![0, 0] ![0, 112] ![0, 0] (shapeCast _ (extractStridedSlice S4096x16x1 ![0, 0, 256] (hv2 V0 (Proc.devRef .tc main_v94) : Vec Ideal S4096x16x257 .f32) slices_S4096x16x257_S4096x16x1_0_0_256) shapeCasts_S4096x16x1_S4096x16)
        (sitofp (F := Ideal) .f32 (constantI S_ 32 0#32)) pads_S4096x16_S4096x128_000_01120 h_S_ := by
  unfold hv3 hv2
  simp only [hostOps0_3, hostOps0_2, TRef.unary, TRef.binary, TRef.toBuf, TRef.ofBuf, cast_eq]
  after_results_simp
  rfl

end Cert.KernelIdeal.Hand

end
-- ==== Proof.AttnEntries.lean ====
/- The probabilities' two arrays, entry by entry. -/
module

public import proofs.«01_k».proof.Proof.AttnHost
public import proofs.«01_k».proof.Proof.AttnRef
public import proofs.«01_k».proof.Proof.AttnResult
public import Idealize.ShloMosaic.Lib.KernelVsHost

@[expose] public section

set_option maxRecDepth 16384
set_option maxHeartbeats 4000000

noncomputable section

namespace Cert.KernelIdeal.Hand

open Idealize.ShloMosaic Idealize.ShloMosaic.Tactic Idealize.ShloMosaic.TcCoe Idealize.ShloMosaic.StableHlo Cert.KernelIdeal.Gen Cert.ReferenceIdeal.Read

/-- The rows of probabilities by head. -/
theorem headRows_apply (E : Vec Ideal S1x32x4x4x128x257 .f32) (T : Vec Ideal S1x32x4x4x128x1 .f32) (b : Fin 32) (m g : Fin 4) (r : Fin 128) (j : Fin 257) :
    (headRows E T (ix3 (rowAt b r) ⟨4 * m.val + g.val, by omega⟩ j) : EReal) = Ideal.div (E (ix6 0 b m g r j)) (T (ix6 0 b m g r 0)) := by
  unfold headRows
  rw [shapeCast_apply _ _ _ (ix5 b r m g j) (by
    rw [Shape.rowMajor_val_five, Shape.rowMajor_val_three]
    show (((b.val * 128 + r.val) * 4 + m.val) * 4 + g.val) * 257 + j.val = ((128 * b.val + r.val) * 16 + (4 * m.val + g.val)) * 257 + j.val
    omega)]
  pointwise

/-- The probabilities' array at an entry. -/
theorem probs_apply (X : Vec Ideal S4096x16x257 .f32) (i : Fin 4096) (h : Fin 16) (j : Fin 256) :
    (truncf (F := Ideal) (φ := .f32) .bf16 (shapeCast S4096x4096 (extractStridedSlice S4096x16x256 ![0, 0, 0] X slices_S4096x16x257_S4096x16x256_0_0_0) shapeCasts_S4096x16x256_S4096x4096) bitsLt_bf16_f32 (ix2 i ⟨256 * h.val + j.val, by omega⟩) : EReal)
      = X (ix3 i h ⟨j.val, by omega⟩) := by
  refine Eq.trans (b := (shapeCast S4096x4096 (extractStridedSlice S4096x16x256 ![0, 0, 0] X slices_S4096x16x257_S4096x16x256_0_0_0) shapeCasts_S4096x16x256_S4096x4096 (ix2 i ⟨256 * h.val + j.val, by omega⟩) : EReal)) rfl ?_
  rw [shapeCast_apply _ _ _ (ix3 i h j) (by
    rw [Shape.rowMajor_val_three, Shape.rowMajor_val_two]
    show (i.val * 16 + h.val) * 256 + j.val = i.val * 4096 + (256 * h.val + j.val)
    omega)]
  pointwise

/-- The sinks' array at an entry. -/
theorem sink_probs_apply (X : Vec Ideal S4096x16x257 .f32) (i : Fin 4096) (h : Fin 16) :
    (pad S4096x128 ![0, 0] ![0, 112] ![0, 0] (shapeCast _ (extractStridedSlice S4096x16x1 ![0, 0, 256] X slices_S4096x16x257_S4096x16x1_0_0_256) shapeCasts_S4096x16x1_S4096x16)
        (sitofp (F := Ideal) .f32 (constantI S_ 32 0#32)) pads_S4096x16_S4096x128_000_01120 h_S_ (ix2 i ⟨h.val, by omega⟩) : EReal)
      = X (ix3 i h 256) := by
  pointwise

variable (mem : (ℓ : Loc nD τ sig) → Buf (Elt Ideal) ℓ) (c : Dev nD)

/-- The buffers at the launch are those after the four stretches of host operations. -/
theorem stretches (b : Ref sig .tc) : V mem c b = hv3 (fun b => mem (c, b)) (Proc.devRef .tc b) := by
  unfold V hv3 hv2 hv1 hv0
  simp only [List.flatten_cons, List.flatten_nil, List.append_nil, StableHlo.after_append]

theorem proj_eq : projA mem c = mem (c, Proc.devRef .tc main_arg0) := V_main_arg0 mem c
theorem grad_eq : gradA mem c = mem (c, Proc.devRef .tc main_arg2) := V_main_arg2 mem c

variable (VR : Valuation Cert.ReferenceIdeal.τ Cert.ReferenceIdeal.sig (Elt Ideal))
variable (hA : mem (c, Proc.devRef .tc main_arg0) = VR (Proc.devRef .tc Cert.ReferenceIdeal.main_arg0))
variable (hS : mem (c, Proc.devRef .tc main_arg1) = VR (Proc.devRef .tc Cert.ReferenceIdeal.main_arg1))
include hA hS

/-- The row of probabilities at the launch is the reference's exponentials over their sum. -/
theorem rows_apply (b : Fin 32) (m g : Fin 4) (r : Fin 128) (j : Fin 257) :
    ((hv2 (fun b => mem (c, b)) (Proc.devRef .tc main_v94) : Vec Ideal S4096x16x257 .f32) (ix3 (rowAt b r) ⟨4 * m.val + g.val, by omega⟩ j) : EReal)
      = Ideal.div (eV VR b m g r j) (tV VR b m g r) := by
  rw [rows_eq, expo_eq (fun b => mem (c, b)) VR hA hS, total_eq (fun b => mem (c, b)) VR hA hS]
  exact headRows_apply _ _ b m g r j

theorem probA_apply (b : Fin 32) (m g : Fin 4) (r : Fin 128) (j : Fin 256) :
    (probA mem c (p2 (rowAt b r) ⟨256 * (4 * m.val + g.val) + j.val, by omega⟩) : EReal) = pV VR b m g r j := by
  have e : probA mem c = hv3 (fun b => mem (c, b)) (Proc.devRef .tc main_v97) := stretches mem c _
  rw [e, probs_eq, prob_apply]
  refine (probs_apply _ (rowAt b r) ⟨4 * m.val + g.val, by omega⟩ j).trans ?_
  exact rows_apply mem c VR hA hS b m g r ⟨j.val, by omega⟩

theorem sinkA_apply (b : Fin 32) (m g : Fin 4) (r : Fin 128) :
    (sinkA mem c (p2 (rowAt b r) ⟨4 * m.val + g.val, by omega⟩) : EReal) = Ideal.div (eV VR b m g r 256) (tV VR b m g r) := by
  have e : sinkA mem c = hv3 (fun b => mem (c, b)) (Proc.devRef .tc main_v100) := stretches mem c _
  rw [e, sink_probs_eq]
  refine (sink_probs_apply _ (rowAt b r) ⟨4 * m.val + g.val, by omega⟩).trans ?_
  exact rows_apply mem c VR hA hS b m g r 256

end Cert.KernelIdeal.Hand

end
-- ==== Proof.AttnFinite.lean ====
/- On finite arguments the reference's softmax stays among the real numbers. -/
module

public import proofs.«01_k».proof.Proof.AttnRef
public import proofs.«01_k».proof.Proof.AttnReal

@[expose] public section

set_option maxRecDepth 16384
set_option maxHeartbeats 4000000

noncomputable section

namespace Cert.Attn

open Idealize.ShloMosaic

/-- A real number or minus infinity. -/
def IsLow (x : EReal) : Prop := x = ⊥ ∨ IsReal x

theorem IsReal.exp {x : EReal} (h : IsReal x) : IsReal (Ideal.exp x) := by
  obtain ⟨r, rfl⟩ := h
  exact ⟨Real.exp r, rfl⟩

theorem IsReal.exp_pos {x : EReal} (h : IsReal x) : 0 < Ideal.exp x := by
  obtain ⟨r, rfl⟩ := h
  show (0 : EReal) < ((Real.exp r : ℝ) : EReal)
  exact_mod_cast Real.exp_pos r

theorem IsLow.lt_top {x : EReal} (h : IsLow x) : x < ⊤ := by
  rcases h with rfl | ⟨r, rfl⟩
  · exact bot_lt_top
  · exact EReal.coe_lt_top r

theorem IsReal.of_between {x : EReal} (h0 : ⊥ < x) (h1 : x < ⊤) : IsReal x := by
  induction x with
  | bot => exact absurd h0 (lt_irrefl _)
  | top => exact absurd h1 (lt_irrefl _)
  | coe r => exact ⟨r, rfl⟩

/-- The maximum of finitely many such numbers, one of them real, is real. -/
theorem IsReal.fold_max {ι : Type} [Fintype ι] (f : ι → EReal) (hf : ∀ i, IsLow (f i)) (i : ι) (hi : IsReal (f i)) :
    IsReal (Finset.univ.fold max ⊥ f) := by
  refine IsReal.of_between ?_ ?_
  · obtain ⟨r, hr⟩ := hi
    refine (Finset.lt_fold_max _).2 (Or.inr ⟨i, Finset.mem_univ i, ?_⟩)
    rw [hr]
    exact EReal.bot_lt_coe r
  · exact (Finset.fold_max_lt _).2 ⟨bot_lt_top, fun j _ => (hf j).lt_top⟩

/-- The exponential of such a number's distance to a real one is a real number, not negative. -/
theorem exp_low {x M : EReal} (hx : IsLow x) (hM : IsReal M) : IsReal (Ideal.exp (x - M)) ∧ 0 ≤ Ideal.exp (x - M) := by
  rcases hx with rfl | hx
  · rw [EReal.bot_sub]
    exact ⟨⟨0, rfl⟩, le_rfl⟩
  · exact ⟨(hx.sub hM).exp, (hx.sub hM).exp_pos.le⟩

theorem sitofp_real (w : BitVec 32) : IsReal (FloatOps.sitofp (F := Ideal) .f32 w) := ⟨_, rfl⟩

end Cert.Attn

namespace Cert.ReferenceIdeal.Read

open Idealize.ShloMosaic Cert.ReferenceIdeal.Gen Cert.ReferenceIdeal.Value Cert.Attn

section Finite
variable (V : Valuation τ sig (Elt Ideal)) (b : Fin 32) (m g : Fin 4) (r : Fin 128)

/-- The scores, the sink's last. -/
def sV (j : Fin 257) : EReal := (res_main_v82 V : Vec Ideal S1x32x4x4x128x257 .f32) (ix6 0 b m g r j)
/-- A row's largest score. -/
def mV : EReal := (res_main_v83 V : Vec Ideal S1x32x4x4x128 .f32) (ix5 0 b m g r)
/-- The sinks. -/
def aV (h : Fin 16) : EReal := (V (Proc.devRef .tc main_arg1) : Vec Ideal S1x16 .f32) (ix2 0 h)

/-- The distance's weight in a score. -/
def biasV (m g : Fin 4) (r : Fin 128) (j : Fin 256) : EReal :=
  -Ideal.exp (Ideal.ofBits .f32 0x3F317218#32 * Ideal.div (Ideal.ofBits .f32 0xC1000000#32 * (1 + FloatOps.sitofp (F := Ideal) .f32 (BitVec.ofNat 32 (m.val * 4 + g.val)))) (Ideal.ofBits .f32 0x41800000#32))
    * FloatOps.sitofp (F := Ideal) .f32 ((res_main_v35 V : IVec S128x256 32) (ix2 r j))

theorem bottom_bits : Ideal.ofBits .f32 0xFF800000#32 = ⊥ := by simp [Ideal.ofBits, Ideal.ieee]
theorem sixteen_bits : Ideal.ofBits .f32 0x41800000#32 = ((16 : ℝ) : EReal) := by
  simp [Ideal.ofBits, Ideal.ieee, -EReal.coe_mul]; norm_num

theorem score_sink : sV V b m g r 256 = aV V ⟨m.val * 4 + g.val, by omega⟩ := by
  unfold sV aV res_main_v82
  pointwise

theorem score_key (j : Fin 256) : sV V b m g r ⟨j.val, by omega⟩
    = if okV V b m g r j = 1#1 then (∑ x : Fin 64, kV V b m j x * qV V b m g r x) * Ideal.ofBits .f32 0x3E000000#32 + biasV V m g r j else Ideal.ofBits .f32 0xFF800000#32 := by
  unfold sV okV biasV kV qV res_main_v82
  pointwise
  rfl

theorem expo_gen (S : Vec Ideal S1x32x4x4x128x257 .f32) (M : Vec Ideal S1x32x4x4x128 .f32) (j : Fin 257) :
    (Host.exp (F := Ideal) (φ := .f32) (subf (F := Ideal) (φ := .f32) S (broadcastInDim S1x32x4x4x128x257 ![0, 1, 2, 3, 4, 5] bcast_S1x32x4x4x128x1_S1x32x4x4x128x257_0_1_2_3_4_5 (broadcastInDim S1x32x4x4x128x1 ![0, 1, 2, 3, 4] bcast_S1x32x4x4x128_S1x32x4x4x128x1_0_1_2_3_4
      (maximumf (F := Ideal) (φ := .f32) (broadcastInDim S1x32x4x4x128 ![] bcast_S_S1x32x4x4x128 (constant (F := Ideal) S_ .f32 0xFF800000#32)) M)))) (ix6 0 b m g r j) : EReal)
      = Ideal.exp (S (ix6 0 b m g r j) - max (Ideal.ofBits .f32 0xFF800000#32) (M (ix5 0 b m g r))) := by
  pointwise

theorem expo_apply (j : Fin 257) : eV V b m g r j = Ideal.exp (sV V b m g r j - max (Ideal.ofBits .f32 0xFF800000#32) (mV V b m g r)) :=
  expo_gen b m g r (res_main_v82 V) (res_main_v83 V) j

theorem before_first : ∀ j : Fin 128, IntOp.cmpi .sge (IntOp.addi (IntOp.subi (IntOp.muli 0#32 128#32) 128#32) (BitVec.ofNat 32 j.val)) 0#32 = 0#1 := by decide

theorem and_zero (x : BitVec 1) : IntOp.andi x 0#1 = 0#1 := by simp [IntOp.andi]

theorem first_masked (j : Fin 128) : okV V 0 m g r ⟨j.val, by omega⟩ = 0#1 := by
  unfold okV res_main_v79_1 res_main_v30
  pointwise
  rw [before_first, and_zero]

theorem most_gen (S : Vec Ideal S1x32x4x4x128x257 .f32) (init : Vec Ideal S_ .f32) :
    (Host.reduce (FloatOps.maximumf (F := Ideal) (φ := .f32)) S init reducesTo_S1x32x4x4x128x257_S1x32x4x4x128_d5 h_S_ (ix5 0 b m g r) : EReal)
      = (Finset.univ : Finset (Fin 257)).fold max (init (Shape.Idx.first h_S_) : EReal) (fun j => (S (ix6 0 b m g r j) : EReal)) :=
  (Host.reduce_eq_fold (α := EReal) max S init reducesTo_S1x32x4x4x128x257_S1x32x4x4x128_d5 h_S_ (ix5 0 b m g r)).trans
    (Finset.fold_filter_eq_fold_of_fiber (max : EReal → EReal → EReal) _ (fun k : Fin 257 => (ix6 0 b m g r k : S1x32x4x4x128x257.Idx)) (fun _ _ e => congrFun e 5) (fiber5 b m g r) _ _)

theorem most_apply : mV V b m g r = (Finset.univ : Finset (Fin 257)).fold max ⊥ (fun j => sV V b m g r j) := by
  refine (most_gen b m g r (res_main_v82 V) (constant (F := Ideal) S_ .f32 0xFF800000#32)).trans ?_
  refine Eq.trans (b := (Finset.univ : Finset (Fin 257)).fold max (Ideal.ofBits .f32 0xFF800000#32) (fun j => sV V b m g r j)) rfl ?_
  rw [bottom_bits]

variable (hx : ∀ i k, IsReal (xV V i k)) (ha : ∀ h, IsReal (aV V h))

theorem bias_real (j : Fin 256) : IsReal (biasV V m g r j) := by
  unfold biasV
  refine IsReal.mul (IsReal.neg (IsReal.exp (IsReal.mul (ofBits_real_f32 _ (by decide)) (IsReal.div (IsReal.mul (ofBits_real_f32 _ (by decide)) (IsReal.add ⟨1, rfl⟩ (sitofp_real _))) (ofBits_real_f32 _ (by decide)) ?_)))) (sitofp_real _)
  rw [sixteen_bits]
  norm_num

include hx in
theorem query_fin (d : Fin 64) : IsReal (qV V b m g r d) := by rw [query_apply]; exact hx _ _

include hx in
theorem key_fin (j : Fin 256) (d : Fin 64) : IsReal (kV V b m j d) := by
  by_cases hj : j.val < 128
  · rw [show j = ⟨(⟨j.val, hj⟩ : Fin 128).val, by omega⟩ from rfl, key_before]
    split
    · exact IsReal.zero
    · exact hx _ _
  · rw [show j = ⟨128 + (⟨j.val - 128, by omega⟩ : Fin 128).val, by simp only; omega⟩ from Fin.ext (by simp only; omega), key_own]
    exact hx _ _

theorem score_masked (j : Fin 256) (h : okV V b m g r j ≠ 1#1) : sV V b m g r ⟨j.val, by omega⟩ = ⊥ := by
  rw [score_key, if_neg h, bottom_bits]

include hx ha in
theorem score_low (j : Fin 257) : IsLow (sV V b m g r j) := by
  by_cases hj : j.val < 256
  · rw [show j = ⟨(⟨j.val, hj⟩ : Fin 256).val, by omega⟩ from rfl]
    by_cases h : okV V b m g r ⟨j.val, hj⟩ = 1#1
    · rw [score_key, if_pos h]
      exact Or.inr (((IsReal.sum _ _ fun x => (key_fin V b m hx _ _).mul (query_fin V b m g r hx _)).mul (ofBits_real_f32 _ (by decide))).add (bias_real V m g r _))
    · exact Or.inl (score_masked V b m g r _ h)
  · rw [show j = 256 from Fin.ext (by show j.val = 256; omega), score_sink]
    exact Or.inr (ha _)

include hx ha in
theorem most_real : IsReal (max (Ideal.ofBits .f32 0xFF800000#32) (mV V b m g r)) := by
  rw [bottom_bits, max_eq_right bot_le, most_apply]
  refine IsReal.fold_max _ (score_low V b m g r hx ha) 256 ?_
  rw [score_sink]
  exact ha _

include hx ha in
theorem expo_fin (j : Fin 257) : IsReal (eV V b m g r j) := by
  rw [expo_apply]
  exact (exp_low (score_low V b m g r hx ha j) (most_real V b m g r hx ha)).1

include hx ha in
theorem expo_nonneg (j : Fin 257) : 0 ≤ eV V b m g r j := by
  rw [expo_apply]
  exact (exp_low (score_low V b m g r hx ha j) (most_real V b m g r hx ha)).2

include hx ha in
theorem total_fin : IsReal (tV V b m g r) := by
  rw [total_apply]
  exact IsReal.sum _ _ fun j => expo_fin V b m g r hx ha j

include hx ha in
theorem total_pos : 0 < tV V b m g r := by
  rw [total_apply]
  refine lt_of_lt_of_le ?_ (Finset.single_le_sum (fun j _ => expo_nonneg V b m g r hx ha j) (Finset.mem_univ (256 : Fin 257)))
  rw [expo_apply, score_sink]
  exact ((ha _).sub (most_real V b m g r hx ha)).exp_pos

include hx ha in
theorem expo_masked (j : Fin 256) (h : okV V b m g r j ≠ 1#1) : eV V b m g r ⟨j.val, by omega⟩ = 0 := by
  rw [expo_apply, score_masked V b m g r j h, EReal.bot_sub]
  rfl

include hx ha in
theorem expo_first (j : Fin 128) (hb : b.val = 0) : eV V b m g r ⟨j.val, by omega⟩ = 0 := by
  obtain rfl : b = 0 := Fin.ext hb
  refine expo_masked V 0 m g r hx ha ⟨j.val, by omega⟩ ?_
  rw [first_masked]
  decide

end Finite

end Cert.ReferenceIdeal.Read

end
-- ==== Proof.AttnEqual.lean ====
/- The two programs end with the same gradients, from finite arguments. -/
module

public import proofs.«01_k».proof.Defs
public import proofs.«01_k».proof.Proof.AttnWhole
public import proofs.«01_k».proof.Proof.AttnEntries
public import proofs.«01_k».proof.Proof.AttnFinite

@[expose] public section

set_option maxRecDepth 16384
set_option maxHeartbeats 4000000

noncomputable section

namespace Cert.Pre_finite_inputs

open Idealize.ShloMosaic

/-- The precondition's side conditions. -/
theorem facts : Facts where
  bitsLt_bf16_f32 := by decide
  bcast_S_S4096x1536 := by decide
  bcast_S_S1x16 := by decide
  bcast_S_S4096x1024 := by decide

end Cert.Pre_finite_inputs

namespace Cert.KernelIdeal.Hand

open Idealize.ShloMosaic Idealize.ShloMosaic.TcCoe Idealize.ShloMosaic.StableHlo Cert.KernelIdeal.Gen Cert.ReferenceIdeal.Read Cert.Attn

/-- An entry that the comparison with infinity passes is a real number. -/
theorem finite_entry (x : EReal) (h : FloatOps.cmpf (F := Ideal) (φ := .f32) .olt (FloatOps.absf (F := Ideal) (φ := .f32) x) (Ideal.ofBits .f32 0x7F800000#32) = 1#1) : IsReal x := by
  have ht : Ideal.ofBits .f32 0x7F800000#32 = ⊤ := by simp [Ideal.ofBits, Ideal.ieee]
  rw [ht] at h
  induction x with
  | coe r => exact ⟨r, rfl⟩
  | bot => exact absurd h (by simp [FloatOps.cmpf, FloatOps.absf, Ideal.cmp])
  | top => exact absurd h (by simp [FloatOps.cmpf, FloatOps.absf, Ideal.cmp])

variable (mem : (ℓ : Loc nD τ sig) → Buf (Elt Ideal) ℓ) (c : Dev nD)
variable (VR : Valuation Cert.ReferenceIdeal.τ Cert.ReferenceIdeal.sig (Elt Ideal))

/-- From finite arguments that both hold, the launch's arrays hold the reference's stages. -/
theorem agree (hA : mem (c, Proc.devRef .tc main_arg0) = VR (Proc.devRef .tc Cert.ReferenceIdeal.main_arg0))
    (hS : mem (c, Proc.devRef .tc main_arg1) = VR (Proc.devRef .tc Cert.ReferenceIdeal.main_arg1))
    (hG : mem (c, Proc.devRef .tc main_arg2) = VR (Proc.devRef .tc Cert.ReferenceIdeal.main_arg2))
    (hx : ∀ i k, IsReal (xV VR i k)) (ha : ∀ h, IsReal (aV VR h)) (hg : ∀ i k, IsReal (gV VR i k)) :
    Agree (projA mem c) (gradA mem c) (probA mem c) (sinkA mem c) VR where
  proj i k := by rw [proj_eq, hA]; rfl
  grad i k := by rw [grad_eq, hG]; rfl
  prob := probA_apply mem c VR hA hS
  sink := sinkA_apply mem c VR hA hS
  proj_real := hx
  grad_real := hg
  expo_real b m g r j := expo_fin VR b m g r hx ha j
  total_real b m g r := total_fin VR b m g r hx ha
  total_ne b m g r := (total_pos VR b m g r hx ha).ne'
  masked b m g r j h := expo_masked VR b m g r hx ha j h
  first b m g r j hb := expo_first VR b m g r hx ha j hb

end Cert.KernelIdeal.Hand

namespace Cert

open Idealize.ShloMosaic Idealize.ShloMosaic.StableHlo Idealize.SL.Sem Cert.ReferenceIdeal.Read Cert.Attn

/-- The kernel and the reference end with equal gradients. -/
theorem gradients_equal : algebraic_KernelIdeal_ReferenceIdeal_pre_finite_inputs (hKernelIdeal := KernelIdeal.Gen.facts) (hReferenceIdeal := ReferenceIdeal.Gen.facts)
    (hPre_finite_inputs := Pre_finite_inputs.facts) := by
  intro m ρ m' ρ' hpre hin
  have H : ∀ c, KernelIdeal.Hand.Agree (KernelIdeal.Hand.projA m c) (KernelIdeal.Hand.gradA m c) (KernelIdeal.Hand.probA m c) (KernelIdeal.Hand.sinkA m c) (launchContents m' c) := fun c => by
    have hA : xV (launchContents m' c) = fun i k => (m ((c.tc : Thread KernelIdeal.nD KernelIdeal.τ).loc KernelIdeal.main_arg0) : Vec Ideal KernelIdeal.S4096x1536 .bf16) (ix2 i k) :=
      funext fun i => funext fun k => congrFun (hin c).1 _
    have hS : aV (launchContents m' c) = fun h => (m ((c.tc : Thread KernelIdeal.nD KernelIdeal.τ).loc KernelIdeal.main_arg1) : Vec Ideal KernelIdeal.S1x16 .f32) (ix2 0 h) :=
      funext fun h => congrFun (hin c).2.1 _
    have hG : gV (launchContents m' c) = fun i k => (m ((c.tc : Thread KernelIdeal.nD KernelIdeal.τ).loc KernelIdeal.main_arg2) : Vec Ideal KernelIdeal.S4096x1024 .bf16) (ix2 i k) :=
      funext fun i => funext fun k => congrFun (hin c).2.2 _
    refine KernelIdeal.Hand.agree m c (launchContents m' c) (hin c).1.symm (hin c).2.1.symm (hin c).2.2.symm ?_ ?_ ?_
    · intro i k
      rw [hA]
      exact KernelIdeal.Hand.finite_entry _ (congrFun (hpre c).1 (ix2 i k))
    · intro h
      rw [hS]
      exact KernelIdeal.Hand.finite_entry _ (congrFun (hpre c).2.1 (ix2 0 h))
    · intro i k
      rw [hG]
      exact KernelIdeal.Hand.finite_entry _ (congrFun (hpre c).2.2 (ix2 i k))
  refine ⟨fun c => KernelIdeal.Hand.rowsAll (KernelIdeal.Hand.projA m c) (KernelIdeal.Hand.gradA m c) (KernelIdeal.Hand.probA m c),
    fun c => KernelIdeal.Hand.sinkAll (KernelIdeal.Hand.projA m c) (KernelIdeal.Hand.gradA m c) (KernelIdeal.Hand.probA m c) (KernelIdeal.Hand.sinkA m c), ?_, ?_⟩
  · exact (θ_run _ _ _).mono (fun r h c => ⟨(h c).1.1, (h c).1.2, (h c).2⟩) (KernelIdeal.Hand.run_named m ρ)
  · exact (θ_run _ _ _).mono (fun r h c => ⟨(h c).1.trans (KernelIdeal.Hand.rows_match (H c)).symm, (h c).2.1.trans (KernelIdeal.Hand.sinks_match (H c)).symm, (h c).2.2⟩)
      (ReferenceIdeal.Read.run_named m' ρ')

end Cert

end
-- ==== Proof.RmsValue.lean ====
/- The first norm, entry by entry, and the claim about it. -/
module

public import proofs.«01_k».proof.Defs
public import proofs.«01_k».proof.Proof.Gen.RmsIdeal.Value
public import proofs.«01_k».proof.Proof.Gen.RmsRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.RmsIdeal.Hand

open Idealize.ShloMosaic Idealize.ShloMosaic.Tactic Idealize.ShloMosaic.TcCoe Cert.RmsIdeal.Gen Idealize.SL.Sem
open Idealize.ShloMosaic.Pipeline (Dat)

/-- The normed rows. -/
def normed (x : Vec Ideal S4096x1024 .f32) (g : Vec Ideal S1x1024 .f32) : Vec Ideal S4096x1024 .bf16 := fun i =>
  ((x (ix2 ⟨(i 0).val, (i 0).isLt⟩ ⟨(i 1).val, (i 1).isLt⟩) : EReal)
    * Ideal.rsqrt (Ideal.div (∑ k : Fin 1024, (x (ix2 ⟨(i 0).val, (i 0).isLt⟩ k) : EReal) * (x (ix2 ⟨(i 0).val, (i 0).isLt⟩ k) : EReal)) (Ideal.ofBits .f32 0x44800000#32) + Ideal.ofBits .f32 0x358637BD#32)
    * (g (ix2 0 ⟨(i 1).val, (i 1).isLt⟩) : EReal) : EReal)

variable (m : (ℓ : Loc nD τ sig) → Buf (Elt Ideal) ℓ) (c : Dev nD)

/-- Where a point's blocks lie. -/
theorem idx : ∀ t : Fin cfg0.N, win0_0.index t = ![t.val, 0] ∧ win0_1.index t = ![0, 0] ∧ win0_2.index t = ![t.val, 0] := by decide +kernel

/-- The array after the run. -/
theorem final : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, normed]
  blk_point [iblk, V, (idx t).1, (idx t).2.1, (idx t).2.2]

end Cert.RmsIdeal.Hand

namespace Cert

open Idealize.ShloMosaic Idealize.ShloMosaic.Tactic Idealize.ShloMosaic.StableHlo Idealize.SL.Sem

/-- The kernel's and the reference's normed rows are equal. -/
theorem rms_equal : algebraic_RmsIdeal_RmsRefIdeal (hRmsIdeal := RmsIdeal.Gen.facts) (hRmsRefIdeal := RmsRefIdeal.Gen.facts) := by
  intro m ρ m' ρ' _ hin
  refine ⟨fun c => RmsIdeal.Hand.normed (m ((c.tc : Thread RmsIdeal.nD RmsIdeal.τ).loc RmsIdeal.main_arg0)) (m ((c.tc : Thread RmsIdeal.nD RmsIdeal.τ).loc RmsIdeal.main_arg1)),
    (θ_run _ _ _).mono (fun r h c => ⟨(h c).1.trans (RmsIdeal.Hand.final m c), (h c).2⟩) (RmsIdeal.Value.run_blocks m ρ),
    (θ_run _ _ _).mono (fun r h c => ⟨(h c).1.trans ?_, (h c).2⟩) (RmsRefIdeal.Value.run (F := Ideal) m' ρ')⟩
  rw [(hin c).1, (hin c).2]
  funext j
  rw [eq_ix2 j]
  pointwise [RmsIdeal.Hand.normed]

end Cert

end
-- ==== Proof.DownLSteps.lean ====
/- The feed-forward's second product of the last layer with the residual: what a point's body computes and what the accumulator holds. -/
module

public import proofs.«01_k».proof.Proof.Gen.DownLIdeal.Value
public import Idealize.ShloMosaic.Lib.Pipeline.ValueKit
public import Idealize.ShloMosaic.Lib.Pointwise

@[expose] public section

set_option maxRecDepth 16384
set_option maxHeartbeats 4000000

noncomputable section

namespace Cert.DownLIdeal.Hand

open Idealize.ShloMosaic Idealize.ShloMosaic.Tactic Idealize.ShloMosaic.TcCoe Cert.DownLIdeal.Gen Idealize.SL.Sem
open Idealize.ShloMosaic.Pipeline (Dat)

/-- The product over all 2816 columns. -/
def total (A : Vec Ideal S4x4096x704 .bf16) (B : Vec Ideal S1x4x704x1024 .bf16) (s : Fin 4096) (n : Fin 1024) : EReal :=
  ∑ q : Fin 2816, (A (ix3 ⟨q.val / 704, by omega⟩ s ⟨q.val % 704, by omega⟩) : EReal) * (B (ix4 0 ⟨q.val / 704, by omega⟩ ⟨q.val % 704, by omega⟩ n) : EReal)

/-- One slot's share of it. -/
def slot (A : Vec Ideal S4x4096x704 .bf16) (B : Vec Ideal S1x4x704x1024 .bf16) (j : Fin 4) (s : Fin 4096) (n : Fin 1024) : EReal :=
  ∑ k : Fin 704, (A (ix3 j s k) : EReal) * (B (ix4 0 j k n) : EReal)

theorem total_slots (A : Vec Ideal S4x4096x704 .bf16) (B : Vec Ideal S1x4x704x1024 .bf16) (s : Fin 4096) (n : Fin 1024) :
    total A B s n = ∑ j : Fin 4, slot A B j s n := by
  unfold total slot
  refine (Fin.sum_mul_add_congr fun j k hl => ?_).symm
  have e1 : (⟨(j.val * 704 + k.val) / 704, by omega⟩ : Fin 4) = j := Fin.ext (by show (j.val * 704 + k.val) / 704 = j.val; omega)
  have e2 : (⟨(j.val * 704 + k.val) % 704, by omega⟩ : Fin 704) = k := Fin.ext (by show (j.val * 704 + k.val) % 704 = k.val; omega)
  simp only [e1, e2]

/-- The residual stream after the product. -/
def rows (A : Vec Ideal S4x4096x704 .bf16) (B : Vec Ideal S1x4x704x1024 .bf16) (h : Vec Ideal S4096x1024 .f32) (s : Fin 4096) (n : Fin 1024) : EReal := total A B s n + (h (ix2 s n) : EReal)
/-- As an array. -/
def rowsA (A : Vec Ideal S4x4096x704 .bf16) (B : Vec Ideal S1x4x704x1024 .bf16) (h : Vec Ideal S4096x1024 .f32) : Vec Ideal S4096x1024 .f32 := fun i => rows A B h ⟨(i 0).val, (i 0).isLt⟩ ⟨(i 1).val, (i 1).isLt⟩
variable (m : (ℓ : Loc nD τ sig) → Buf (Elt Ideal) ℓ) (c : Dev nD)

theorem points (t : Fin cfg0.N) : t.val < 8 := lt_of_lt_of_eq t.isLt N_0

/-- Where a point's blocks lie. -/
theorem idx : ∀ t : Fin cfg0.N, win0_0.index t = ![t.val % 2, t.val / 2, 0] ∧ win0_1.index t = ![0, t.val % 2, 0, 0] ∧ win0_2.index t = ![t.val / 2, 0]
    ∧ win0_3.index t = ![t.val / 2, 0] := by decide +kernel

/-- The two slots' products at a point, entry by entry. -/
def term (A : Vec Ideal S4x4096x704 .bf16) (B : Vec Ideal S1x4x704x1024 .bf16) (t : Fin cfg0.N) (p n : Fin 1024) : EReal :=
  (∑ k : Fin 704, (A (ix3 ⟨2 * (t.val % 2), by omega⟩ ⟨1024 * (t.val / 2) + p.val, by have := points t; omega⟩ k) : EReal) * (B (ix4 0 ⟨2 * (t.val % 2), by omega⟩ k n) : EReal))
  + ∑ k : Fin 704, (A (ix3 ⟨2 * (t.val % 2) + 1, by omega⟩ ⟨1024 * (t.val / 2) + p.val, by have := points t; omega⟩ k) : EReal) * (B (ix4 0 ⟨2 * (t.val % 2) + 1, by omega⟩ k n) : EReal)

theorem term_eq (A : Vec Ideal S4x4096x704 .bf16) (B : Vec Ideal S1x4x704x1024 .bf16) (t : Fin cfg0.N) (p n : Fin 1024) (j j' : Fin 4) (s : Fin 4096)
    (hj : 2 * (t.val % 2) = j.val) (hj' : 2 * (t.val % 2) + 1 = j'.val) (hs : 1024 * (t.val / 2) + p.val = s.val) :
    term A B t p n = slot A B j s n + slot A B j' s n := by
  unfold term slot
  have e1 : (⟨2 * (t.val % 2), by omega⟩ : Fin 4) = j := Fin.ext hj
  have e2 : (⟨2 * (t.val % 2) + 1, by omega⟩ : Fin 4) = j' := Fin.ext hj'
  have e3 : (⟨1024 * (t.val / 2) + p.val, by omega⟩ : Fin 4096) = s := Fin.ext hs
  simp only [e1, e2, e3]

theorem first (t : Fin cfg0.N) (h : t.val % 2 = 0) (p n : Fin 1024) :
    ((outsAt0 m c t.val t.isLt).2 (ix2 p n) : EReal) = term (m ((c : Thread nD τ).loc main_arg0)) (m ((c : Thread nD τ).loc main_arg1)) t p n := by
  rw [outsAt0_A m c t h (by omega) (by omega)]
  frame_out
  unfold term
  pointwise [k0_pay1]
  congr 1 <;> refine Finset.sum_congr rfl fun k _ => ?_ <;> blk_point [iblk, V, (idx t).1, (idx t).2.1]

theorem next (t : Fin cfg0.N) (h : t.val % 2 = 1) (p n : Fin 1024) :
    ((outsAt0 m c t.val t.isLt).2 (ix2 p n) : EReal) = ((outsAt0 m c (t.val - 1) (Nat.lt_of_le_of_lt (Nat.sub_le _ _) t.isLt)).2 (ix2 p n) : EReal)
      + term (m ((c : Thread nD τ).loc main_arg0)) (m ((c : Thread nD τ).loc main_arg1)) t p n := by
  rw [outsAt0_B m c t (by omega) (by omega) h]
  frame_out
  unfold term
  pointwise [k0_pay2]
  refine congr (congrArg HAdd.hAdd ?_) (congr (congrArg HAdd.hAdd (Finset.sum_congr rfl fun k _ => ?_)) (Finset.sum_congr rfl fun k _ => ?_))
  · exact congrFun (Memref.IsWhole.read_unread _ _) _
  · blk_point [iblk, V, (idx t).1, (idx t).2.1]
  · blk_point [iblk, V, (idx t).1, (idx t).2.1]

/-- The accumulator after a block's last point. -/
theorem acc_at (i : Fin 4) (t : Fin cfg0.N) (ht : t.val = 2 * i.val + 1) (p n : Fin 1024) :
    ((outsAt0 m c t.val t.isLt).2 (ix2 p n) : EReal) = total (m ((c : Thread nD τ).loc main_arg0)) (m ((c : Thread nD τ).loc main_arg1)) ⟨1024 * i.val + p.val, by omega⟩ n := by
  have l2 : t.val - 1 < cfg0.N := by have := t.isLt; omega
  rw [next m c t (by omega) p n]
  rw [first m c ⟨t.val - 1, l2⟩ (by show (t.val - 1) % 2 = 0; omega) p n]
  rw [total_slots, Fin.sum_univ_four]
  rw [term_eq _ _ ⟨t.val - 1, l2⟩ p n 0 1 ⟨1024 * i.val + p.val, by omega⟩ (by show 2 * ((t.val - 1) % 2) = 0; omega) (by show 2 * ((t.val - 1) % 2) + 1 = 1; omega) (by show 1024 * ((t.val - 1) / 2) + p.val = 1024 * i.val + p.val; omega),
    term_eq _ _ t p n 2 3 ⟨1024 * i.val + p.val, by omega⟩ (by show 2 * (t.val % 2) = 2; omega) (by show 2 * (t.val % 2) + 1 = 3; omega) (by show 1024 * (t.val / 2) + p.val = 1024 * i.val + p.val; omega)]
  simp only [add_assoc]

/-- The input blocks of a block's last point. -/
theorem block2 (i : Fin 4) (t : Fin cfg0.N) (ht : t.val = 2 * i.val + 1) (p n : Fin 1024) :
    (iblk m c 2 t (ix2 p n) : EReal) = (m ((c : Thread nD τ).loc main_arg2) : Vec Ideal S4096x1024 .f32) (ix2 ⟨1024 * i.val + p.val, by omega⟩ n) := by
  have e : t.val / 2 = i.val := by omega
  blk_point [iblk, V, (idx t).2.2.1, e]
theorem pay3_apply (v h : Vec Ideal S1024x1024 .f32) (p n : Fin 1024) : (k0_pay3 (F := Ideal) v h (ix2 p n) : EReal) = (v (ix2 p n) : EReal) + (h (ix2 p n) : EReal) := by
  pointwise [k0_pay3]
/-- The result of a block's last point, from the accumulator. -/
theorem last3 (t : Fin cfg0.N) (h : t.val % 2 = 1) :
    (outsAt0 m c t.val t.isLt).1 = k0_pay3 (F := Ideal) (outsAt0 m c t.val t.isLt).2 (iblk m c 2 t) := by
  rw [outsAt0_B m c t (by omega) (by omega) h]
  frame_out
theorem rows_at (i : Fin 4) (t : Fin cfg0.N) (ht : t.val = 2 * i.val + 1) (p n : Fin 1024) :
    (k0_pay3 (F := Ideal) (outsAt0 m c t.val t.isLt).2 (iblk m c 2 t) (ix2 p n) : EReal) = rows (m ((c : Thread nD τ).loc main_arg0)) (m ((c : Thread nD τ).loc main_arg1)) (m ((c : Thread nD τ).loc main_arg2)) ⟨1024 * i.val + p.val, by omega⟩ n := by
  rw [pay3_apply]
  unfold rows
  rw [acc_at m c i t ht, block2 m c i t ht]
theorem arr3 : (dats m 0 c).arrAt 3 cfg0.N = rowsA (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have ht := points t
  blk_simp
  rw [after0_3, last3 m c t h1]
  rw [eq_ix2 y]
  refine (rows_at m c ⟨t.val / 2, by omega⟩ t (by show t.val = 2 * (t.val / 2) + 1; omega) _ _).trans ?_
  blk_point [rowsA, (idx t).2.2.2]

end Cert.DownLIdeal.Hand

end
-- ==== Proof.DownLValue.lean ====
/- The feed-forward's second product of the last layer with the residual: the reference at an entry, and the claim. -/
module

public import proofs.«01_k».proof.Defs
public import proofs.«01_k».proof.Proof.DownLSteps
public import proofs.«01_k».proof.Proof.Gen.DownLRefIdeal.Run
public import Idealize.ShloMosaic.Lib.Pointwise
public import Idealize.ShloMosaic.Lib.KernelVsHost

@[expose] public section

set_option maxRecDepth 16384
set_option maxHeartbeats 4000000

noncomputable section

namespace Cert.DownLIdeal.Hand

open Idealize.ShloMosaic Idealize.ShloMosaic.Tactic Idealize.ShloMosaic.TcCoe Cert.DownLIdeal.Gen Idealize.SL.Sem
open Idealize.ShloMosaic.Pipeline (Dat)

/-- The slots side by side as one matrix. -/
def wide (a : Vec Ideal Cert.DownLRefIdeal.S4096x4x704 .bf16) : Vec Ideal Cert.DownLRefIdeal.S4096x2816 .bf16 :=
  fun i => a (ix3 ⟨(i 0).val, (i 0).isLt⟩ ⟨(i 1).val / 704, by have : (i 1).val < 2816 := (i 1).isLt; omega⟩ ⟨(i 1).val % 704, by omega⟩)
/-- The weights' slots one above the other as one matrix. -/
def tall (w : Vec Ideal S1x4x704x1024 .bf16) : Vec Ideal Cert.DownLRefIdeal.S2816x1024 .bf16 :=
  fun i => w (ix4 0 ⟨(i 0).val / 704, by have : (i 0).val < 2816 := (i 0).isLt; omega⟩ ⟨(i 0).val % 704, by omega⟩ ⟨(i 1).val, (i 1).isLt⟩)

theorem wide_eq (a : Vec Ideal Cert.DownLRefIdeal.S4096x4x704 .bf16) (h) : shapeCast Cert.DownLRefIdeal.S4096x2816 a h = wide a := funext fun i => by
  exact shapeCast_apply a h i (ix3 ⟨(i 0).val, (i 0).isLt⟩ ⟨(i 1).val / 704, by have : (i 1).val < 2816 := (i 1).isLt; omega⟩ ⟨(i 1).val % 704, by omega⟩) (by
    rw [Shape.rowMajor_val_three, Shape.rowMajor_val_two]
    show ((i 0).val * 4 + (i 1).val / 704) * 704 + (i 1).val % 704 = (i 0).val * 2816 + (i 1).val
    omega)

theorem tall_eq (w : Vec Ideal S1x4x704x1024 .bf16) (h) : shapeCast Cert.DownLRefIdeal.S2816x1024 w h = tall w := funext fun i => by
  exact shapeCast_apply w h i (ix4 0 ⟨(i 0).val / 704, by have : (i 0).val < 2816 := (i 0).isLt; omega⟩ ⟨(i 0).val % 704, by omega⟩ ⟨(i 1).val, (i 1).isLt⟩) (by
    rw [Shape.rowMajor_val_four, Shape.rowMajor_val_two]
    show ((0 * 4 + (i 0).val / 704) * 704 + (i 0).val % 704) * 1024 + (i 1).val = (i 0).val * 1024 + (i 1).val
    omega)

end Cert.DownLIdeal.Hand

namespace Cert

open Idealize.ShloMosaic Idealize.ShloMosaic.Tactic Idealize.ShloMosaic.StableHlo Idealize.SL.Sem

/-- The kernel's and the reference's last residual streams are equal. -/
theorem downl_equal : algebraic_DownLIdeal_DownLRefIdeal (hDownLIdeal := DownLIdeal.Gen.facts) (hDownLRefIdeal := DownLRefIdeal.Gen.facts) := by
  intro m ρ m' ρ' _ hin
  refine ⟨fun c => DownLIdeal.Hand.rowsA (m ((c.tc : Thread DownLIdeal.nD DownLIdeal.τ).loc DownLIdeal.main_arg0)) (m ((c.tc : Thread DownLIdeal.nD DownLIdeal.τ).loc DownLIdeal.main_arg1)) (m ((c.tc : Thread DownLIdeal.nD DownLIdeal.τ).loc DownLIdeal.main_arg2)),
    (θ_run _ _ _).mono (fun r h c => ⟨(h c).1.trans (DownLIdeal.Hand.arr3 m c), (h c).2⟩) (DownLIdeal.Value.run_blocks m ρ),
    (θ_run _ _ _).mono (fun r h c => ⟨(h c).1.trans ?_, (h c).2⟩) (DownLRefIdeal.Value.run (F := Ideal) m' ρ')⟩
  rw [(hin c).1, (hin c).2.1, (hin c).2.2, DownLIdeal.Hand.wide_eq, DownLIdeal.Hand.tall_eq]
  funext j
  rw [eq_ix2 j]
  pointwise [DownLIdeal.Hand.rowsA, DownLIdeal.Hand.rows, DownLIdeal.Hand.total, DownLIdeal.Hand.wide, DownLIdeal.Hand.tall]
  exact add_comm _ _

end Cert

end
-- ==== Proof.OutDValue.lean ====
/- The gradient of the recurrence's output, entry by entry, and the claim about it. -/
module

public import proofs.«01_k».proof.Defs
public import proofs.«01_k».proof.Proof.Gen.OutDIdeal.Value
public import proofs.«01_k».proof.Proof.Gen.OutDRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.OutDIdeal.Hand

open Idealize.ShloMosaic Idealize.ShloMosaic.Tactic Idealize.ShloMosaic.TcCoe Cert.OutDIdeal.Gen Idealize.SL.Sem
open Idealize.ShloMosaic.Pipeline (Dat)

/-- The gradient: for each token and column the sum over the model's width. -/
def G (a : Vec Ideal S4096x1024 .bf16) (b : Vec Ideal S1x1024x1024 .bf16) : Vec Ideal S4096x1024 .f32 :=
  fun i => (∑ x : Fin 1024, (a (ix2 ⟨(i 0).val, (i 0).isLt⟩ x) : EReal) * (b (ix3 0 ⟨(i 1).val, (i 1).isLt⟩ x) : EReal) : EReal)

/-- The one layer's weights as a matrix. -/
def flat (w : Vec Ideal S1x1024x1024 .bf16) : Vec Ideal Cert.OutDRefIdeal.S1024x1024 .bf16 := fun i => w (ix3 0 ⟨(i 0).val, (i 0).isLt⟩ ⟨(i 1).val, (i 1).isLt⟩)

theorem flat_eq (w : Vec Ideal S1x1024x1024 .bf16) (h) : shapeCast Cert.OutDRefIdeal.S1024x1024 w h = flat w := funext fun i => by
  exact shapeCast_apply w h i (ix3 0 ⟨(i 0).val, (i 0).isLt⟩ ⟨(i 1).val, (i 1).isLt⟩) (by
    rw [Shape.rowMajor_val_three, Shape.rowMajor_val_two]
    show (0 * 1024 + (i 0).val) * 1024 + (i 1).val = (i 0).val * 1024 + (i 1).val
    omega)

variable (m : (ℓ : Loc nD τ sig) → Buf (Elt Ideal) ℓ) (ρ : Dev nD → PrngReg)

/-- Where a point's blocks lie. -/
theorem idx : ∀ t : Fin cfg0.N, win0_0.index t = ![t.val, 0] ∧ win0_1.index t = ![0, 0, 0] ∧ win0_2.index t = ![t.val, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.OutDIdeal.Hand

namespace Cert

open Idealize.ShloMosaic Idealize.ShloMosaic.Tactic Idealize.ShloMosaic.StableHlo Idealize.SL.Sem

/-- The kernel's and the reference's gradients of the recurrence's output are equal. -/
theorem outd_equal : algebraic_OutDIdeal_OutDRefIdeal (hOutDIdeal := OutDIdeal.Gen.facts) (hOutDRefIdeal := OutDRefIdeal.Gen.facts) := by
  intro m ρ m' ρ' _ hin
  refine ⟨fun c => OutDIdeal.Hand.G (m ((c.tc : Thread OutDIdeal.nD OutDIdeal.τ).loc OutDIdeal.main_arg0)) (m ((c.tc : Thread OutDIdeal.nD OutDIdeal.τ).loc OutDIdeal.main_arg1)),
    (θ_run _ _ _).mono (fun r h c => ⟨(h c).1.trans (OutDIdeal.Hand.final m c), (h c).2⟩) (OutDIdeal.Value.run_blocks m ρ),
    (θ_run _ _ _).mono (fun r h c => ⟨(h c).1.trans ?_, (h c).2⟩) (OutDRefIdeal.Value.run (F := Ideal) m' ρ')⟩
  rw [(hin c).1, (hin c).2, OutDIdeal.Hand.flat_eq]
  funext j
  pointwise [OutDIdeal.Hand.G]
  rfl

end Cert

end
-- ==== Proof.NormRow.lean ====
/- One row of the gradient of the norm: the kernel's grouping and the derivative's agree, with infinite entries too. -/
module

public import proofs.«01_k».proof.Proof.AttnReal
public import Idealize.ShloMosaic.PureOps.Ideal

@[expose] public section

namespace Cert.NormRow

open Idealize.ShloMosaic Cert.Attn

/-- The width of a row, and the half with its sign, as the numbers that their 32-bit patterns spell. -/
theorem width_bits : Ideal.ofBits .f32 0x44800000#32 = ((1024 : ℝ) : EReal) := by
  simp [Ideal.ofBits, Ideal.ieee, -EReal.coe_mul]; norm_num
theorem half_bits : Ideal.ofBits .f32 0xBF000000#32 = ((-(1 / 2) : ℝ) : EReal) := by
  simp [Ideal.ofBits, Ideal.ieee, -EReal.coe_mul]; norm_num

/-- The number added under the root is positive. -/
theorem small_bits : ∃ e : ℝ, 0 < e ∧ Ideal.ofBits .f32 0x358637BD#32 = (e : EReal) := by
  refine ⟨_, ?_, by simp [Ideal.ofBits, Ideal.ieee, -EReal.coe_mul]; rfl⟩
  positivity

/-- A positive factor goes into any sum. -/
theorem sum_mul_pos {ι : Type} (s : Finset ι) (f : ι → EReal) {R : ℝ} (hR : 0 < R) : (∑ i ∈ s, f i) * (R : EReal) = ∑ i ∈ s, f i * (R : EReal) := by
  classical
  induction s using Finset.induction_on with
  | empty => simp
  | insert a s h ih =>
    rw [Finset.sum_insert h, Finset.sum_insert h, EReal.right_distrib_of_nonneg_of_ne_top (by exact_mod_cast hR.le) (EReal.coe_ne_top R), ih]

theorem div_width (s : EReal) : Ideal.div s ((1024 : ℝ) : EReal) = s * ((1024⁻¹ : ℝ) : EReal) := by
  unfold Ideal.div
  rw [if_neg (by exact_mod_cast (by norm_num : (1024 : ℝ) ≠ 0)), ← EReal.coe_inv]

/-- A row of real numbers: `a` the scaled gradient at the entry, `s` the row's sum, `X` the entry, `R` the root's inverse. -/
theorem entry_real (a s : EReal) (X R M : ℝ) (hR : 0 < R) (hM : 0 < M) (hRR : R / M = R * (R * R)) :
    (R : EReal) * (a - (X : EReal) * R * (s * R * ((1024⁻¹ : ℝ) : EReal)))
      = a * R + (X * (s * (((-(1 / 2) : ℝ) : EReal) * ((R / M : ℝ) : EReal)) * ((1024⁻¹ : ℝ) : EReal))
        + s * (((-(1 / 2) : ℝ) : EReal) * ((R / M : ℝ) : EReal)) * ((1024⁻¹ : ℝ) : EReal) * X) := by
  have hc : (0 : ℝ) < 1024⁻¹ := by norm_num
  have hn : -(1 / 2) * (R / M) < 0 := by have := div_pos hR hM; linarith
  rw [← EReal.coe_mul (-(1 / 2)) (R / M), ← EReal.coe_mul X R]
  induction s with
  | coe S =>
    simp only [← EReal.coe_mul, ← EReal.coe_add]
    induction a with
    | coe A =>
      simp only [← EReal.coe_mul, ← EReal.coe_add, ← EReal.coe_sub]
      rw [hRR]
      refine congrArg (fun r : ℝ => (r : EReal)) ?_
      ring
    | top => rw [EReal.top_sub_coe, EReal.coe_mul_top_of_pos hR, EReal.top_mul_coe_of_pos hR, EReal.top_add_coe]
    | bot => rw [EReal.bot_sub, EReal.coe_mul_bot_of_pos hR, EReal.bot_mul_coe_of_pos hR, EReal.bot_add]
  | top =>
    rw [EReal.top_mul_coe_of_pos hR, EReal.top_mul_coe_of_pos hc, EReal.top_mul_coe_of_neg hn, EReal.bot_mul_coe_of_pos hc]
    rcases lt_trichotomy X 0 with hX | rfl | hX
    · rw [EReal.coe_mul_top_of_neg (mul_neg_of_neg_of_pos hX hR), EReal.coe_mul_bot_of_neg hX, EReal.bot_mul_coe_of_neg hX]
      induction a with
      | coe A => simp [EReal.coe_mul_top_of_pos hR, ← EReal.coe_mul]
      | top => simp [EReal.coe_mul_top_of_pos hR, EReal.top_mul_coe_of_pos hR]
      | bot => simp [EReal.coe_mul_bot_of_pos hR, EReal.bot_mul_coe_of_pos hR]
    · simp [mul_comm]
    · rw [EReal.coe_mul_top_of_pos (mul_pos hX hR), EReal.coe_mul_bot_of_pos hX, EReal.bot_mul_coe_of_pos hX, EReal.sub_top, EReal.coe_mul_bot_of_pos hR, EReal.bot_add, EReal.add_bot]
  | bot =>
    rw [EReal.bot_mul_coe_of_pos hR, EReal.bot_mul_coe_of_pos hc, EReal.bot_mul_coe_of_neg hn, EReal.top_mul_coe_of_pos hc]
    rcases lt_trichotomy X 0 with hX | rfl | hX
    · rw [EReal.coe_mul_bot_of_neg (mul_neg_of_neg_of_pos hX hR), EReal.coe_mul_top_of_neg hX, EReal.top_mul_coe_of_neg hX, EReal.sub_top, EReal.coe_mul_bot_of_pos hR, EReal.bot_add, EReal.add_bot]
    · simp [mul_comm]
    · rw [EReal.coe_mul_bot_of_pos (mul_pos hX hR), EReal.coe_mul_top_of_pos hX, EReal.top_mul_coe_of_pos hX]
      induction a with
      | coe A => simp [EReal.coe_mul_top_of_pos hR, ← EReal.coe_mul]
      | top => simp [EReal.coe_mul_top_of_pos hR, EReal.top_mul_coe_of_pos hR]
      | bot => simp [EReal.coe_mul_bot_of_pos hR, EReal.bot_mul_coe_of_pos hR]

theorem square_nonneg (x : EReal) : 0 ≤ x * x := by
  induction x with
  | coe r => rw [← EReal.coe_mul]; exact_mod_cast mul_self_nonneg r
  | top => simp
  | bot => simp

/-- THE ROW: `x` the row, `v` the gradient of the normed row, `g` the scales, `h` what the residual adds. -/
theorem norm_row {n : ℕ} (x v g : Fin n → EReal) (h : EReal) (j : Fin n)
    (r m : EReal) (hm : m = Ideal.div (∑ k, x k * x k) (Ideal.ofBits .f32 0x44800000#32) + Ideal.ofBits .f32 0x358637BD#32) (hr : r = Ideal.rsqrt m) :
    h + r * (v j * g j - x j * r * Ideal.div (∑ k, v k * g k * (x k * r)) (Ideal.ofBits .f32 0x44800000#32))
      = h + v j * g j * r + x j * Ideal.div ((∑ k, x k * (v k * g k)) * (Ideal.ofBits .f32 0xBF000000#32 * Ideal.div r m)) (Ideal.ofBits .f32 0x44800000#32)
        + Ideal.div ((∑ k, x k * (v k * g k)) * (Ideal.ofBits .f32 0xBF000000#32 * Ideal.div r m)) (Ideal.ofBits .f32 0x44800000#32) * x j := by
  rw [add_assoc (h + v j * g j * r), add_assoc h]
  congr 1
  obtain ⟨e, he, hE⟩ := small_bits
  have h0 : (1024 : ℝ) ≠ 0 := by norm_num
  rw [width_bits, hE, div_width] at hm
  rw [width_bits, half_bits, div_width, div_width]
  by_cases hx : ∀ k, IsReal (x k)
  · choose X hX using hx
    have hS : 0 ≤ (∑ k, X k * X k) * 1024⁻¹ := mul_nonneg (Finset.sum_nonneg fun k _ => mul_self_nonneg _) (by norm_num)
    obtain ⟨M, hM⟩ : ∃ M : ℝ, M = (∑ k, X k * X k) * 1024⁻¹ + e := ⟨_, rfl⟩
    have hM0 : 0 < M := by rw [hM]; linarith
    have em : m = (M : EReal) := by
      rw [hm, hM]
      simp only [hX, ← EReal.coe_mul, ← coe_sum, ← EReal.coe_add]
    obtain ⟨R, hR⟩ : ∃ R : ℝ, R = (Real.sqrt M)⁻¹ := ⟨_, rfl⟩
    have hR0 : 0 < R := by rw [hR]; exact inv_pos.2 (Real.sqrt_pos.2 hM0)
    have er : r = (R : EReal) := by
      rw [hr, em, Ideal.rsqrt_coe, if_neg (not_lt.2 hM0.le), if_neg hM0.ne', hR]
    have hRR : R / M = R * (R * R) := by
      have : R * R = M⁻¹ := by rw [hR, ← mul_inv, Real.mul_self_sqrt hM0.le]
      rw [this, div_eq_mul_inv]
    have e1 : ∑ k, v k * g k * (x k * r) = (∑ k, x k * (v k * g k)) * R := by
      rw [er, sum_mul_pos _ _ hR0]
      exact Finset.sum_congr rfl fun k _ => by rw [mul_comm (x k) (v k * g k), mul_assoc (v k * g k)]
    rw [e1, er, em, div_real _ _ hM0.ne', hX j]
    exact entry_real _ _ _ _ _ hR0 hM0 hRR
  · obtain ⟨k, hk⟩ := not_forall.1 hx
    have hkk : x k * x k = ⊤ := by
      generalize x k = y at hk
      induction y with
      | coe r => exact absurd ⟨r, rfl⟩ hk
      | top => simp
      | bot => simp
    have ht : ∑ k, x k * x k = ⊤ := top_le_iff.1 (hkk ▸ Finset.single_le_sum (f := fun k => x k * x k) (fun i _ => square_nonneg (x i)) (Finset.mem_univ k))
    have em : m = ⊤ := by rw [hm, ht, EReal.top_mul_coe_of_pos (by norm_num), EReal.top_add_coe]
    have er : r = 0 := by rw [hr, em, Ideal.rsqrt_top]
    have ed : Ideal.div 0 (⊤ : EReal) = 0 := by simp [Ideal.div]
    rw [er, em, ed]
    simp

end Cert.NormRow

end
-- ==== Proof.AttDArrays.lean ====
/- The gradient of the attention's input with the gradient of the norm: a point's body, and the three arrays. -/
module

public import proofs.«01_k».proof.Proof.Gen.AttDIdeal.Value
public import Idealize.ShloMosaic.Lib.Pipeline.ValueKit
public import Idealize.ShloMosaic.Lib.Pointwise

@[expose] public section

set_option maxRecDepth 16384
set_option maxHeartbeats 4000000

noncomputable section

namespace Cert.AttDIdeal.Hand

open Idealize.ShloMosaic Idealize.ShloMosaic.Tactic Idealize.ShloMosaic.TcCoe Cert.AttDIdeal.Gen Idealize.SL.Sem
open Idealize.ShloMosaic.Pipeline (Dat)

/-- The inverse root of a row's mean square. -/
def rowR (x : Vec Ideal S1024x1024 .f32) (p : Fin 1024) : EReal :=
  Ideal.rsqrt (Ideal.div (∑ k : Fin 1024, (x (ix2 p k) : EReal) * (x (ix2 p k) : EReal)) (Ideal.ofBits .f32 0x44800000#32) + Ideal.ofBits .f32 0x358637BD#32)

/-- A block's product. -/
def prod (a : Vec Ideal S1024x1536 .bf16) (b : Vec Ideal S1x1536x1024 .bf16) (p n : Fin 1024) : EReal := ∑ q : Fin 1536, (a (ix2 p q) : EReal) * (b (ix3 0 q n) : EReal)

theorem grad_apply (a : Vec Ideal S1024x1536 .bf16) (b : Vec Ideal S1x1536x1024 .bf16) (x : Vec Ideal S1024x1024 .f32) (g : Vec Ideal S1x1024 .f32) (h : Vec Ideal S1024x1024 .f32) (p n : Fin 1024) :
    (k0_pay6 (F := Ideal) a b x g h (ix2 p n) : EReal) = (h (ix2 p n) : EReal) + rowR x p * (prod a b p n * (g (ix2 0 n) : EReal)
      - (x (ix2 p n) : EReal) * rowR x p * Ideal.div (∑ k : Fin 1024, prod a b p k * (g (ix2 0 k) : EReal) * ((x (ix2 p k) : EReal) * rowR x p)) (Ideal.ofBits .f32 0x44800000#32)) := by
  unfold rowR prod
  pointwise [k0_pay6, k0_pay5, k0_pay4, k0_pay3]

theorem part_apply (a : Vec Ideal S1024x1536 .bf16) (b : Vec Ideal S1x1536x1024 .bf16) (x : Vec Ideal S1024x1024 .f32) (n : Fin 1024) :
    (k0_pay1 (F := Ideal) (k0_pay8 a b x) (ix2 0 n) : EReal) = ∑ p : Fin 1024, prod a b p n * ((x (ix2 p n) : EReal) * rowR x p) := by
  unfold rowR prod
  pointwise [k0_pay1, k0_pay8, k0_pay5, k0_pay4, k0_pay3]

/-- The product over all columns: the gradient of the normed rows. -/
def total (A : Vec Ideal S4096x1536 .bf16) (B : Vec Ideal S1x1536x1024 .bf16) (s : Fin 4096) (n : Fin 1024) : EReal := ∑ q : Fin 1536, (A (ix2 s q) : EReal) * (B (ix3 0 q n) : EReal)

/-- The inverse root of a token's mean square. -/
def root (x : Vec Ideal S4096x1024 .f32) (s : Fin 4096) : EReal :=
  Ideal.rsqrt (Ideal.div (∑ k : Fin 1024, (x (ix2 s k) : EReal) * (x (ix2 s k) : EReal)) (Ideal.ofBits .f32 0x44800000#32) + Ideal.ofBits .f32 0x358637BD#32)

/-- The gradient of the norm's argument. -/
def dh (A : Vec Ideal S4096x1536 .bf16) (B : Vec Ideal S1x1536x1024 .bf16) (x : Vec Ideal S4096x1024 .f32) (g : Vec Ideal S1x1024 .f32) (h : Vec Ideal S4096x1024 .f32) (s : Fin 4096) (n : Fin 1024) : EReal :=
  (h (ix2 s n) : EReal) + root x s * (total A B s n * (g (ix2 0 n) : EReal)
    - (x (ix2 s n) : EReal) * root x s * Ideal.div (∑ k : Fin 1024, total A B s k * (g (ix2 0 k) : EReal) * ((x (ix2 s k) : EReal) * root x s)) (Ideal.ofBits .f32 0x44800000#32))

/-- A token's share of the gradient of the norm's scales, and the gradient. -/
def share (A : Vec Ideal S4096x1536 .bf16) (B : Vec Ideal S1x1536x1024 .bf16) (x : Vec Ideal S4096x1024 .f32) (s : Fin 4096) (n : Fin 1024) : EReal := total A B s n * ((x (ix2 s n) : EReal) * root x s)
def dg (A : Vec Ideal S4096x1536 .bf16) (B : Vec Ideal S1x1536x1024 .bf16) (x : Vec Ideal S4096x1024 .f32) (n : Fin 1024) : EReal := ∑ s : Fin 4096, share A B x s n

/-- The three arrays. -/
def dhA (A : Vec Ideal S4096x1536 .bf16) (B : Vec Ideal S1x1536x1024 .bf16) (x : Vec Ideal S4096x1024 .f32) (g : Vec Ideal S1x1024 .f32) (h : Vec Ideal S4096x1024 .f32) : Vec Ideal S4096x1024 .f32 := fun i => dh A B x g h ⟨(i 0).val, (i 0).isLt⟩ ⟨(i 1).val, (i 1).isLt⟩
def dhB (A : Vec Ideal S4096x1536 .bf16) (B : Vec Ideal S1x1536x1024 .bf16) (x : Vec Ideal S4096x1024 .f32) (g : Vec Ideal S1x1024 .f32) (h : Vec Ideal S4096x1024 .f32) : Vec Ideal S4096x1024 .bf16 := fun i => dh A B x g h ⟨(i 0).val, (i 0).isLt⟩ ⟨(i 1).val, (i 1).isLt⟩
def dgA (A : Vec Ideal S4096x1536 .bf16) (B : Vec Ideal S1x1536x1024 .bf16) (x : Vec Ideal S4096x1024 .f32) : Vec Ideal S1x1024 .f32 := fun i => dg A B x ⟨(i 1).val, (i 1).isLt⟩

variable (m : (ℓ : Loc nD τ sig) → Buf (Elt Ideal) ℓ) (c : Dev nD)

theorem points (t : Fin cfg0.N) : t.val < 4 := lt_of_lt_of_eq t.isLt N_0

/-- Where a point's blocks lie. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] ∧ win0_7.index t = ![t.val, 0] := by decide +kernel

theorem prod_at (t : Fin cfg0.N) (p n : Fin 1024) :
    prod (iblk m c 0 t) (iblk m c 1 t) p n = total (m ((c : Thread nD τ).loc main_arg0)) (m ((c : Thread nD τ).loc main_arg1)) ⟨1024 * t.val + p.val, by have := points t; omega⟩ n := by
  unfold prod total
  refine Finset.sum_congr rfl fun k _ => ?_
  blk_point [iblk, V, (idx t).1, (idx t).2.1]
theorem block2 (t : Fin cfg0.N) (p n : Fin 1024) :
    (iblk m c 2 t (ix2 p n) : EReal) = (m ((c : Thread nD τ).loc main_arg2) : Vec Ideal S4096x1024 .f32) (ix2 ⟨1024 * t.val + p.val, by have := points t; omega⟩ n) := by
  blk_point [iblk, V, (idx t).2.2.1]
theorem block3 (t : Fin cfg0.N) (n : Fin 1024) :
    (iblk m c 3 t (ix2 0 n) : EReal) = (m ((c : Thread nD τ).loc main_arg3) : Vec Ideal S1x1024 .f32) (ix2 0 n) := by
  blk_point [iblk, V, (idx t).2.2.2.1]
theorem block4 (t : Fin cfg0.N) (p n : Fin 1024) :
    (iblk m c 4 t (ix2 p n) : EReal) = (m ((c : Thread nD τ).loc main_arg4) : Vec Ideal S4096x1024 .f32) (ix2 ⟨1024 * t.val + p.val, by have := points t; omega⟩ n) := by
  blk_point [iblk, V, (idx t).2.2.2.2.1]
theorem root_at (t : Fin cfg0.N) (p : Fin 1024) : rowR (iblk m c 2 t) p = root (m ((c : Thread nD τ).loc main_arg2)) ⟨1024 * t.val + p.val, by have := points t; omega⟩ := by
  unfold rowR root
  simp only [block2 m c t]

theorem dh_at (t : Fin cfg0.N) (p n : Fin 1024) :
    (k0_pay6 (F := Ideal) (iblk m c 0 t) (iblk m c 1 t) (iblk m c 2 t) (iblk m c 3 t) (iblk m c 4 t) (ix2 p n) : EReal) = dh (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, by have := points t; omega⟩ n := by
  rw [grad_apply, root_at m c t]
  unfold dh
  simp only [prod_at m c t, block2 m c t, block3 m c t, block4 m c t]

theorem part_at (t : Fin cfg0.N) (n : Fin 1024) :
    (k0_pay1 (F := Ideal) (k0_pay8 (iblk m c 0 t) (iblk m c 1 t) (iblk m c 2 t)) (ix2 0 n) : EReal)
      = ∑ p : Fin 1024, share (m ((c : Thread nD τ).loc main_arg0)) (m ((c : Thread nD τ).loc main_arg1)) (m ((c : Thread nD τ).loc main_arg2)) ⟨1024 * t.val + p.val, by have := points t; omega⟩ n := by
  rw [part_apply]
  unfold share
  simp only [prod_at m c t, block2 m c t, root_at m c t]

/-- The three results of a point. -/
theorem out5 (t : Fin cfg0.N) : (outsAt0 m c t.val t.isLt).1 = k0_pay6 (F := Ideal) (iblk m c 0 t) (iblk m c 1 t) (iblk m c 2 t) (iblk m c 3 t) (iblk m c 4 t) := by
  have ht := points t
  by_cases h : t.val % 4 = 0
  · rw [outsAt0_A m c t h (by omega)]
    frame_out
  · rw [outsAt0_B m c t h (by omega)]
    frame_out
theorem out7 (t : Fin cfg0.N) : (outsAt0 m c t.val t.isLt).2.2 = k0_pay7 (F := Ideal) (iblk m c 0 t) (iblk m c 1 t) (iblk m c 2 t) (iblk m c 3 t) (iblk m c 4 t) := by
  have ht := points t
  by_cases h : t.val % 4 = 0
  · rw [outsAt0_A m c t h (by omega)]
    frame_out
  · rw [outsAt0_B m c t h (by omega)]
    frame_out
theorem first6 (t : Fin cfg0.N) (h : t.val = 0) : (outsAt0 m c t.val t.isLt).2.1 = k0_pay1 (F := Ideal) (k0_pay8 (iblk m c 0 t) (iblk m c 1 t) (iblk m c 2 t)) := by
  rw [outsAt0_A m c t (by omega) (by omega)]
  frame_out
theorem later6 (t : Fin cfg0.N) (h : t.val ≠ 0) :
    (outsAt0 m c t.val t.isLt).2.1 = k0_pay2 (F := Ideal) (k0_pay8 (iblk m c 0 t) (iblk m c 1 t) (iblk m c 2 t)) (outsAt0 m c (t.val - 1) (Nat.lt_of_le_of_lt (Nat.sub_le _ _) t.isLt)).2.1 := by
  have ht := points t
  rw [outsAt0_B m c t (by omega) (by omega)]
  frame_out

theorem arr5 : (dats m 0 c).arrAt 5 cfg0.N = dhA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := points t
  blk_simp
  rw [after0_5, out5 m c t]
  rw [eq_ix2 y]
  refine (dh_at m c t _ _).trans ?_
  blk_point [dhA, (idx t).2.2.2.2.2.1]

theorem arr7 : (dats m 0 c).arrAt 7 cfg0.N = dhB (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht := points t
  blk_simp
  rw [after0_7, out7 m c t]
  rw [eq_ix2 y]
  refine (dh_at m c t _ _).trans ?_
  blk_point [dhB, (idx t).2.2.2.2.2.2.2]

/-- The shares of one block of tokens. -/
def block (A : Vec Ideal S4096x1536 .bf16) (B : Vec Ideal S1x1536x1024 .bf16) (x : Vec Ideal S4096x1024 .f32) (i : Fin 4) (n : Fin 1024) : EReal := ∑ p : Fin 1024, share A B x ⟨1024 * i.val + p.val, by omega⟩ n

theorem scale_first (t : Fin cfg0.N) (ht : t.val = 0) (n : Fin 1024) :
    ((outsAt0 m c t.val t.isLt).2.1 (ix2 0 n) : EReal) = block (m ((c : Thread nD τ).loc main_arg0)) (m ((c : Thread nD τ).loc main_arg1)) (m ((c : Thread nD τ).loc main_arg2)) 0 n := by
  rw [first6 m c t ht, part_at m c t n]
  unfold block
  exact Finset.sum_congr rfl fun p _ => congrArg (fun s => share _ _ _ s n) (Fin.ext (by show 1024 * t.val + p.val = 1024 * 0 + p.val; omega))

theorem scale_next (i : Fin 4) (hi : i.val ≠ 0) (t : Fin cfg0.N) (ht : t.val = i.val) (l : t.val - 1 < cfg0.N) (n : Fin 1024) :
    ((outsAt0 m c t.val t.isLt).2.1 (ix2 0 n) : EReal) = ((outsAt0 m c (t.val - 1) l).2.1 (ix2 0 n) : EReal) + block (m ((c : Thread nD τ).loc main_arg0)) (m ((c : Thread nD τ).loc main_arg1)) (m ((c : Thread nD τ).loc main_arg2)) i n := by
  have e : block (m ((c : Thread nD τ).loc main_arg0)) (m ((c : Thread nD τ).loc main_arg1)) (m ((c : Thread nD τ).loc main_arg2)) i n = ∑ p : Fin 1024, share (m ((c : Thread nD τ).loc main_arg0)) (m ((c : Thread nD τ).loc main_arg1)) (m ((c : Thread nD τ).loc main_arg2)) ⟨1024 * t.val + p.val, by have := points t; omega⟩ n := by
    unfold block
    exact Finset.sum_congr rfl fun p _ => congrArg (fun s => share _ _ _ s n) (Fin.ext (by show 1024 * i.val + p.val = 1024 * t.val + p.val; omega))
  rw [later6 m c t (by omega), e, ← part_at m c t n]
  pointwise [k0_pay2]

theorem scale_last (t : Fin cfg0.N) (ht : t.val = 3) (n : Fin 1024) :
    ((outsAt0 m c t.val t.isLt).2.1 (ix2 0 n) : EReal) = dg (m ((c : Thread nD τ).loc main_arg0)) (m ((c : Thread nD τ).loc main_arg1)) (m ((c : Thread nD τ).loc main_arg2)) n := by
  have hN := t.isLt
  have l1 : t.val - 1 < cfg0.N := by omega
  have l2 : t.val - 1 - 1 < cfg0.N := by omega
  have l3 : t.val - 1 - 1 - 1 < cfg0.N := by omega
  have s3 := scale_next m c 3 (by decide) t (by rw [ht]; rfl) l1 n
  have s2 := scale_next m c 2 (by decide) ⟨_, l1⟩ (by show t.val - 1 = 2; omega) l2 n
  have s1 := scale_next m c 1 (by decide) ⟨_, l2⟩ (by show t.val - 1 - 1 = 1; omega) l3 n
  have s0 := scale_first m c ⟨_, l3⟩ (by show t.val - 1 - 1 - 1 = 0; omega) n
  have e : dg (m ((c : Thread nD τ).loc main_arg0)) (m ((c : Thread nD τ).loc main_arg1)) (m ((c : Thread nD τ).loc main_arg2)) n = ∑ i : Fin 4, block (m ((c : Thread nD τ).loc main_arg0)) (m ((c : Thread nD τ).loc main_arg1)) (m ((c : Thread nD τ).loc main_arg2)) i n := by
    unfold dg block
    refine (Fin.sum_mul_add_congr fun i p hl => ?_).symm
    exact congrArg (fun s => share _ _ _ s n) (Fin.ext (by show 1024 * i.val + p.val = i.val * 1024 + p.val; omega))
  rw [e, Fin.sum_univ_four, s3]
  exact congrArg (· + _) (s2.trans (congrArg (· + _) (s1.trans (congrArg (· + _) s0))))

theorem arr6 : (dats m 0 c).arrAt 6 cfg0.N = dgA (m ((c : Thread nD τ).loc main_arg0)) (m ((c : Thread nD τ).loc main_arg1)) (m ((c : Thread nD τ).loc main_arg2)) := by
  refine (dats m 0 c).arrAt_eq_of_covers 6 _ (by decide +kernel) fun t hf y => ?_
  have h3 : t.val % 4 = 3 := (flush0_6 t).mp hf
  have ht := points t
  blk_simp
  rw [after0_6]
  rw [eq_ix2 y, Fin.fin_one_eq_zero (y 0)]
  refine (scale_last m c t (by omega) _).trans ?_
  blk_point [dgA, (idx t).2.2.2.2.2.2.1]

end Cert.AttDIdeal.Hand

end
-- ==== Proof.AttDValue.lean ====
/- The gradient of the attention's input with the gradient of the norm: the reference's derivative at an entry, and the claim. -/
module

public import proofs.«01_k».proof.Defs
public import proofs.«01_k».proof.Proof.NormRow
public import proofs.«01_k».proof.Proof.AttDArrays
public import proofs.«01_k».proof.Proof.Gen.AttDRefIdeal.Run
public import Idealize.ShloMosaic.Lib.Pointwise
public import Idealize.ShloMosaic.Lib.KernelVsHost

@[expose] public section

set_option maxRecDepth 16384
set_option maxHeartbeats 4000000

noncomputable section

namespace Cert.AttDRefIdeal.Hand

open Idealize.ShloMosaic Idealize.ShloMosaic.Tactic Idealize.ShloMosaic.TcCoe Cert.AttDRefIdeal.Gen Idealize.SL.Sem Cert.AttDIdeal.Hand

/-- The one layer's weights as a matrix. -/
def flat (w : Vec Ideal S1x1536x1024 .bf16) : Vec Ideal S1536x1024 .bf16 := fun i => w (ix3 0 ⟨(i 0).val, (i 0).isLt⟩ ⟨(i 1).val, (i 1).isLt⟩)

theorem flat_eq (w : Vec Ideal S1x1536x1024 .bf16) (h) : shapeCast S1536x1024 w h = flat w := funext fun i => by
  exact shapeCast_apply w h i (ix3 0 ⟨(i 0).val, (i 0).isLt⟩ ⟨(i 1).val, (i 1).isLt⟩) (by
    rw [Shape.rowMajor_val_three, Shape.rowMajor_val_two]
    show (0 * 1536 + (i 0).val) * 1024 + (i 1).val = (i 0).val * 1024 + (i 1).val
    omega)

variable (m : (ℓ : Loc nD τ sig) → Buf (Elt Ideal) ℓ) (c : Dev nD)

/-- An entry of the reference's gradient of the input. -/
theorem dh_apply (s : Fin 4096) (n : Fin 1024) :
    (Value.res_main_v44 (F := Ideal) m c (ix2 s n) : EReal) = dh (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) s n := by
  unfold dh
  rw [Cert.NormRow.norm_row (fun k => m ((c.tc : Thread nD τ).loc main_arg2) (ix2 s k)) (fun k => total (m ((c.tc : Thread nD τ).loc main_arg0)) (m ((c.tc : Thread nD τ).loc main_arg1)) s k)
    (fun k => m ((c.tc : Thread nD τ).loc main_arg3) (ix2 0 k)) _ n (root (m ((c.tc : Thread nD τ).loc main_arg2)) s) _ rfl rfl]
  unfold Value.res_main_v44 root total
  rw [flat_eq]
  pointwise [flat]
  simp only [Fin.sum_univ_one]

/-- An entry of its rounded copy. -/
theorem dhb_apply (s : Fin 4096) (n : Fin 1024) :
    (Value.res_main_v45 (F := Ideal) m c (ix2 s n) : EReal) = Value.res_main_v44 (F := Ideal) m c (ix2 s n) := by
  unfold Value.res_main_v45 Value.res_main_v44
  rfl

end Cert.AttDRefIdeal.Hand

namespace Cert

open Idealize.ShloMosaic Idealize.ShloMosaic.Tactic Idealize.ShloMosaic.StableHlo Idealize.SL.Sem

/-- The kernel's and the reference's gradients, of the input and of the norm's scales, are equal. -/
theorem attd_equal : algebraic_AttDIdeal_AttDRefIdeal (hAttDIdeal := AttDIdeal.Gen.facts) (hAttDRefIdeal := AttDRefIdeal.Gen.facts) := by
  intro m ρ m' ρ' _ hin
  refine ⟨fun c => AttDIdeal.Hand.dhA (m ((c.tc : Thread AttDIdeal.nD AttDIdeal.τ).loc AttDIdeal.main_arg0)) (m ((c.tc : Thread AttDIdeal.nD AttDIdeal.τ).loc AttDIdeal.main_arg1)) (m ((c.tc : Thread AttDIdeal.nD AttDIdeal.τ).loc AttDIdeal.main_arg2)) (m ((c.tc : Thread AttDIdeal.nD AttDIdeal.τ).loc AttDIdeal.main_arg3)) (m ((c.tc : Thread AttDIdeal.nD AttDIdeal.τ).loc AttDIdeal.main_arg4)),
    fun c => AttDIdeal.Hand.dgA (m ((c.tc : Thread AttDIdeal.nD AttDIdeal.τ).loc AttDIdeal.main_arg0)) (m ((c.tc : Thread AttDIdeal.nD AttDIdeal.τ).loc AttDIdeal.main_arg1)) (m ((c.tc : Thread AttDIdeal.nD AttDIdeal.τ).loc AttDIdeal.main_arg2)),
    fun c => AttDIdeal.Hand.dhB (m ((c.tc : Thread AttDIdeal.nD AttDIdeal.τ).loc AttDIdeal.main_arg0)) (m ((c.tc : Thread AttDIdeal.nD AttDIdeal.τ).loc AttDIdeal.main_arg1)) (m ((c.tc : Thread AttDIdeal.nD AttDIdeal.τ).loc AttDIdeal.main_arg2)) (m ((c.tc : Thread AttDIdeal.nD AttDIdeal.τ).loc AttDIdeal.main_arg3)) (m ((c.tc : Thread AttDIdeal.nD AttDIdeal.τ).loc AttDIdeal.main_arg4)),
    (θ_run _ _ _).mono (fun r h c => ⟨(h c).1.trans (AttDIdeal.Hand.arr5 m c), (h c).2.1.trans (AttDIdeal.Hand.arr6 m c), (h c).2.2.1.trans (AttDIdeal.Hand.arr7 m c), (h c).2.2.2⟩)
      (AttDIdeal.Value.run_blocks m ρ),
    (θ_run _ _ _).mono (fun r h c => ⟨(h c).1.trans ?_, (h c).2.1.trans ?_, (h c).2.2.1.trans ?_, (h c).2.2.2⟩) (AttDRefIdeal.Value.run (F := Ideal) m' ρ')⟩
  · beta_reduce
    rw [← (hin c).1, ← (hin c).2.1, ← (hin c).2.2.1, ← (hin c).2.2.2.1, ← (hin c).2.2.2.2]
    funext j
    rw [eq_ix2 j]
    exact AttDRefIdeal.Hand.dh_apply m' c _ _
  · rw [(hin c).1, (hin c).2.1, (hin c).2.2.1, AttDRefIdeal.Hand.flat_eq]
    funext j
    rw [eq_ix2 j]
    pointwise [AttDIdeal.Hand.dgA, AttDIdeal.Hand.dg, AttDIdeal.Hand.share, AttDIdeal.Hand.total, AttDIdeal.Hand.root, AttDRefIdeal.Hand.flat]
    exact Finset.sum_congr rfl fun s _ => mul_comm _ _
  · beta_reduce
    rw [← (hin c).1, ← (hin c).2.1, ← (hin c).2.2.1, ← (hin c).2.2.2.1, ← (hin c).2.2.2.2]
    funext j
    rw [eq_ix2 j]
    exact (AttDRefIdeal.Hand.dhb_apply m' c _ _).trans (AttDRefIdeal.Hand.dh_apply m' c _ _)

end Cert

end
-- ==== Proof.OutPValue.lean ====
/- A mixer's output product with the residual and the next norm, entry by entry, and the claim about it. -/
module

public import proofs.«01_k».proof.Defs
public import proofs.«01_k».proof.Proof.Gen.OutPIdeal.Value
public import proofs.«01_k».proof.Proof.Gen.OutPRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.OutPIdeal.Hand

open Idealize.ShloMosaic Idealize.ShloMosaic.Tactic Idealize.ShloMosaic.TcCoe Cert.OutPIdeal.Gen Idealize.SL.Sem
open Idealize.ShloMosaic.Pipeline (Dat)

/-- The residual stream after the product. -/
def rows (A : Vec Ideal S4096x1024 .bf16) (B : Vec Ideal S1x1024x1024 .bf16) (h : Vec Ideal S4096x1024 .f32) (s : Fin 4096) (n : Fin 1024) : EReal :=
  (∑ k : Fin 1024, (A (ix2 s k) : EReal) * (B (ix3 0 k n) : EReal)) + (h (ix2 s n) : EReal)
theorem rows_comm (A : Vec Ideal S4096x1024 .bf16) (B : Vec Ideal S1x1024x1024 .bf16) (h : Vec Ideal S4096x1024 .f32) (s : Fin 4096) (n : Fin 1024) :
    rows A B h s n = (h (ix2 s n) : EReal) + ∑ k : Fin 1024, (A (ix2 s k) : EReal) * (B (ix3 0 k n) : EReal) := add_comm _ _
/-- Its norm. -/
def normed (A : Vec Ideal S4096x1024 .bf16) (B : Vec Ideal S1x1024x1024 .bf16) (h : Vec Ideal S4096x1024 .f32) (g : Vec Ideal S1x1024 .f32) (s : Fin 4096) (n : Fin 1024) : EReal :=
  rows A B h s n * Ideal.rsqrt (Ideal.div (∑ k : Fin 1024, rows A B h s k * rows A B h s k) (Ideal.ofBits .f32 0x44800000#32) + Ideal.ofBits .f32 0x358637BD#32) * (g (ix2 0 n) : EReal)
/-- Both as arrays. -/
def rowsA (A : Vec Ideal S4096x1024 .bf16) (B : Vec Ideal S1x1024x1024 .bf16) (h : Vec Ideal S4096x1024 .f32) (_g : Vec Ideal S1x1024 .f32) : Vec Ideal S4096x1024 .f32 := fun i => rows A B h ⟨(i 0).val, (i 0).isLt⟩ ⟨(i 1).val, (i 1).isLt⟩
def normedA (A : Vec Ideal S4096x1024 .bf16) (B : Vec Ideal S1x1024x1024 .bf16) (h : Vec Ideal S4096x1024 .f32) (g : Vec Ideal S1x1024 .f32) : Vec Ideal S4096x1024 .bf16 := fun i => normed A B h g ⟨(i 0).val, (i 0).isLt⟩ ⟨(i 1).val, (i 1).isLt⟩

/-- The one layer's weights as a matrix. -/
def flat (w : Vec Ideal S1x1024x1024 .bf16) : Vec Ideal Cert.OutPRefIdeal.S1024x1024 .bf16 := fun i => w (ix3 0 ⟨(i 0).val, (i 0).isLt⟩ ⟨(i 1).val, (i 1).isLt⟩)

theorem flat_eq (w : Vec Ideal S1x1024x1024 .bf16) (h) : shapeCast Cert.OutPRefIdeal.S1024x1024 w h = flat w := funext fun i => by
  exact shapeCast_apply w h i (ix3 0 ⟨(i 0).val, (i 0).isLt⟩ ⟨(i 1).val, (i 1).isLt⟩) (by
    rw [Shape.rowMajor_val_three, Shape.rowMajor_val_two]
    show (0 * 1024 + (i 0).val) * 1024 + (i 1).val = (i 0).val * 1024 + (i 1).val
    omega)

variable (m : (ℓ : Loc nD τ sig) → Buf (Elt Ideal) ℓ) (c : Dev nD)

/-- Where a point's blocks lie. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] := by decide +kernel

theorem arr4 : (dats m 0 c).arrAt 4 cfg0.N = rowsA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, rowsA, rows]
  blk_point [iblk, V, (idx t).1, (idx t).2.1, (idx t).2.2.1, (idx t).2.2.2.2.1]

theorem arr5 : (dats m 0 c).arrAt 5 cfg0.N = normedA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, normedA, normed, rows]
  blk_point [iblk, V, (idx t).1, (idx t).2.1, (idx t).2.2.1, (idx t).2.2.2.1, (idx t).2.2.2.2.2]

end Cert.OutPIdeal.Hand

namespace Cert

open Idealize.ShloMosaic Idealize.ShloMosaic.Tactic Idealize.ShloMosaic.StableHlo Idealize.SL.Sem

/-- The kernel's and the reference's residual stream and normed rows are equal. -/
theorem outp_equal : algebraic_OutPIdeal_OutPRefIdeal (hOutPIdeal := OutPIdeal.Gen.facts) (hOutPRefIdeal := OutPRefIdeal.Gen.facts) := by
  intro m ρ m' ρ' _ hin
  refine ⟨fun c => OutPIdeal.Hand.rowsA (m ((c.tc : Thread OutPIdeal.nD OutPIdeal.τ).loc OutPIdeal.main_arg0)) (m ((c.tc : Thread OutPIdeal.nD OutPIdeal.τ).loc OutPIdeal.main_arg1)) (m ((c.tc : Thread OutPIdeal.nD OutPIdeal.τ).loc OutPIdeal.main_arg2)) (m ((c.tc : Thread OutPIdeal.nD OutPIdeal.τ).loc OutPIdeal.main_arg3)),
    fun c => OutPIdeal.Hand.normedA (m ((c.tc : Thread OutPIdeal.nD OutPIdeal.τ).loc OutPIdeal.main_arg0)) (m ((c.tc : Thread OutPIdeal.nD OutPIdeal.τ).loc OutPIdeal.main_arg1)) (m ((c.tc : Thread OutPIdeal.nD OutPIdeal.τ).loc OutPIdeal.main_arg2)) (m ((c.tc : Thread OutPIdeal.nD OutPIdeal.τ).loc OutPIdeal.main_arg3)),
    (θ_run _ _ _).mono (fun r h c => ⟨(h c).1.trans (OutPIdeal.Hand.arr4 m c), (h c).2.1.trans (OutPIdeal.Hand.arr5 m c), (h c).2.2⟩) (OutPIdeal.Value.run_blocks m ρ),
    (θ_run _ _ _).mono (fun r h c => ⟨(h c).1.trans ?_, (h c).2.1.trans ?_, (h c).2.2⟩) (OutPRefIdeal.Value.run (F := Ideal) m' ρ')⟩
  · rw [(hin c).1, (hin c).2.1, (hin c).2.2.1, OutPIdeal.Hand.flat_eq]
    funext j
    rw [eq_ix2 j]
    pointwise [OutPIdeal.Hand.rowsA, OutPIdeal.Hand.rows, OutPIdeal.Hand.flat]
    exact add_comm _ _
  · rw [(hin c).1, (hin c).2.1, (hin c).2.2.1, (hin c).2.2.2, OutPIdeal.Hand.flat_eq]
    funext j
    rw [eq_ix2 j]
    pointwise [OutPIdeal.Hand.normedA, OutPIdeal.Hand.normed, OutPIdeal.Hand.rows_comm, OutPIdeal.Hand.flat]

end Cert

end
-- ==== Proof.DownPSteps.lean ====
/- The feed-forward's second product with the residual and the next norm: what a point's body computes and what the accumulator holds. -/
module

public import proofs.«01_k».proof.Proof.Gen.DownPIdeal.Value
public import Idealize.ShloMosaic.Lib.Pipeline.ValueKit
public import Idealize.ShloMosaic.Lib.Pointwise

@[expose] public section

set_option maxRecDepth 16384
set_option maxHeartbeats 4000000

noncomputable section

namespace Cert.DownPIdeal.Hand

open Idealize.ShloMosaic Idealize.ShloMosaic.Tactic Idealize.ShloMosaic.TcCoe Cert.DownPIdeal.Gen Idealize.SL.Sem
open Idealize.ShloMosaic.Pipeline (Dat)

/-- The product over all 2816 columns. -/
def total (A : Vec Ideal S4x4096x704 .bf16) (B : Vec Ideal S1x4x704x1024 .bf16) (s : Fin 4096) (n : Fin 1024) : EReal :=
  ∑ q : Fin 2816, (A (ix3 ⟨q.val / 704, by omega⟩ s ⟨q.val % 704, by omega⟩) : EReal) * (B (ix4 0 ⟨q.val / 704, by omega⟩ ⟨q.val % 704, by omega⟩ n) : EReal)

/-- One slot's share of it. -/
def slot (A : Vec Ideal S4x4096x704 .bf16) (B : Vec Ideal S1x4x704x1024 .bf16) (j : Fin 4) (s : Fin 4096) (n : Fin 1024) : EReal :=
  ∑ k : Fin 704, (A (ix3 j s k) : EReal) * (B (ix4 0 j k n) : EReal)

theorem total_slots (A : Vec Ideal S4x4096x704 .bf16) (B : Vec Ideal S1x4x704x1024 .bf16) (s : Fin 4096) (n : Fin 1024) :
    total A B s n = ∑ j : Fin 4, slot A B j s n := by
  unfold total slot
  refine (Fin.sum_mul_add_congr fun j k hl => ?_).symm
  have e1 : (⟨(j.val * 704 + k.val) / 704, by omega⟩ : Fin 4) = j := Fin.ext (by show (j.val * 704 + k.val) / 704 = j.val; omega)
  have e2 : (⟨(j.val * 704 + k.val) % 704, by omega⟩ : Fin 704) = k := Fin.ext (by show (j.val * 704 + k.val) % 704 = k.val; omega)
  simp only [e1, e2]

/-- The residual stream after the product. -/
def rows (A : Vec Ideal S4x4096x704 .bf16) (B : Vec Ideal S1x4x704x1024 .bf16) (h : Vec Ideal S4096x1024 .f32) (s : Fin 4096) (n : Fin 1024) : EReal := total A B s n + (h (ix2 s n) : EReal)
/-- Its norm. -/
def normed (A : Vec Ideal S4x4096x704 .bf16) (B : Vec Ideal S1x4x704x1024 .bf16) (h : Vec Ideal S4096x1024 .f32) (g : Vec Ideal S1x1024 .f32) (s : Fin 4096) (n : Fin 1024) : EReal :=
  rows A B h s n * Ideal.rsqrt (Ideal.div (∑ k : Fin 1024, rows A B h s k * rows A B h s k) (Ideal.ofBits .f32 0x44800000#32) + Ideal.ofBits .f32 0x358637BD#32) * (g (ix2 0 n) : EReal)
/-- Both as arrays. -/
def rowsA (A : Vec Ideal S4x4096x704 .bf16) (B : Vec Ideal S1x4x704x1024 .bf16) (h : Vec Ideal S4096x1024 .f32) (_g : Vec Ideal S1x1024 .f32) : Vec Ideal S4096x1024 .f32 := fun i => rows A B h ⟨(i 0).val, (i 0).isLt⟩ ⟨(i 1).val, (i 1).isLt⟩
def normedA (A : Vec Ideal S4x4096x704 .bf16) (B : Vec Ideal S1x4x704x1024 .bf16) (h : Vec Ideal S4096x1024 .f32) (g : Vec Ideal S1x1024 .f32) : Vec Ideal S4096x1024 .bf16 := fun i => normed A B h g ⟨(i 0).val, (i 0).isLt⟩ ⟨(i 1).val, (i 1).isLt⟩

variable (m : (ℓ : Loc nD τ sig) → Buf (Elt Ideal) ℓ) (c : Dev nD)

theorem points (t : Fin cfg0.N) : t.val < 8 := lt_of_lt_of_eq t.isLt N_0

/-- Where a point's blocks lie. -/
theorem idx : ∀ t : Fin cfg0.N, win0_0.index t = ![t.val % 2, t.val / 2, 0] ∧ win0_1.index t = ![0, t.val % 2, 0, 0] ∧ win0_2.index t = ![t.val / 2, 0]
    ∧ win0_3.index t = ![0, 0] ∧ win0_4.index t = ![t.val / 2, 0] ∧ win0_5.index t = ![t.val / 2, 0] := by decide +kernel

/-- The two slots' products at a point, entry by entry. -/
def term (A : Vec Ideal S4x4096x704 .bf16) (B : Vec Ideal S1x4x704x1024 .bf16) (t : Fin cfg0.N) (p n : Fin 1024) : EReal :=
  (∑ k : Fin 704, (A (ix3 ⟨2 * (t.val % 2), by omega⟩ ⟨1024 * (t.val / 2) + p.val, by have := points t; omega⟩ k) : EReal) * (B (ix4 0 ⟨2 * (t.val % 2), by omega⟩ k n) : EReal))
  + ∑ k : Fin 704, (A (ix3 ⟨2 * (t.val % 2) + 1, by omega⟩ ⟨1024 * (t.val / 2) + p.val, by have := points t; omega⟩ k) : EReal) * (B (ix4 0 ⟨2 * (t.val % 2) + 1, by omega⟩ k n) : EReal)

theorem term_eq (A : Vec Ideal S4x4096x704 .bf16) (B : Vec Ideal S1x4x704x1024 .bf16) (t : Fin cfg0.N) (p n : Fin 1024) (j j' : Fin 4) (s : Fin 4096)
    (hj : 2 * (t.val % 2) = j.val) (hj' : 2 * (t.val % 2) + 1 = j'.val) (hs : 1024 * (t.val / 2) + p.val = s.val) :
    term A B t p n = slot A B j s n + slot A B j' s n := by
  unfold term slot
  have e1 : (⟨2 * (t.val % 2), by omega⟩ : Fin 4) = j := Fin.ext hj
  have e2 : (⟨2 * (t.val % 2) + 1, by omega⟩ : Fin 4) = j' := Fin.ext hj'
  have e3 : (⟨1024 * (t.val / 2) + p.val, by omega⟩ : Fin 4096) = s := Fin.ext hs
  simp only [e1, e2, e3]

theorem first (t : Fin cfg0.N) (h : t.val % 2 = 0) (p n : Fin 1024) :
    ((outsAt0 m c t.val t.isLt).2.2 (ix2 p n) : EReal) = term (m ((c : Thread nD τ).loc main_arg0)) (m ((c : Thread nD τ).loc main_arg1)) t p n := by
  rw [outsAt0_A m c t h (by omega) (by omega)]
  frame_out
  unfold term
  pointwise [k0_pay1]
  congr 1 <;> refine Finset.sum_congr rfl fun k _ => ?_ <;> blk_point [iblk, V, (idx t).1, (idx t).2.1]

theorem next (t : Fin cfg0.N) (h : t.val % 2 = 1) (p n : Fin 1024) :
    ((outsAt0 m c t.val t.isLt).2.2 (ix2 p n) : EReal) = ((outsAt0 m c (t.val - 1) (Nat.lt_of_le_of_lt (Nat.sub_le _ _) t.isLt)).2.2 (ix2 p n) : EReal)
      + term (m ((c : Thread nD τ).loc main_arg0)) (m ((c : Thread nD τ).loc main_arg1)) t p n := by
  rw [outsAt0_B m c t (by omega) (by omega) h]
  frame_out
  unfold term
  pointwise [k0_pay2]
  refine congr (congrArg HAdd.hAdd ?_) (congr (congrArg HAdd.hAdd (Finset.sum_congr rfl fun k _ => ?_)) (Finset.sum_congr rfl fun k _ => ?_))
  · exact congrFun (Memref.IsWhole.read_unread _ _) _
  · blk_point [iblk, V, (idx t).1, (idx t).2.1]
  · blk_point [iblk, V, (idx t).1, (idx t).2.1]

/-- The accumulator after a block's last point. -/
theorem acc_at (i : Fin 4) (t : Fin cfg0.N) (ht : t.val = 2 * i.val + 1) (p n : Fin 1024) :
    ((outsAt0 m c t.val t.isLt).2.2 (ix2 p n) : EReal) = total (m ((c : Thread nD τ).loc main_arg0)) (m ((c : Thread nD τ).loc main_arg1)) ⟨1024 * i.val + p.val, by omega⟩ n := by
  have l2 : t.val - 1 < cfg0.N := by have := t.isLt; omega
  rw [next m c t (by omega) p n]
  rw [first m c ⟨t.val - 1, l2⟩ (by show (t.val - 1) % 2 = 0; omega) p n]
  rw [total_slots, Fin.sum_univ_four]
  rw [term_eq _ _ ⟨t.val - 1, l2⟩ p n 0 1 ⟨1024 * i.val + p.val, by omega⟩ (by show 2 * ((t.val - 1) % 2) = 0; omega) (by show 2 * ((t.val - 1) % 2) + 1 = 1; omega) (by show 1024 * ((t.val - 1) / 2) + p.val = 1024 * i.val + p.val; omega),
    term_eq _ _ t p n 2 3 ⟨1024 * i.val + p.val, by omega⟩ (by show 2 * (t.val % 2) = 2; omega) (by show 2 * (t.val % 2) + 1 = 3; omega) (by show 1024 * (t.val / 2) + p.val = 1024 * i.val + p.val; omega)]
  simp only [add_assoc]

/-- The input blocks of a block's last point. -/
theorem block2 (i : Fin 4) (t : Fin cfg0.N) (ht : t.val = 2 * i.val + 1) (p n : Fin 1024) :
    (iblk m c 2 t (ix2 p n) : EReal) = (m ((c : Thread nD τ).loc main_arg2) : Vec Ideal S4096x1024 .f32) (ix2 ⟨1024 * i.val + p.val, by omega⟩ n) := by
  have e : t.val / 2 = i.val := by omega
  blk_point [iblk, V, (idx t).2.2.1, e]
theorem block3 (t : Fin cfg0.N) (n : Fin 1024) :
    (iblk m c 3 t (ix2 0 n) : EReal) = (m ((c : Thread nD τ).loc main_arg3) : Vec Ideal S1x1024 .f32) (ix2 0 n) := by
  blk_point [iblk, V, (idx t).2.2.2.1]

theorem pay3_apply (v h : Vec Ideal S1024x1024 .f32) (p n : Fin 1024) : (k0_pay3 (F := Ideal) v h (ix2 p n) : EReal) = (v (ix2 p n) : EReal) + (h (ix2 p n) : EReal) := by
  pointwise [k0_pay3]
theorem pay4_apply (v h : Vec Ideal S1024x1024 .f32) (g : Vec Ideal S1x1024 .f32) (p n : Fin 1024) :
    (k0_pay4 (F := Ideal) v h g (ix2 p n) : EReal) = ((v (ix2 p n) : EReal) + (h (ix2 p n) : EReal))
      * Ideal.rsqrt (Ideal.div (∑ k : Fin 1024, ((v (ix2 p k) : EReal) + (h (ix2 p k) : EReal)) * ((v (ix2 p k) : EReal) + (h (ix2 p k) : EReal))) (Ideal.ofBits .f32 0x44800000#32) + Ideal.ofBits .f32 0x358637BD#32)
      * (g (ix2 0 n) : EReal) := by
  pointwise [k0_pay4, k0_pay3]

/-- The two results of a block's last point, from the accumulator. -/
theorem last4 (t : Fin cfg0.N) (h : t.val % 2 = 1) :
    (outsAt0 m c t.val t.isLt).1 = k0_pay3 (F := Ideal) (outsAt0 m c t.val t.isLt).2.2 (iblk m c 2 t) := by
  rw [outsAt0_B m c t (by omega) (by omega) h]
  frame_out
theorem last5 (t : Fin cfg0.N) (h : t.val % 2 = 1) :
    (outsAt0 m c t.val t.isLt).2.1 = k0_pay4 (F := Ideal) (outsAt0 m c t.val t.isLt).2.2 (iblk m c 2 t) (iblk m c 3 t) := by
  rw [outsAt0_B m c t (by omega) (by omega) h]
  frame_out

theorem rows_at (i : Fin 4) (t : Fin cfg0.N) (ht : t.val = 2 * i.val + 1) (p n : Fin 1024) :
    (k0_pay3 (F := Ideal) (outsAt0 m c t.val t.isLt).2.2 (iblk m c 2 t) (ix2 p n) : EReal) = rows (m ((c : Thread nD τ).loc main_arg0)) (m ((c : Thread nD τ).loc main_arg1)) (m ((c : Thread nD τ).loc main_arg2)) ⟨1024 * i.val + p.val, by omega⟩ n := by
  rw [pay3_apply]
  unfold rows
  rw [acc_at m c i t ht, block2 m c i t ht]
theorem normed_at (i : Fin 4) (t : Fin cfg0.N) (ht : t.val = 2 * i.val + 1) (p n : Fin 1024) :
    (k0_pay4 (F := Ideal) (outsAt0 m c t.val t.isLt).2.2 (iblk m c 2 t) (iblk m c 3 t) (ix2 p n) : EReal) = normed (m ((c : Thread nD τ).loc main_arg0)) (m ((c : Thread nD τ).loc main_arg1)) (m ((c : Thread nD τ).loc main_arg2)) (m ((c : Thread nD τ).loc main_arg3)) ⟨1024 * i.val + p.val, by omega⟩ n := by
  rw [pay4_apply]
  unfold normed rows
  simp only [acc_at m c i t ht, block2 m c i t ht, block3 m c t]

theorem arr4 : (dats m 0 c).arrAt 4 cfg0.N = rowsA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h1 : t.val % 2 = 1 := (flush0_4 t).mp hf
  have ht := points t
  blk_simp
  rw [after0_4, last4 m c t h1]
  rw [eq_ix2 y]
  refine (rows_at m c ⟨t.val / 2, by omega⟩ t (by show t.val = 2 * (t.val / 2) + 1; omega) _ _).trans ?_
  blk_point [rowsA, (idx t).2.2.2.2.1]

theorem arr5 : (dats m 0 c).arrAt 5 cfg0.N = normedA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h1 : t.val % 2 = 1 := (flush0_5 t).mp hf
  have ht := points t
  blk_simp
  rw [after0_5, last5 m c t h1]
  rw [eq_ix2 y]
  refine (normed_at m c ⟨t.val / 2, by omega⟩ t (by show t.val = 2 * (t.val / 2) + 1; omega) _ _).trans ?_
  blk_point [normedA, (idx t).2.2.2.2.2]

end Cert.DownPIdeal.Hand

end
-- ==== Proof.DownPValue.lean ====
/- The feed-forward's second product with the residual and the next norm: the reference at an entry, and the claim. -/
module

public import proofs.«01_k».proof.Defs
public import proofs.«01_k».proof.Proof.DownPSteps
public import proofs.«01_k».proof.Proof.Gen.DownPRefIdeal.Run
public import Idealize.ShloMosaic.Lib.Pointwise
public import Idealize.ShloMosaic.Lib.KernelVsHost

@[expose] public section

set_option maxRecDepth 16384
set_option maxHeartbeats 4000000

noncomputable section

namespace Cert.DownPIdeal.Hand

open Idealize.ShloMosaic Idealize.ShloMosaic.Tactic Idealize.ShloMosaic.TcCoe Cert.DownPIdeal.Gen Idealize.SL.Sem
open Idealize.ShloMosaic.Pipeline (Dat)

/-- The slots side by side as one matrix. -/
def wide (a : Vec Ideal Cert.DownPRefIdeal.S4096x4x704 .bf16) : Vec Ideal Cert.DownPRefIdeal.S4096x2816 .bf16 :=
  fun i => a (ix3 ⟨(i 0).val, (i 0).isLt⟩ ⟨(i 1).val / 704, by have : (i 1).val < 2816 := (i 1).isLt; omega⟩ ⟨(i 1).val % 704, by omega⟩)
/-- The weights' slots one above the other as one matrix. -/
def tall (w : Vec Ideal S1x4x704x1024 .bf16) : Vec Ideal Cert.DownPRefIdeal.S2816x1024 .bf16 :=
  fun i => w (ix4 0 ⟨(i 0).val / 704, by have : (i 0).val < 2816 := (i 0).isLt; omega⟩ ⟨(i 0).val % 704, by omega⟩ ⟨(i 1).val, (i 1).isLt⟩)

theorem wide_eq (a : Vec Ideal Cert.DownPRefIdeal.S4096x4x704 .bf16) (h) : shapeCast Cert.DownPRefIdeal.S4096x2816 a h = wide a := funext fun i => by
  exact shapeCast_apply a h i (ix3 ⟨(i 0).val, (i 0).isLt⟩ ⟨(i 1).val / 704, by have : (i 1).val < 2816 := (i 1).isLt; omega⟩ ⟨(i 1).val % 704, by omega⟩) (by
    rw [Shape.rowMajor_val_three, Shape.rowMajor_val_two]
    show ((i 0).val * 4 + (i 1).val / 704) * 704 + (i 1).val % 704 = (i 0).val * 2816 + (i 1).val
    omega)

theorem tall_eq (w : Vec Ideal S1x4x704x1024 .bf16) (h) : shapeCast Cert.DownPRefIdeal.S2816x1024 w h = tall w := funext fun i => by
  exact shapeCast_apply w h i (ix4 0 ⟨(i 0).val / 704, by have : (i 0).val < 2816 := (i 0).isLt; omega⟩ ⟨(i 0).val % 704, by omega⟩ ⟨(i 1).val, (i 1).isLt⟩) (by
    rw [Shape.rowMajor_val_four, Shape.rowMajor_val_two]
    show ((0 * 4 + (i 0).val / 704) * 704 + (i 0).val % 704) * 1024 + (i 1).val = (i 0).val * 1024 + (i 1).val
    omega)

theorem rows_comm (A : Vec Ideal S4x4096x704 .bf16) (B : Vec Ideal S1x4x704x1024 .bf16) (h : Vec Ideal S4096x1024 .f32) (s : Fin 4096) (n : Fin 1024) :
    rows A B h s n = (h (ix2 s n) : EReal) + total A B s n := add_comm _ _

end Cert.DownPIdeal.Hand

namespace Cert

open Idealize.ShloMosaic Idealize.ShloMosaic.Tactic Idealize.ShloMosaic.StableHlo Idealize.SL.Sem

/-- The kernel's and the reference's residual stream and normed rows are equal. -/
theorem downp_equal : algebraic_DownPIdeal_DownPRefIdeal (hDownPIdeal := DownPIdeal.Gen.facts) (hDownPRefIdeal := DownPRefIdeal.Gen.facts) := by
  intro m ρ m' ρ' _ hin
  refine ⟨fun c => DownPIdeal.Hand.rowsA (m ((c.tc : Thread DownPIdeal.nD DownPIdeal.τ).loc DownPIdeal.main_arg0)) (m ((c.tc : Thread DownPIdeal.nD DownPIdeal.τ).loc DownPIdeal.main_arg1)) (m ((c.tc : Thread DownPIdeal.nD DownPIdeal.τ).loc DownPIdeal.main_arg2)) (m ((c.tc : Thread DownPIdeal.nD DownPIdeal.τ).loc DownPIdeal.main_arg3)),
    fun c => DownPIdeal.Hand.normedA (m ((c.tc : Thread DownPIdeal.nD DownPIdeal.τ).loc DownPIdeal.main_arg0)) (m ((c.tc : Thread DownPIdeal.nD DownPIdeal.τ).loc DownPIdeal.main_arg1)) (m ((c.tc : Thread DownPIdeal.nD DownPIdeal.τ).loc DownPIdeal.main_arg2)) (m ((c.tc : Thread DownPIdeal.nD DownPIdeal.τ).loc DownPIdeal.main_arg3)),
    (θ_run _ _ _).mono (fun r h c => ⟨(h c).1.trans (DownPIdeal.Hand.arr4 m c), (h c).2.1.trans (DownPIdeal.Hand.arr5 m c), (h c).2.2⟩) (DownPIdeal.Value.run_blocks m ρ),
    (θ_run _ _ _).mono (fun r h c => ⟨(h c).1.trans ?_, (h c).2.1.trans ?_, (h c).2.2⟩) (DownPRefIdeal.Value.run (F := Ideal) m' ρ')⟩
  · rw [(hin c).1, (hin c).2.1, (hin c).2.2.1, DownPIdeal.Hand.wide_eq, DownPIdeal.Hand.tall_eq]
    funext j
    rw [eq_ix2 j]
    pointwise [DownPIdeal.Hand.rowsA, DownPIdeal.Hand.rows, DownPIdeal.Hand.total, DownPIdeal.Hand.wide, DownPIdeal.Hand.tall]
    exact add_comm _ _
  · rw [(hin c).1, (hin c).2.1, (hin c).2.2.1, (hin c).2.2.2, DownPIdeal.Hand.wide_eq, DownPIdeal.Hand.tall_eq]
    funext j
    rw [eq_ix2 j]
    pointwise [DownPIdeal.Hand.normedA, DownPIdeal.Hand.normed, DownPIdeal.Hand.rows_comm, DownPIdeal.Hand.total, DownPIdeal.Hand.wide, DownPIdeal.Hand.tall]

end Cert

end
-- ==== Proof.MixDBody.lean ====
/- The product with the gradient of the norm: what one point's body computes, entry by entry. -/
module

public import proofs.«01_k».proof.Proof.Gen.MixDIdeal.Value
public import Idealize.ShloMosaic.Lib.Pipeline.ValueKit
public import Idealize.ShloMosaic.Lib.Pointwise

@[expose] public section

set_option maxRecDepth 16384
set_option maxHeartbeats 4000000

noncomputable section

namespace Cert.MixDIdeal.Hand

open Idealize.ShloMosaic Idealize.ShloMosaic.Tactic Idealize.ShloMosaic.TcCoe Cert.MixDIdeal.Gen Idealize.SL.Sem
open Idealize.ShloMosaic.Pipeline (Dat)

/-- The inverse root of a row's mean square. -/
def rowR (x : Vec Ideal S1024x1024 .f32) (p : Fin 1024) : EReal :=
  Ideal.rsqrt (Ideal.div (∑ k : Fin 1024, (x (ix2 p k) : EReal) * (x (ix2 p k) : EReal)) (Ideal.ofBits .f32 0x44800000#32) + Ideal.ofBits .f32 0x358637BD#32)

theorem root_apply (x : Vec Ideal S1024x1024 .f32) (p : Fin 1024) : (k0_pay4 (F := Ideal) x (ix2 p 0) : EReal) = rowR x p := by
  unfold rowR
  pointwise [k0_pay4]

theorem normed_apply (x : Vec Ideal S1024x1024 .f32) (p n : Fin 1024) : (k0_pay5 (F := Ideal) x (ix2 p n) : EReal) = (x (ix2 p n) : EReal) * rowR x p := by
  unfold rowR
  pointwise [k0_pay5, k0_pay4]

theorem grad_apply (v x : Vec Ideal S1024x1024 .f32) (g : Vec Ideal S1x1024 .f32) (h : Vec Ideal S1024x1024 .f32) (p n : Fin 1024) :
    (k0_pay6 (F := Ideal) v x g h (ix2 p n) : EReal) = (h (ix2 p n) : EReal) + rowR x p * ((v (ix2 p n) : EReal) * (g (ix2 0 n) : EReal)
      - (x (ix2 p n) : EReal) * rowR x p * Ideal.div (∑ k : Fin 1024, (v (ix2 p k) : EReal) * (g (ix2 0 k) : EReal) * ((x (ix2 p k) : EReal) * rowR x p)) (Ideal.ofBits .f32 0x44800000#32)) := by
  unfold rowR
  pointwise [k0_pay6, k0_pay5, k0_pay4]

theorem part_apply (v x : Vec Ideal S1024x1024 .f32) (n : Fin 1024) :
    (k0_pay8 (F := Ideal) v x (ix2 0 n) : EReal) = ∑ p : Fin 1024, (v (ix2 p n) : EReal) * ((x (ix2 p n) : EReal) * rowR x p) := by
  unfold rowR
  pointwise [k0_pay8, k0_pay5, k0_pay4]

end Cert.MixDIdeal.Hand

end
-- ==== Proof.MixDSteps.lean ====
/- The product with the gradient of the norm: what the accumulator holds between points. -/
module

public import proofs.«01_k».proof.Proof.Gen.MixDIdeal.Value
public import Idealize.ShloMosaic.Lib.Pipeline.ValueKit
public import Idealize.ShloMosaic.Lib.Pointwise

@[expose] public section

set_option maxRecDepth 16384
set_option maxHeartbeats 4000000

noncomputable section

namespace Cert.MixDIdeal.Hand

open Idealize.ShloMosaic Idealize.ShloMosaic.Tactic Idealize.ShloMosaic.TcCoe Cert.MixDIdeal.Gen Idealize.SL.Sem
open Idealize.ShloMosaic.Pipeline (Dat)

variable (m : (ℓ : Loc nD τ sig) → Buf (Elt Ideal) ℓ) (c : Dev nD)

theorem points (t : Fin cfg0.N) : t.val < 16 := lt_of_lt_of_eq t.isLt N_0

/-- Where a point's blocks lie. -/
theorem idx : ∀ t : Fin cfg0.N, win0_0.index t = ![t.val % 4, t.val / 4, 0] ∧ win0_1.index t = ![0, t.val % 4, 0, 0] ∧ win0_2.index t = ![t.val / 4, 0]
    ∧ win0_3.index t = ![0, 0] ∧ win0_4.index t = ![t.val / 4, 0] := by decide +kernel

/-- The two slots' products at a point, entry by entry. -/
def term (A : Vec Ideal S8x4096x512 .bf16) (B : Vec Ideal S1x8x1024x512 .bf16) (t : Fin cfg0.N) (p n : Fin 1024) : EReal :=
  (∑ k : Fin 512, (A (ix3 ⟨2 * (t.val % 4), by omega⟩ ⟨1024 * (t.val / 4) + p.val, by have := points t; omega⟩ k) : EReal) * (B (ix4 0 ⟨2 * (t.val % 4), by omega⟩ n k) : EReal))
  + ∑ k : Fin 512, (A (ix3 ⟨2 * (t.val % 4) + 1, by omega⟩ ⟨1024 * (t.val / 4) + p.val, by have := points t; omega⟩ k) : EReal) * (B (ix4 0 ⟨2 * (t.val % 4) + 1, by omega⟩ n k) : EReal)

theorem first (t : Fin cfg0.N) (h : t.val % 4 = 0) (p n : Fin 1024) :
    ((outsAt0 m c t.val t.isLt).2.2.2 (ix2 p n) : EReal) = term (m ((c : Thread nD τ).loc main_arg0)) (m ((c : Thread nD τ).loc main_arg1)) t p n := by
  rw [outsAt0_A m c t h (by omega) (by omega)]
  frame_out
  unfold term
  pointwise [k0_pay1]
  congr 1 <;> refine Finset.sum_congr rfl fun k _ => ?_ <;> blk_point [iblk, V, (idx t).1, (idx t).2.1]

theorem next (t : Fin cfg0.N) (h : ¬t.val % 4 = 0) (p n : Fin 1024) :
    ((outsAt0 m c t.val t.isLt).2.2.2 (ix2 p n) : EReal) = ((outsAt0 m c (t.val - 1) (Nat.lt_of_le_of_lt (Nat.sub_le _ _) t.isLt)).2.2.2 (ix2 p n) : EReal)
      + term (m ((c : Thread nD τ).loc main_arg0)) (m ((c : Thread nD τ).loc main_arg1)) t p n := by
  by_cases h3 : t.val % 4 = 3
  · by_cases h4 : 4 ≤ t.val
    · rw [outsAt0_D m c t h (by omega) h3 (by omega) h4]
      frame_out
      unfold term
      pointwise [k0_pay2]
      refine congr (congrArg HAdd.hAdd ?_) (congr (congrArg HAdd.hAdd (Finset.sum_congr rfl fun k _ => ?_)) (Finset.sum_congr rfl fun k _ => ?_))
      · exact congrFun (Memref.IsWhole.read_unread _ _) _
      · blk_point [iblk, V, (idx t).1, (idx t).2.1]
      · blk_point [iblk, V, (idx t).1, (idx t).2.1]
    · rw [outsAt0_C m c t h (by omega) h3 (by omega) h4]
      frame_out
      unfold term
      pointwise [k0_pay2]
      refine congr (congrArg HAdd.hAdd ?_) (congr (congrArg HAdd.hAdd (Finset.sum_congr rfl fun k _ => ?_)) (Finset.sum_congr rfl fun k _ => ?_))
      · exact congrFun (Memref.IsWhole.read_unread _ _) _
      · blk_point [iblk, V, (idx t).1, (idx t).2.1]
      · blk_point [iblk, V, (idx t).1, (idx t).2.1]
  · rw [outsAt0_B m c t h (by omega) h3]
    frame_out
    unfold term
    pointwise [k0_pay2]
    refine congr (congrArg HAdd.hAdd ?_) (congr (congrArg HAdd.hAdd (Finset.sum_congr rfl fun k _ => ?_)) (Finset.sum_congr rfl fun k _ => ?_))
    · exact congrFun (Memref.IsWhole.read_unread _ _) _
    · blk_point [iblk, V, (idx t).1, (idx t).2.1]
    · blk_point [iblk, V, (idx t).1, (idx t).2.1]

/-- The three results of a block's last point, from the accumulator. -/
theorem last5 (t : Fin cfg0.N) (h : t.val % 4 = 3) :
    (outsAt0 m c t.val t.isLt).1 = k0_pay6 (F := Ideal) (outsAt0 m c t.val t.isLt).2.2.2 (iblk m c 2 t) (iblk m c 3 t) (iblk m c 4 t) := by
  by_cases h4 : 4 ≤ t.val
  · rw [outsAt0_D m c t (by omega) (by omega) h (by omega) h4]
    frame_out
  · rw [outsAt0_C m c t (by omega) (by omega) h (by omega) h4]
    frame_out

theorem last7 (t : Fin cfg0.N) (h : t.val % 4 = 3) :
    (outsAt0 m c t.val t.isLt).2.2.1 = k0_pay7 (F := Ideal) (outsAt0 m c t.val t.isLt).2.2.2 (iblk m c 2 t) (iblk m c 3 t) (iblk m c 4 t) := by
  by_cases h4 : 4 ≤ t.val
  · rw [outsAt0_D m c t (by omega) (by omega) h (by omega) h4]
    frame_out
  · rw [outsAt0_C m c t (by omega) (by omega) h (by omega) h4]
    frame_out

theorem last6 (t : Fin cfg0.N) (h : t.val % 4 = 3) (h4 : ¬4 ≤ t.val) :
    (outsAt0 m c t.val t.isLt).2.1 = k0_pay8 (F := Ideal) (outsAt0 m c t.val t.isLt).2.2.2 (iblk m c 2 t) := by
  rw [outsAt0_C m c t (by omega) (by omega) h (by omega) h4]
  frame_out

theorem later6 (t : Fin cfg0.N) (h : t.val % 4 = 3) (h4 : 4 ≤ t.val) :
    (outsAt0 m c t.val t.isLt).2.1 = k0_pay3 (F := Ideal) (k0_pay8 (outsAt0 m c t.val t.isLt).2.2.2 (iblk m c 2 t)) (outsAt0 m c (t.val - 1) (Nat.lt_of_le_of_lt (Nat.sub_le _ _) t.isLt)).2.1 := by
  rw [outsAt0_D m c t (by omega) (by omega) h (by omega) h4]
  frame_out

/-- Between, the second result is kept. -/
theorem kept6 (t : Fin cfg0.N) (h : ¬t.val % 4 = 3) : (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h]
    rfl
  · rw [outsAt0_B m c t h0 (by omega) h]
    rfl

end Cert.MixDIdeal.Hand

end
-- ==== Proof.MixDTotal.lean ====
/- The product with the gradient of the norm: the three arrays at the end. -/
module

public import proofs.«01_k».proof.Proof.MixDBody
public import proofs.«01_k».proof.Proof.MixDSteps

@[expose] public section

set_option maxRecDepth 16384
set_option maxHeartbeats 4000000

noncomputable section

namespace Cert.MixDIdeal.Hand

open Idealize.ShloMosaic Idealize.ShloMosaic.Tactic Idealize.ShloMosaic.TcCoe Cert.MixDIdeal.Gen Idealize.SL.Sem
open Idealize.ShloMosaic.Pipeline (Dat)

/-- The product over all 4096 columns: the gradient of the normed rows. -/
def total (A : Vec Ideal S8x4096x512 .bf16) (B : Vec Ideal S1x8x1024x512 .bf16) (s : Fin 4096) (n : Fin 1024) : EReal :=
  ∑ q : Fin 4096, (A (ix3 ⟨q.val / 512, by omega⟩ s ⟨q.val % 512, by omega⟩) : EReal) * (B (ix4 0 ⟨q.val / 512, by omega⟩ n ⟨q.val % 512, by omega⟩) : EReal)

/-- One slot's share of it. -/
def slot (A : Vec Ideal S8x4096x512 .bf16) (B : Vec Ideal S1x8x1024x512 .bf16) (j : Fin 8) (s : Fin 4096) (n : Fin 1024) : EReal :=
  ∑ k : Fin 512, (A (ix3 j s k) : EReal) * (B (ix4 0 j n k) : EReal)

theorem total_slots (A : Vec Ideal S8x4096x512 .bf16) (B : Vec Ideal S1x8x1024x512 .bf16) (s : Fin 4096) (n : Fin 1024) :
    total A B s n = ∑ j : Fin 8, slot A B j s n := by
  unfold total slot
  refine (Fin.sum_mul_add_congr fun j k hl => ?_).symm
  have e1 : (⟨(j.val * 512 + k.val) / 512, by omega⟩ : Fin 8) = j := Fin.ext (by show (j.val * 512 + k.val) / 512 = j.val; omega)
  have e2 : (⟨(j.val * 512 + k.val) % 512, by omega⟩ : Fin 512) = k := Fin.ext (by show (j.val * 512 + k.val) % 512 = k.val; omega)
  simp only [e1, e2]

theorem term_eq (A : Vec Ideal S8x4096x512 .bf16) (B : Vec Ideal S1x8x1024x512 .bf16) (t : Fin cfg0.N) (p n : Fin 1024) (j j' : Fin 8) (s : Fin 4096)
    (hj : 2 * (t.val % 4) = j.val) (hj' : 2 * (t.val % 4) + 1 = j'.val) (hs : 1024 * (t.val / 4) + p.val = s.val) :
    term A B t p n = slot A B j s n + slot A B j' s n := by
  unfold term slot
  have e1 : (⟨2 * (t.val % 4), by omega⟩ : Fin 8) = j := Fin.ext hj
  have e2 : (⟨2 * (t.val % 4) + 1, by omega⟩ : Fin 8) = j' := Fin.ext hj'
  have e3 : (⟨1024 * (t.val / 4) + p.val, by omega⟩ : Fin 4096) = s := Fin.ext hs
  simp only [e1, e2, e3]

variable (m : (ℓ : Loc nD τ sig) → Buf (Elt Ideal) ℓ) (c : Dev nD)

/-- The accumulator after a block's last point. -/
theorem acc_at (i : Fin 4) (t : Fin cfg0.N) (ht : t.val = 4 * i.val + 3) (p n : Fin 1024) :
    ((outsAt0 m c t.val t.isLt).2.2.2 (ix2 p n) : EReal)
      = total (m ((c : Thread nD τ).loc main_arg0)) (m ((c : Thread nD τ).loc main_arg1)) ⟨1024 * i.val + p.val, by omega⟩ n := by
  have l2 : t.val - 1 < cfg0.N := by have := t.isLt; omega
  have l1 : t.val - 1 - 1 < cfg0.N := by have := t.isLt; omega
  have l0 : t.val - 1 - 1 - 1 < cfg0.N := by have := t.isLt; omega
  rw [next m c t (by omega) p n]
  rw [next m c ⟨t.val - 1, l2⟩ (by show ¬(t.val - 1) % 4 = 0; omega) p n]
  rw [next m c ⟨t.val - 1 - 1, l1⟩ (by show ¬(t.val - 1 - 1) % 4 = 0; omega) p n]
  rw [first m c ⟨t.val - 1 - 1 - 1, l0⟩ (by show (t.val - 1 - 1 - 1) % 4 = 0; omega) p n]
  rw [total_slots, Fin.sum_univ_eight]
  rw [term_eq _ _ ⟨t.val - 1 - 1 - 1, l0⟩ p n 0 1 ⟨1024 * i.val + p.val, by omega⟩ (by show 2 * ((t.val - 1 - 1 - 1) % 4) = 0; omega) (by show 2 * ((t.val - 1 - 1 - 1) % 4) + 1 = 1; omega) (by show 1024 * ((t.val - 1 - 1 - 1) / 4) + p.val = 1024 * i.val + p.val; omega),
    term_eq _ _ ⟨t.val - 1 - 1, l1⟩ p n 2 3 ⟨1024 * i.val + p.val, by omega⟩ (by show 2 * ((t.val - 1 - 1) % 4) = 2; omega) (by show 2 * ((t.val - 1 - 1) % 4) + 1 = 3; omega) (by show 1024 * ((t.val - 1 - 1) / 4) + p.val = 1024 * i.val + p.val; omega),
    term_eq _ _ ⟨t.val - 1, l2⟩ p n 4 5 ⟨1024 * i.val + p.val, by omega⟩ (by show 2 * ((t.val - 1) % 4) = 4; omega) (by show 2 * ((t.val - 1) % 4) + 1 = 5; omega) (by show 1024 * ((t.val - 1) / 4) + p.val = 1024 * i.val + p.val; omega),
    term_eq _ _ t p n 6 7 ⟨1024 * i.val + p.val, by omega⟩ (by show 2 * (t.val % 4) = 6; omega) (by show 2 * (t.val % 4) + 1 = 7; omega) (by show 1024 * (t.val / 4) + p.val = 1024 * i.val + p.val; omega)]
  simp only [add_assoc]

/-- The input blocks of a block's last point. -/
theorem block2 (i : Fin 4) (t : Fin cfg0.N) (ht : t.val = 4 * i.val + 3) (p n : Fin 1024) :
    (iblk m c 2 t (ix2 p n) : EReal) = (m ((c : Thread nD τ).loc main_arg2) : Vec Ideal S4096x1024 .f32) (ix2 ⟨1024 * i.val + p.val, by omega⟩ n) := by
  have e : t.val / 4 = i.val := by omega
  blk_point [iblk, V, (idx t).2.2.1, e]
theorem block3 (t : Fin cfg0.N) (n : Fin 1024) :
    (iblk m c 3 t (ix2 0 n) : EReal) = (m ((c : Thread nD τ).loc main_arg3) : Vec Ideal S1x1024 .f32) (ix2 0 n) := by
  blk_point [iblk, V, (idx t).2.2.2.1]
theorem block4 (i : Fin 4) (t : Fin cfg0.N) (ht : t.val = 4 * i.val + 3) (p n : Fin 1024) :
    (iblk m c 4 t (ix2 p n) : EReal) = (m ((c : Thread nD τ).loc main_arg4) : Vec Ideal S4096x1024 .f32) (ix2 ⟨1024 * i.val + p.val, by omega⟩ n) := by
  have e : t.val / 4 = i.val := by omega
  blk_point [iblk, V, (idx t).2.2.2.2, e]

/-- The inverse root of a token's mean square. -/
def root (x : Vec Ideal S4096x1024 .f32) (s : Fin 4096) : EReal :=
  Ideal.rsqrt (Ideal.div (∑ k : Fin 1024, (x (ix2 s k) : EReal) * (x (ix2 s k) : EReal)) (Ideal.ofBits .f32 0x44800000#32) + Ideal.ofBits .f32 0x358637BD#32)

theorem root_at (i : Fin 4) (t : Fin cfg0.N) (ht : t.val = 4 * i.val + 3) (p : Fin 1024) :
    rowR (iblk m c 2 t) p = root (m ((c : Thread nD τ).loc main_arg2)) ⟨1024 * i.val + p.val, by omega⟩ := by
  unfold rowR root
  simp only [block2 m c i t ht]

/-- The gradient that leaves the norm, with the residual's. -/
def dh (A : Vec Ideal S8x4096x512 .bf16) (B : Vec Ideal S1x8x1024x512 .bf16) (x : Vec Ideal S4096x1024 .f32) (g : Vec Ideal S1x1024 .f32) (h : Vec Ideal S4096x1024 .f32)
    (s : Fin 4096) (n : Fin 1024) : EReal :=
  (h (ix2 s n) : EReal) + root x s * (total A B s n * (g (ix2 0 n) : EReal)
    - (x (ix2 s n) : EReal) * root x s * Ideal.div (∑ k : Fin 1024, total A B s k * (g (ix2 0 k) : EReal) * ((x (ix2 s k) : EReal) * root x s)) (Ideal.ofBits .f32 0x44800000#32))

/-- One token's share of the gradient of the norm's scales. -/
def share (A : Vec Ideal S8x4096x512 .bf16) (B : Vec Ideal S1x8x1024x512 .bf16) (x : Vec Ideal S4096x1024 .f32) (s : Fin 4096) (n : Fin 1024) : EReal :=
  total A B s n * ((x (ix2 s n) : EReal) * root x s)

/-- The gradient of the norm's scales. -/
def dg (A : Vec Ideal S8x4096x512 .bf16) (B : Vec Ideal S1x8x1024x512 .bf16) (x : Vec Ideal S4096x1024 .f32) (n : Fin 1024) : EReal :=
  ∑ s : Fin 4096, share A B x s n

theorem dh_at (i : Fin 4) (t : Fin cfg0.N) (ht : t.val = 4 * i.val + 3) (p n : Fin 1024) :
    (k0_pay6 (F := Ideal) (outsAt0 m c t.val t.isLt).2.2.2 (iblk m c 2 t) (iblk m c 3 t) (iblk m c 4 t) (ix2 p n) : EReal)
      = dh (m ((c : Thread nD τ).loc main_arg0)) (m ((c : Thread nD τ).loc main_arg1)) (m ((c : Thread nD τ).loc main_arg2)) (m ((c : Thread nD τ).loc main_arg3))
        (m ((c : Thread nD τ).loc main_arg4)) ⟨1024 * i.val + p.val, by omega⟩ n := by
  rw [grad_apply, root_at m c i t ht]
  unfold dh
  simp only [acc_at m c i t ht, block2 m c i t ht, block3 m c t, block4 m c i t ht]

theorem part_at (i : Fin 4) (t : Fin cfg0.N) (ht : t.val = 4 * i.val + 3) (n : Fin 1024) :
    (k0_pay8 (F := Ideal) (outsAt0 m c t.val t.isLt).2.2.2 (iblk m c 2 t) (ix2 0 n) : EReal)
      = ∑ p : Fin 1024, share (m ((c : Thread nD τ).loc main_arg0)) (m ((c : Thread nD τ).loc main_arg1)) (m ((c : Thread nD τ).loc main_arg2)) ⟨1024 * i.val + p.val, by omega⟩ n := by
  rw [part_apply]
  unfold share
  simp only [acc_at m c i t ht, block2 m c i t ht, root_at m c i t ht]

end Cert.MixDIdeal.Hand

end
-- ==== Proof.MixDArrays.lean ====
/- The product with the gradient of the norm: the three arrays at the end. -/
module

public import proofs.«01_k».proof.Proof.MixDTotal

@[expose] public section

set_option maxRecDepth 16384
set_option maxHeartbeats 4000000

noncomputable section

namespace Cert.MixDIdeal.Hand

open Idealize.ShloMosaic Idealize.ShloMosaic.Tactic Idealize.ShloMosaic.TcCoe Cert.MixDIdeal.Gen Idealize.SL.Sem
open Idealize.ShloMosaic.Pipeline (Dat)

variable (m : (ℓ : Loc nD τ sig) → Buf (Elt Ideal) ℓ) (c : Dev nD)

/-- The first result as an array, and the third, its cast. -/
def dhA (A : Vec Ideal S8x4096x512 .bf16) (B : Vec Ideal S1x8x1024x512 .bf16) (x : Vec Ideal S4096x1024 .f32) (g : Vec Ideal S1x1024 .f32) (h : Vec Ideal S4096x1024 .f32) :
    Vec Ideal S4096x1024 .f32 := fun i => dh A B x g h ⟨(i 0).val, (i 0).isLt⟩ ⟨(i 1).val, (i 1).isLt⟩
def dhB (A : Vec Ideal S8x4096x512 .bf16) (B : Vec Ideal S1x8x1024x512 .bf16) (x : Vec Ideal S4096x1024 .f32) (g : Vec Ideal S1x1024 .f32) (h : Vec Ideal S4096x1024 .f32) :
    Vec Ideal S4096x1024 .bf16 := fun i => dh A B x g h ⟨(i 0).val, (i 0).isLt⟩ ⟨(i 1).val, (i 1).isLt⟩
/-- The second. -/
def dgA (A : Vec Ideal S8x4096x512 .bf16) (B : Vec Ideal S1x8x1024x512 .bf16) (x : Vec Ideal S4096x1024 .f32) :
    Vec Ideal S1x1024 .f32 := fun i => dg A B x ⟨(i 1).val, (i 1).isLt⟩

theorem idx5 : ∀ t : Fin cfg0.N, win0_5.index t = ![t.val / 4, 0] ∧ win0_7.index t = ![t.val / 4, 0] := by decide +kernel

theorem arr5 : (dats m 0 c).arrAt 5 cfg0.N = dhA (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have ht := points t
  blk_simp
  rw [after0_5, last5 m c t h3]
  rw [eq_ix2 y]
  refine (dh_at m c ⟨t.val / 4, by omega⟩ t (by show t.val = 4 * (t.val / 4) + 3; omega) _ _).trans ?_
  blk_point [dhA, (idx5 t).1]

theorem arr7 : (dats m 0 c).arrAt 7 cfg0.N = dhB (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf y => ?_
  have h3 : t.val % 4 = 3 := (flush0_7 t).mp hf
  have ht := points t
  blk_simp
  rw [after0_7, last7 m c t h3]
  rw [eq_ix2 y]
  refine (dh_at m c ⟨t.val / 4, by omega⟩ t (by show t.val = 4 * (t.val / 4) + 3; omega) _ _).trans ?_
  blk_point [dhB, (idx5 t).2]

/-- The shares of one block of tokens. -/
def block (A : Vec Ideal S8x4096x512 .bf16) (B : Vec Ideal S1x8x1024x512 .bf16) (x : Vec Ideal S4096x1024 .f32) (i : Fin 4) (n : Fin 1024) : EReal :=
  ∑ p : Fin 1024, share A B x ⟨1024 * i.val + p.val, by omega⟩ n

theorem scale_first (t : Fin cfg0.N) (ht : t.val = 3) (n : Fin 1024) :
    ((outsAt0 m c t.val t.isLt).2.1 (ix2 0 n) : EReal) = block (m ((c : Thread nD τ).loc main_arg0)) (m ((c : Thread nD τ).loc main_arg1)) (m ((c : Thread nD τ).loc main_arg2)) 0 n := by
  rw [last6 m c t (by omega) (by omega)]
  exact part_at m c 0 t (by rw [ht]; rfl) n

theorem scale_next (i : Fin 4) (hi : i.val ≠ 0) (t : Fin cfg0.N) (ht : t.val = 4 * i.val + 3) (l : t.val - 1 - 1 - 1 - 1 < cfg0.N) (n : Fin 1024) :
    ((outsAt0 m c t.val t.isLt).2.1 (ix2 0 n) : EReal)
      = ((outsAt0 m c (t.val - 1 - 1 - 1 - 1) l).2.1 (ix2 0 n) : EReal)
        + block (m ((c : Thread nD τ).loc main_arg0)) (m ((c : Thread nD τ).loc main_arg1)) (m ((c : Thread nD τ).loc main_arg2)) i n := by
  have l1 : t.val - 1 < cfg0.N := by have := t.isLt; omega
  have l2 : t.val - 1 - 1 < cfg0.N := by have := t.isLt; omega
  have l3 : t.val - 1 - 1 - 1 < cfg0.N := by have := t.isLt; omega
  have k1 := kept6 m c ⟨t.val - 1, l1⟩ (by show ¬(t.val - 1) % 4 = 3; omega)
  have k2 := kept6 m c ⟨t.val - 1 - 1, l2⟩ (by show ¬(t.val - 1 - 1) % 4 = 3; omega)
  have k3 := kept6 m c ⟨t.val - 1 - 1 - 1, l3⟩ (by show ¬(t.val - 1 - 1 - 1) % 4 = 3; omega)
  rw [later6 m c t (by omega) (by omega)]
  unfold block
  rw [← part_at m c i t ht n, ← congrFun (k1.trans (k2.trans k3)) (ix2 0 n)]
  pointwise [k0_pay3]

theorem scale_last (t : Fin cfg0.N) (ht : t.val = 15) (n : Fin 1024) :
    ((outsAt0 m c t.val t.isLt).2.1 (ix2 0 n) : EReal) = dg (m ((c : Thread nD τ).loc main_arg0)) (m ((c : Thread nD τ).loc main_arg1)) (m ((c : Thread nD τ).loc main_arg2)) n := by
  have hN := t.isLt
  have l1 : t.val - 1 - 1 - 1 - 1 < cfg0.N := by omega
  have l2 : t.val - 1 - 1 - 1 - 1 - 1 - 1 - 1 - 1 < cfg0.N := by omega
  have l3 : t.val - 1 - 1 - 1 - 1 - 1 - 1 - 1 - 1 - 1 - 1 - 1 - 1 < cfg0.N := by omega
  have s3 := scale_next m c 3 (by decide) t (by rw [ht]; rfl) l1 n
  have s2 := scale_next m c 2 (by decide) ⟨_, l1⟩ (by show t.val - 1 - 1 - 1 - 1 = 11; omega) l2 n
  have s1 := scale_next m c 1 (by decide) ⟨_, l2⟩ (by show t.val - 1 - 1 - 1 - 1 - 1 - 1 - 1 - 1 = 7; omega) l3 n
  have s0 := scale_first m c ⟨_, l3⟩ (by show t.val - 1 - 1 - 1 - 1 - 1 - 1 - 1 - 1 - 1 - 1 - 1 - 1 = 3; omega) n
  have e : dg (m ((c : Thread nD τ).loc main_arg0)) (m ((c : Thread nD τ).loc main_arg1)) (m ((c : Thread nD τ).loc main_arg2)) n
      = ∑ i : Fin 4, block (m ((c : Thread nD τ).loc main_arg0)) (m ((c : Thread nD τ).loc main_arg1)) (m ((c : Thread nD τ).loc main_arg2)) i n := by
    unfold dg block
    refine (Fin.sum_mul_add_congr fun i p hl => ?_).symm
    exact congrArg (fun s => share _ _ _ s n) (Fin.ext (by show 1024 * i.val + p.val = i.val * 1024 + p.val; omega))
  rw [e, Fin.sum_univ_four, s3]
  exact congrArg (· + _) (s2.trans (congrArg (· + _) (s1.trans (congrArg (· + _) s0))))

theorem arr6 : (dats m 0 c).arrAt 6 cfg0.N = dgA (m ((c : Thread nD τ).loc main_arg0)) (m ((c : Thread nD τ).loc main_arg1)) (m ((c : Thread nD τ).loc main_arg2)) := by
  rw [Value.final6, Value.G6_last, ← Value.outsAt0_sweep]
  funext y
  rw [eq_ix2 y, Fin.fin_one_eq_zero (y 0)]
  exact scale_last m c ⟨15, lt_of_lt_of_eq (by decide) N_0.symm⟩ rfl _

end Cert.MixDIdeal.Hand

end
-- ==== Proof.MixDValue.lean ====
/- The product with the gradient of the norm: the reference's derivative at an entry, and the claim. -/
module

public import proofs.«01_k».proof.Defs
public import proofs.«01_k».proof.Proof.NormRow
public import proofs.«01_k».proof.Proof.MixDArrays
public import proofs.«01_k».proof.Proof.Gen.MixDRefIdeal.Run
public import Idealize.ShloMosaic.Lib.Pointwise
public import Idealize.ShloMosaic.Lib.KernelVsHost

@[expose] public section

set_option maxRecDepth 16384
set_option maxHeartbeats 4000000

noncomputable section

namespace Cert.MixDRefIdeal.Hand

open Idealize.ShloMosaic Idealize.ShloMosaic.Tactic Idealize.ShloMosaic.TcCoe Cert.MixDRefIdeal.Gen Idealize.SL.Sem Cert.MixDIdeal.Hand

/-- The slots side by side as one matrix. -/
def wide (a : Vec Ideal S4096x8x512 .bf16) : Vec Ideal S4096x4096 .bf16 :=
  fun i => a (ix3 ⟨(i 0).val, (i 0).isLt⟩ ⟨(i 1).val / 512, by have : (i 1).val < 4096 := (i 1).isLt; omega⟩ ⟨(i 1).val % 512, by omega⟩)
/-- The one layer's slots of weights. -/
def flat (w : Vec Ideal S1x8x1024x512 .bf16) : Vec Ideal S8x1024x512 .bf16 := fun i => w (ix4 0 ⟨(i 0).val, (i 0).isLt⟩ ⟨(i 1).val, (i 1).isLt⟩ ⟨(i 2).val, (i 2).isLt⟩)
/-- The weights' slots side by side as one matrix. -/
def side (w : Vec Ideal S1024x8x512 .bf16) : Vec Ideal S1024x4096 .bf16 :=
  fun i => w (ix3 ⟨(i 0).val, (i 0).isLt⟩ ⟨(i 1).val / 512, by have : (i 1).val < 4096 := (i 1).isLt; omega⟩ ⟨(i 1).val % 512, by omega⟩)

theorem wide_eq (a : Vec Ideal S4096x8x512 .bf16) (h) : shapeCast S4096x4096 a h = wide a := funext fun i => by
  exact shapeCast_apply a h i (ix3 ⟨(i 0).val, (i 0).isLt⟩ ⟨(i 1).val / 512, by have : (i 1).val < 4096 := (i 1).isLt; omega⟩ ⟨(i 1).val % 512, by omega⟩) (by
    rw [Shape.rowMajor_val_three, Shape.rowMajor_val_two]
    show ((i 0).val * 8 + (i 1).val / 512) * 512 + (i 1).val % 512 = (i 0).val * 4096 + (i 1).val
    omega)

theorem flat_eq (w : Vec Ideal S1x8x1024x512 .bf16) (h) : shapeCast S8x1024x512 w h = flat w := funext fun i => by
  exact shapeCast_apply w h i (ix4 0 ⟨(i 0).val, (i 0).isLt⟩ ⟨(i 1).val, (i 1).isLt⟩ ⟨(i 2).val, (i 2).isLt⟩) (by
    rw [Shape.rowMajor_val_four, Shape.rowMajor_val_three]
    show ((0 * 8 + (i 0).val) * 1024 + (i 1).val) * 512 + (i 2).val = ((i 0).val * 1024 + (i 1).val) * 512 + (i 2).val
    omega)

theorem side_eq (w : Vec Ideal S1024x8x512 .bf16) (h) : shapeCast S1024x4096 w h = side w := funext fun i => by
  exact shapeCast_apply w h i (ix3 ⟨(i 0).val, (i 0).isLt⟩ ⟨(i 1).val / 512, by have : (i 1).val < 4096 := (i 1).isLt; omega⟩ ⟨(i 1).val % 512, by omega⟩) (by
    rw [Shape.rowMajor_val_three, Shape.rowMajor_val_two]
    show ((i 0).val * 8 + (i 1).val / 512) * 512 + (i 1).val % 512 = (i 0).val * 4096 + (i 1).val
    omega)

variable (m : (ℓ : Loc nD τ sig) → Buf (Elt Ideal) ℓ) (c : Dev nD)

/-- An entry of the reference's gradient of the input. -/
theorem dh_apply (s : Fin 4096) (n : Fin 1024) :
    (Value.res_main_v47 (F := Ideal) m c (ix2 s n) : EReal) = dh (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) s n := by
  unfold dh
  rw [Cert.NormRow.norm_row (fun k => m ((c.tc : Thread nD τ).loc main_arg2) (ix2 s k)) (fun k => total (m ((c.tc : Thread nD τ).loc main_arg0)) (m ((c.tc : Thread nD τ).loc main_arg1)) s k)
    (fun k => m ((c.tc : Thread nD τ).loc main_arg3) (ix2 0 k)) _ n (root (m ((c.tc : Thread nD τ).loc main_arg2)) s) _ rfl rfl]
  unfold Value.res_main_v47 root total
  rw [wide_eq, flat_eq, side_eq]
  pointwise [wide, flat, side]
  simp only [Fin.sum_univ_one]

/-- An entry of its rounded copy. -/
theorem dhb_apply (s : Fin 4096) (n : Fin 1024) :
    (Value.res_main_v48 (F := Ideal) m c (ix2 s n) : EReal) = Value.res_main_v47 (F := Ideal) m c (ix2 s n) := by
  unfold Value.res_main_v48 Value.res_main_v47
  rfl

end Cert.MixDRefIdeal.Hand

namespace Cert

open Idealize.ShloMosaic Idealize.ShloMosaic.Tactic Idealize.ShloMosaic.StableHlo Idealize.SL.Sem

/-- The kernel's and the reference's gradients, of the input and of the norm's scales, are equal. -/
theorem mixd_equal : algebraic_MixDIdeal_MixDRefIdeal (hMixDIdeal := MixDIdeal.Gen.facts) (hMixDRefIdeal := MixDRefIdeal.Gen.facts) := by
  intro m ρ m' ρ' _ hin
  refine ⟨fun c => MixDIdeal.Hand.dhA (m ((c.tc : Thread MixDIdeal.nD MixDIdeal.τ).loc MixDIdeal.main_arg0)) (m ((c.tc : Thread MixDIdeal.nD MixDIdeal.τ).loc MixDIdeal.main_arg1)) (m ((c.tc : Thread MixDIdeal.nD MixDIdeal.τ).loc MixDIdeal.main_arg2)) (m ((c.tc : Thread MixDIdeal.nD MixDIdeal.τ).loc MixDIdeal.main_arg3)) (m ((c.tc : Thread MixDIdeal.nD MixDIdeal.τ).loc MixDIdeal.main_arg4)),
    fun c => MixDIdeal.Hand.dgA (m ((c.tc : Thread MixDIdeal.nD MixDIdeal.τ).loc MixDIdeal.main_arg0)) (m ((c.tc : Thread MixDIdeal.nD MixDIdeal.τ).loc MixDIdeal.main_arg1)) (m ((c.tc : Thread MixDIdeal.nD MixDIdeal.τ).loc MixDIdeal.main_arg2)),
    fun c => MixDIdeal.Hand.dhB (m ((c.tc : Thread MixDIdeal.nD MixDIdeal.τ).loc MixDIdeal.main_arg0)) (m ((c.tc : Thread MixDIdeal.nD MixDIdeal.τ).loc MixDIdeal.main_arg1)) (m ((c.tc : Thread MixDIdeal.nD MixDIdeal.τ).loc MixDIdeal.main_arg2)) (m ((c.tc : Thread MixDIdeal.nD MixDIdeal.τ).loc MixDIdeal.main_arg3)) (m ((c.tc : Thread MixDIdeal.nD MixDIdeal.τ).loc MixDIdeal.main_arg4)),
    (θ_run _ _ _).mono (fun r h c => ⟨(h c).1.trans (MixDIdeal.Hand.arr5 m c), (h c).2.1.trans (MixDIdeal.Hand.arr6 m c), (h c).2.2.1.trans (MixDIdeal.Hand.arr7 m c), (h c).2.2.2⟩)
      (MixDIdeal.Value.run_blocks m ρ),
    (θ_run _ _ _).mono (fun r h c => ⟨(h c).1.trans ?_, (h c).2.1.trans ?_, (h c).2.2.1.trans ?_, (h c).2.2.2⟩) (MixDRefIdeal.Value.run (F := Ideal) m' ρ')⟩
  · beta_reduce
    rw [← (hin c).1, ← (hin c).2.1, ← (hin c).2.2.1, ← (hin c).2.2.2.1, ← (hin c).2.2.2.2]
    funext j
    rw [eq_ix2 j]
    exact MixDRefIdeal.Hand.dh_apply m' c _ _
  · rw [(hin c).1, (hin c).2.1, (hin c).2.2.1, MixDRefIdeal.Hand.wide_eq, MixDRefIdeal.Hand.flat_eq, MixDRefIdeal.Hand.side_eq]
    funext j
    rw [eq_ix2 j]
    pointwise [MixDIdeal.Hand.dgA, MixDIdeal.Hand.dg, MixDIdeal.Hand.share, MixDIdeal.Hand.total, MixDIdeal.Hand.root, MixDRefIdeal.Hand.wide, MixDRefIdeal.Hand.flat, MixDRefIdeal.Hand.side]
    exact Finset.sum_congr rfl fun s _ => mul_comm _ _
  · beta_reduce
    rw [← (hin c).1, ← (hin c).2.1, ← (hin c).2.2.1, ← (hin c).2.2.2.1, ← (hin c).2.2.2.2]
    funext j
    rw [eq_ix2 j]
    exact (MixDRefIdeal.Hand.dhb_apply m' c _ _).trans (MixDRefIdeal.Hand.dh_apply m' c _ _)

end Cert

end
-- ==== Proof.NormBody.lean ====
/- The product with the gradient of the norm: what one point's body computes, entry by entry. -/
module

public import proofs.«01_k».proof.Proof.Gen.NormIdeal.Value
public import Idealize.ShloMosaic.Lib.Pipeline.ValueKit
public import Idealize.ShloMosaic.Lib.Pointwise

@[expose] public section

set_option maxRecDepth 16384
set_option maxHeartbeats 4000000

noncomputable section

namespace Cert.NormIdeal.Hand

open Idealize.ShloMosaic Idealize.ShloMosaic.Tactic Idealize.ShloMosaic.TcCoe Cert.NormIdeal.Gen Idealize.SL.Sem
open Idealize.ShloMosaic.Pipeline (Dat)

/-- The inverse root of a row's mean square. -/
def rowR (x : Vec Ideal S1024x1024 .f32) (p : Fin 1024) : EReal :=
  Ideal.rsqrt (Ideal.div (∑ k : Fin 1024, (x (ix2 p k) : EReal) * (x (ix2 p k) : EReal)) (Ideal.ofBits .f32 0x44800000#32) + Ideal.ofBits .f32 0x358637BD#32)

theorem root_apply (x : Vec Ideal S1024x1024 .f32) (p : Fin 1024) : (k0_pay4 (F := Ideal) x (ix2 p 0) : EReal) = rowR x p := by
  unfold rowR
  pointwise [k0_pay4]

theorem normed_apply (x : Vec Ideal S1024x1024 .f32) (p n : Fin 1024) : (k0_pay5 (F := Ideal) x (ix2 p n) : EReal) = (x (ix2 p n) : EReal) * rowR x p := by
  unfold rowR
  pointwise [k0_pay5, k0_pay4]

theorem grad_apply (v x : Vec Ideal S1024x1024 .f32) (g : Vec Ideal S1x1024 .f32) (h : Vec Ideal S1024x1024 .f32) (p n : Fin 1024) :
    (k0_pay6 (F := Ideal) v x g h (ix2 p n) : EReal) = (h (ix2 p n) : EReal) + rowR x p * ((v (ix2 p n) : EReal) * (g (ix2 0 n) : EReal)
      - (x (ix2 p n) : EReal) * rowR x p * Ideal.div (∑ k : Fin 1024, (v (ix2 p k) : EReal) * (g (ix2 0 k) : EReal) * ((x (ix2 p k) : EReal) * rowR x p)) (Ideal.ofBits .f32 0x44800000#32)) := by
  unfold rowR
  pointwise [k0_pay6, k0_pay5, k0_pay4]

theorem part_apply (v x : Vec Ideal S1024x1024 .f32) (n : Fin 1024) :
    (k0_pay8 (F := Ideal) v x (ix2 0 n) : EReal) = ∑ p : Fin 1024, (v (ix2 p n) : EReal) * ((x (ix2 p n) : EReal) * rowR x p) := by
  unfold rowR
  pointwise [k0_pay8, k0_pay5, k0_pay4]

end Cert.NormIdeal.Hand

end
-- ==== Proof.NormSteps.lean ====
/- The product with the gradient of the norm: what the accumulator holds between points. -/
module

public import proofs.«01_k».proof.Proof.Gen.NormIdeal.Value
public import Idealize.ShloMosaic.Lib.Pipeline.ValueKit
public import Idealize.ShloMosaic.Lib.Pointwise

@[expose] public section

set_option maxRecDepth 16384
set_option maxHeartbeats 4000000

noncomputable section

namespace Cert.NormIdeal.Hand

open Idealize.ShloMosaic Idealize.ShloMosaic.Tactic Idealize.ShloMosaic.TcCoe Cert.NormIdeal.Gen Idealize.SL.Sem
open Idealize.ShloMosaic.Pipeline (Dat)

variable (m : (ℓ : Loc nD τ sig) → Buf (Elt Ideal) ℓ) (c : Dev nD)

theorem points (t : Fin cfg0.N) : t.val < 16 := lt_of_lt_of_eq t.isLt N_0

/-- Where a point's blocks lie. -/
theorem idx : ∀ t : Fin cfg0.N, win0_0.index t = ![t.val % 4, t.val / 4, 0] ∧ win0_1.index t = ![0, t.val % 4, 0, 0] ∧ win0_2.index t = ![t.val / 4, 0]
    ∧ win0_3.index t = ![0, 0] ∧ win0_4.index t = ![t.val / 4, 0] := by decide +kernel

/-- The two slots' products at a point, entry by entry. -/
def term (A : Vec Ideal S8x4096x704 .bf16) (B : Vec Ideal S1x8x704x1024 .bf16) (t : Fin cfg0.N) (p n : Fin 1024) : EReal :=
  (∑ k : Fin 704, (A (ix3 ⟨2 * (t.val % 4), by omega⟩ ⟨1024 * (t.val / 4) + p.val, by have := points t; omega⟩ k) : EReal) * (B (ix4 0 ⟨2 * (t.val % 4), by omega⟩ k n) : EReal))
  + ∑ k : Fin 704, (A (ix3 ⟨2 * (t.val % 4) + 1, by omega⟩ ⟨1024 * (t.val / 4) + p.val, by have := points t; omega⟩ k) : EReal) * (B (ix4 0 ⟨2 * (t.val % 4) + 1, by omega⟩ k n) : EReal)

theorem first (t : Fin cfg0.N) (h : t.val % 4 = 0) (p n : Fin 1024) :
    ((outsAt0 m c t.val t.isLt).2.2.2 (ix2 p n) : EReal) = term (m ((c : Thread nD τ).loc main_arg0)) (m ((c : Thread nD τ).loc main_arg1)) t p n := by
  rw [outsAt0_A m c t h (by omega) (by omega)]
  frame_out
  unfold term
  pointwise [k0_pay1]
  congr 1 <;> refine Finset.sum_congr rfl fun k _ => ?_ <;> blk_point [iblk, V, (idx t).1, (idx t).2.1]

theorem next (t : Fin cfg0.N) (h : ¬t.val % 4 = 0) (p n : Fin 1024) :
    ((outsAt0 m c t.val t.isLt).2.2.2 (ix2 p n) : EReal) = ((outsAt0 m c (t.val - 1) (Nat.lt_of_le_of_lt (Nat.sub_le _ _) t.isLt)).2.2.2 (ix2 p n) : EReal)
      + term (m ((c : Thread nD τ).loc main_arg0)) (m ((c : Thread nD τ).loc main_arg1)) t p n := by
  by_cases h3 : t.val % 4 = 3
  · by_cases h4 : 4 ≤ t.val
    · rw [outsAt0_D m c t h (by omega) h3 (by omega) h4]
      frame_out
      unfold term
      pointwise [k0_pay2]
      refine congr (congrArg HAdd.hAdd ?_) (congr (congrArg HAdd.hAdd (Finset.sum_congr rfl fun k _ => ?_)) (Finset.sum_congr rfl fun k _ => ?_))
      · exact congrFun (Memref.IsWhole.read_unread _ _) _
      · blk_point [iblk, V, (idx t).1, (idx t).2.1]
      · blk_point [iblk, V, (idx t).1, (idx t).2.1]
    · rw [outsAt0_C m c t h (by omega) h3 (by omega) h4]
      frame_out
      unfold term
      pointwise [k0_pay2]
      refine congr (congrArg HAdd.hAdd ?_) (congr (congrArg HAdd.hAdd (Finset.sum_congr rfl fun k _ => ?_)) (Finset.sum_congr rfl fun k _ => ?_))
      · exact congrFun (Memref.IsWhole.read_unread _ _) _
      · blk_point [iblk, V, (idx t).1, (idx t).2.1]
      · blk_point [iblk, V, (idx t).1, (idx t).2.1]
  · rw [outsAt0_B m c t h (by omega) h3]
    frame_out
    unfold term
    pointwise [k0_pay2]
    refine congr (congrArg HAdd.hAdd ?_) (congr (congrArg HAdd.hAdd (Finset.sum_congr rfl fun k _ => ?_)) (Finset.sum_congr rfl fun k _ => ?_))
    · exact congrFun (Memref.IsWhole.read_unread _ _) _
    · blk_point [iblk, V, (idx t).1, (idx t).2.1]
    · blk_point [iblk, V, (idx t).1, (idx t).2.1]

/-- The three results of a block's last point, from the accumulator. -/
theorem last5 (t : Fin cfg0.N) (h : t.val % 4 = 3) :
    (outsAt0 m c t.val t.isLt).1 = k0_pay6 (F := Ideal) (outsAt0 m c t.val t.isLt).2.2.2 (iblk m c 2 t) (iblk m c 3 t) (iblk m c 4 t) := by
  by_cases h4 : 4 ≤ t.val
  · rw [outsAt0_D m c t (by omega) (by omega) h (by omega) h4]
    frame_out
  · rw [outsAt0_C m c t (by omega) (by omega) h (by omega) h4]
    frame_out

theorem last7 (t : Fin cfg0.N) (h : t.val % 4 = 3) :
    (outsAt0 m c t.val t.isLt).2.2.1 = k0_pay7 (F := Ideal) (outsAt0 m c t.val t.isLt).2.2.2 (iblk m c 2 t) (iblk m c 3 t) (iblk m c 4 t) := by
  by_cases h4 : 4 ≤ t.val
  · rw [outsAt0_D m c t (by omega) (by omega) h (by omega) h4]
    frame_out
  · rw [outsAt0_C m c t (by omega) (by omega) h (by omega) h4]
    frame_out

theorem last6 (t : Fin cfg0.N) (h : t.val % 4 = 3) (h4 : ¬4 ≤ t.val) :
    (outsAt0 m c t.val t.isLt).2.1 = k0_pay8 (F := Ideal) (outsAt0 m c t.val t.isLt).2.2.2 (iblk m c 2 t) := by
  rw [outsAt0_C m c t (by omega) (by omega) h (by omega) h4]
  frame_out

theorem later6 (t : Fin cfg0.N) (h : t.val % 4 = 3) (h4 : 4 ≤ t.val) :
    (outsAt0 m c t.val t.isLt).2.1 = k0_pay3 (F := Ideal) (k0_pay8 (outsAt0 m c t.val t.isLt).2.2.2 (iblk m c 2 t)) (outsAt0 m c (t.val - 1) (Nat.lt_of_le_of_lt (Nat.sub_le _ _) t.isLt)).2.1 := by
  rw [outsAt0_D m c t (by omega) (by omega) h (by omega) h4]
  frame_out

/-- Between, the second result is kept. -/
theorem kept6 (t : Fin cfg0.N) (h : ¬t.val % 4 = 3) : (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h]
    rfl
  · rw [outsAt0_B m c t h0 (by omega) h]
    rfl

end Cert.NormIdeal.Hand

end
-- ==== Proof.NormTotal.lean ====
/- The product with the gradient of the norm: the three arrays at the end. -/
module

public import proofs.«01_k».proof.Proof.NormBody
public import proofs.«01_k».proof.Proof.NormSteps

@[expose] public section

set_option maxRecDepth 16384
set_option maxHeartbeats 4000000

noncomputable section

namespace Cert.NormIdeal.Hand

open Idealize.ShloMosaic Idealize.ShloMosaic.Tactic Idealize.ShloMosaic.TcCoe Cert.NormIdeal.Gen Idealize.SL.Sem
open Idealize.ShloMosaic.Pipeline (Dat)

/-- The product over all 5632 columns: the gradient of the normed rows. -/
def total (A : Vec Ideal S8x4096x704 .bf16) (B : Vec Ideal S1x8x704x1024 .bf16) (s : Fin 4096) (n : Fin 1024) : EReal :=
  ∑ q : Fin 5632, (A (ix3 ⟨q.val / 704, by omega⟩ s ⟨q.val % 704, by omega⟩) : EReal) * (B (ix4 0 ⟨q.val / 704, by omega⟩ ⟨q.val % 704, by omega⟩ n) : EReal)

/-- One slot's share of it. -/
def slot (A : Vec Ideal S8x4096x704 .bf16) (B : Vec Ideal S1x8x704x1024 .bf16) (j : Fin 8) (s : Fin 4096) (n : Fin 1024) : EReal :=
  ∑ k : Fin 704, (A (ix3 j s k) : EReal) * (B (ix4 0 j k n) : EReal)

theorem total_slots (A : Vec Ideal S8x4096x704 .bf16) (B : Vec Ideal S1x8x704x1024 .bf16) (s : Fin 4096) (n : Fin 1024) :
    total A B s n = ∑ j : Fin 8, slot A B j s n := by
  unfold total slot
  refine (Fin.sum_mul_add_congr fun j k hl => ?_).symm
  have e1 : (⟨(j.val * 704 + k.val) / 704, by omega⟩ : Fin 8) = j := Fin.ext (by show (j.val * 704 + k.val) / 704 = j.val; omega)
  have e2 : (⟨(j.val * 704 + k.val) % 704, by omega⟩ : Fin 704) = k := Fin.ext (by show (j.val * 704 + k.val) % 704 = k.val; omega)
  simp only [e1, e2]

theorem term_eq (A : Vec Ideal S8x4096x704 .bf16) (B : Vec Ideal S1x8x704x1024 .bf16) (t : Fin cfg0.N) (p n : Fin 1024) (j j' : Fin 8) (s : Fin 4096)
    (hj : 2 * (t.val % 4) = j.val) (hj' : 2 * (t.val % 4) + 1 = j'.val) (hs : 1024 * (t.val / 4) + p.val = s.val) :
    term A B t p n = slot A B j s n + slot A B j' s n := by
  unfold term slot
  have e1 : (⟨2 * (t.val % 4), by omega⟩ : Fin 8) = j := Fin.ext hj
  have e2 : (⟨2 * (t.val % 4) + 1, by omega⟩ : Fin 8) = j' := Fin.ext hj'
  have e3 : (⟨1024 * (t.val / 4) + p.val, by omega⟩ : Fin 4096) = s := Fin.ext hs
  simp only [e1, e2, e3]

variable (m : (ℓ : Loc nD τ sig) → Buf (Elt Ideal) ℓ) (c : Dev nD)

/-- The accumulator after a block's last point. -/
theorem acc_at (i : Fin 4) (t : Fin cfg0.N) (ht : t.val = 4 * i.val + 3) (p n : Fin 1024) :
    ((outsAt0 m c t.val t.isLt).2.2.2 (ix2 p n) : EReal)
      = total (m ((c : Thread nD τ).loc main_arg0)) (m ((c : Thread nD τ).loc main_arg1)) ⟨1024 * i.val + p.val, by omega⟩ n := by
  have l2 : t.val - 1 < cfg0.N := by have := t.isLt; omega
  have l1 : t.val - 1 - 1 < cfg0.N := by have := t.isLt; omega
  have l0 : t.val - 1 - 1 - 1 < cfg0.N := by have := t.isLt; omega
  rw [next m c t (by omega) p n]
  rw [next m c ⟨t.val - 1, l2⟩ (by show ¬(t.val - 1) % 4 = 0; omega) p n]
  rw [next m c ⟨t.val - 1 - 1, l1⟩ (by show ¬(t.val - 1 - 1) % 4 = 0; omega) p n]
  rw [first m c ⟨t.val - 1 - 1 - 1, l0⟩ (by show (t.val - 1 - 1 - 1) % 4 = 0; omega) p n]
  rw [total_slots, Fin.sum_univ_eight]
  rw [term_eq _ _ ⟨t.val - 1 - 1 - 1, l0⟩ p n 0 1 ⟨1024 * i.val + p.val, by omega⟩ (by show 2 * ((t.val - 1 - 1 - 1) % 4) = 0; omega) (by show 2 * ((t.val - 1 - 1 - 1) % 4) + 1 = 1; omega) (by show 1024 * ((t.val - 1 - 1 - 1) / 4) + p.val = 1024 * i.val + p.val; omega),
    term_eq _ _ ⟨t.val - 1 - 1, l1⟩ p n 2 3 ⟨1024 * i.val + p.val, by omega⟩ (by show 2 * ((t.val - 1 - 1) % 4) = 2; omega) (by show 2 * ((t.val - 1 - 1) % 4) + 1 = 3; omega) (by show 1024 * ((t.val - 1 - 1) / 4) + p.val = 1024 * i.val + p.val; omega),
    term_eq _ _ ⟨t.val - 1, l2⟩ p n 4 5 ⟨1024 * i.val + p.val, by omega⟩ (by show 2 * ((t.val - 1) % 4) = 4; omega) (by show 2 * ((t.val - 1) % 4) + 1 = 5; omega) (by show 1024 * ((t.val - 1) / 4) + p.val = 1024 * i.val + p.val; omega),
    term_eq _ _ t p n 6 7 ⟨1024 * i.val + p.val, by omega⟩ (by show 2 * (t.val % 4) = 6; omega) (by show 2 * (t.val % 4) + 1 = 7; omega) (by show 1024 * (t.val / 4) + p.val = 1024 * i.val + p.val; omega)]
  simp only [add_assoc]

/-- The input blocks of a block's last point. -/
theorem block2 (i : Fin 4) (t : Fin cfg0.N) (ht : t.val = 4 * i.val + 3) (p n : Fin 1024) :
    (iblk m c 2 t (ix2 p n) : EReal) = (m ((c : Thread nD τ).loc main_arg2) : Vec Ideal S4096x1024 .f32) (ix2 ⟨1024 * i.val + p.val, by omega⟩ n) := by
  have e : t.val / 4 = i.val := by omega
  blk_point [iblk, V, (idx t).2.2.1, e]
theorem block3 (t : Fin cfg0.N) (n : Fin 1024) :
    (iblk m c 3 t (ix2 0 n) : EReal) = (m ((c : Thread nD τ).loc main_arg3) : Vec Ideal S1x1024 .f32) (ix2 0 n) := by
  blk_point [iblk, V, (idx t).2.2.2.1]
theorem block4 (i : Fin 4) (t : Fin cfg0.N) (ht : t.val = 4 * i.val + 3) (p n : Fin 1024) :
    (iblk m c 4 t (ix2 p n) : EReal) = (m ((c : Thread nD τ).loc main_arg4) : Vec Ideal S4096x1024 .f32) (ix2 ⟨1024 * i.val + p.val, by omega⟩ n) := by
  have e : t.val / 4 = i.val := by omega
  blk_point [iblk, V, (idx t).2.2.2.2, e]

/-- The inverse root of a token's mean square. -/
def root (x : Vec Ideal S4096x1024 .f32) (s : Fin 4096) : EReal :=
  Ideal.rsqrt (Ideal.div (∑ k : Fin 1024, (x (ix2 s k) : EReal) * (x (ix2 s k) : EReal)) (Ideal.ofBits .f32 0x44800000#32) + Ideal.ofBits .f32 0x358637BD#32)

theorem root_at (i : Fin 4) (t : Fin cfg0.N) (ht : t.val = 4 * i.val + 3) (p : Fin 1024) :
    rowR (iblk m c 2 t) p = root (m ((c : Thread nD τ).loc main_arg2)) ⟨1024 * i.val + p.val, by omega⟩ := by
  unfold rowR root
  simp only [block2 m c i t ht]

/-- The gradient that leaves the norm, with the residual's. -/
def dh (A : Vec Ideal S8x4096x704 .bf16) (B : Vec Ideal S1x8x704x1024 .bf16) (x : Vec Ideal S4096x1024 .f32) (g : Vec Ideal S1x1024 .f32) (h : Vec Ideal S4096x1024 .f32)
    (s : Fin 4096) (n : Fin 1024) : EReal :=
  (h (ix2 s n) : EReal) + root x s * (total A B s n * (g (ix2 0 n) : EReal)
    - (x (ix2 s n) : EReal) * root x s * Ideal.div (∑ k : Fin 1024, total A B s k * (g (ix2 0 k) : EReal) * ((x (ix2 s k) : EReal) * root x s)) (Ideal.ofBits .f32 0x44800000#32))

/-- One token's share of the gradient of the norm's scales. -/
def share (A : Vec Ideal S8x4096x704 .bf16) (B : Vec Ideal S1x8x704x1024 .bf16) (x : Vec Ideal S4096x1024 .f32) (s : Fin 4096) (n : Fin 1024) : EReal :=
  total A B s n * ((x (ix2 s n) : EReal) * root x s)

/-- The gradient of the norm's scales. -/
def dg (A : Vec Ideal S8x4096x704 .bf16) (B : Vec Ideal S1x8x704x1024 .bf16) (x : Vec Ideal S4096x1024 .f32) (n : Fin 1024) : EReal :=
  ∑ s : Fin 4096, share A B x s n

theorem dh_at (i : Fin 4) (t : Fin cfg0.N) (ht : t.val = 4 * i.val + 3) (p n : Fin 1024) :
    (k0_pay6 (F := Ideal) (outsAt0 m c t.val t.isLt).2.2.2 (iblk m c 2 t) (iblk m c 3 t) (iblk m c 4 t) (ix2 p n) : EReal)
      = dh (m ((c : Thread nD τ).loc main_arg0)) (m ((c : Thread nD τ).loc main_arg1)) (m ((c : Thread nD τ).loc main_arg2)) (m ((c : Thread nD τ).loc main_arg3))
        (m ((c : Thread nD τ).loc main_arg4)) ⟨1024 * i.val + p.val, by omega⟩ n := by
  rw [grad_apply, root_at m c i t ht]
  unfold dh
  simp only [acc_at m c i t ht, block2 m c i t ht, block3 m c t, block4 m c i t ht]

theorem part_at (i : Fin 4) (t : Fin cfg0.N) (ht : t.val = 4 * i.val + 3) (n : Fin 1024) :
    (k0_pay8 (F := Ideal) (outsAt0 m c t.val t.isLt).2.2.2 (iblk m c 2 t) (ix2 0 n) : EReal)
      = ∑ p : Fin 1024, share (m ((c : Thread nD τ).loc main_arg0)) (m ((c : Thread nD τ).loc main_arg1)) (m ((c : Thread nD τ).loc main_arg2)) ⟨1024 * i.val + p.val, by omega⟩ n := by
  rw [part_apply]
  unfold share
  simp only [acc_at m c i t ht, block2 m c i t ht, root_at m c i t ht]

end Cert.NormIdeal.Hand

end
-- ==== Proof.NormArrays.lean ====
/- The product with the gradient of the norm: the three arrays at the end. -/
module

public import proofs.«01_k».proof.Proof.NormTotal

@[expose] public section

set_option maxRecDepth 16384
set_option maxHeartbeats 4000000

noncomputable section

namespace Cert.NormIdeal.Hand

open Idealize.ShloMosaic Idealize.ShloMosaic.Tactic Idealize.ShloMosaic.TcCoe Cert.NormIdeal.Gen Idealize.SL.Sem
open Idealize.ShloMosaic.Pipeline (Dat)

variable (m : (ℓ : Loc nD τ sig) → Buf (Elt Ideal) ℓ) (c : Dev nD)

/-- The first result as an array, and the third, its cast. -/
def dhA (A : Vec Ideal S8x4096x704 .bf16) (B : Vec Ideal S1x8x704x1024 .bf16) (x : Vec Ideal S4096x1024 .f32) (g : Vec Ideal S1x1024 .f32) (h : Vec Ideal S4096x1024 .f32) :
    Vec Ideal S4096x1024 .f32 := fun i => dh A B x g h ⟨(i 0).val, (i 0).isLt⟩ ⟨(i 1).val, (i 1).isLt⟩
def dhB (A : Vec Ideal S8x4096x704 .bf16) (B : Vec Ideal S1x8x704x1024 .bf16) (x : Vec Ideal S4096x1024 .f32) (g : Vec Ideal S1x1024 .f32) (h : Vec Ideal S4096x1024 .f32) :
    Vec Ideal S4096x1024 .bf16 := fun i => dh A B x g h ⟨(i 0).val, (i 0).isLt⟩ ⟨(i 1).val, (i 1).isLt⟩
/-- The second. -/
def dgA (A : Vec Ideal S8x4096x704 .bf16) (B : Vec Ideal S1x8x704x1024 .bf16) (x : Vec Ideal S4096x1024 .f32) :
    Vec Ideal S1x1024 .f32 := fun i => dg A B x ⟨(i 1).val, (i 1).isLt⟩

theorem idx5 : ∀ t : Fin cfg0.N, win0_5.index t = ![t.val / 4, 0] ∧ win0_7.index t = ![t.val / 4, 0] := by decide +kernel

theorem arr5 : (dats m 0 c).arrAt 5 cfg0.N = dhA (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have ht := points t
  blk_simp
  rw [after0_5, last5 m c t h3]
  rw [eq_ix2 y]
  refine (dh_at m c ⟨t.val / 4, by omega⟩ t (by show t.val = 4 * (t.val / 4) + 3; omega) _ _).trans ?_
  blk_point [dhA, (idx5 t).1]

theorem arr7 : (dats m 0 c).arrAt 7 cfg0.N = dhB (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf y => ?_
  have h3 : t.val % 4 = 3 := (flush0_7 t).mp hf
  have ht := points t
  blk_simp
  rw [after0_7, last7 m c t h3]
  rw [eq_ix2 y]
  refine (dh_at m c ⟨t.val / 4, by omega⟩ t (by show t.val = 4 * (t.val / 4) + 3; omega) _ _).trans ?_
  blk_point [dhB, (idx5 t).2]

/-- The shares of one block of tokens. -/
def block (A : Vec Ideal S8x4096x704 .bf16) (B : Vec Ideal S1x8x704x1024 .bf16) (x : Vec Ideal S4096x1024 .f32) (i : Fin 4) (n : Fin 1024) : EReal :=
  ∑ p : Fin 1024, share A B x ⟨1024 * i.val + p.val, by omega⟩ n

theorem scale_first (t : Fin cfg0.N) (ht : t.val = 3) (n : Fin 1024) :
    ((outsAt0 m c t.val t.isLt).2.1 (ix2 0 n) : EReal) = block (m ((c : Thread nD τ).loc main_arg0)) (m ((c : Thread nD τ).loc main_arg1)) (m ((c : Thread nD τ).loc main_arg2)) 0 n := by
  rw [last6 m c t (by omega) (by omega)]
  exact part_at m c 0 t (by rw [ht]; rfl) n

theorem scale_next (i : Fin 4) (hi : i.val ≠ 0) (t : Fin cfg0.N) (ht : t.val = 4 * i.val + 3) (l : t.val - 1 - 1 - 1 - 1 < cfg0.N) (n : Fin 1024) :
    ((outsAt0 m c t.val t.isLt).2.1 (ix2 0 n) : EReal)
      = ((outsAt0 m c (t.val - 1 - 1 - 1 - 1) l).2.1 (ix2 0 n) : EReal)
        + block (m ((c : Thread nD τ).loc main_arg0)) (m ((c : Thread nD τ).loc main_arg1)) (m ((c : Thread nD τ).loc main_arg2)) i n := by
  have l1 : t.val - 1 < cfg0.N := by have := t.isLt; omega
  have l2 : t.val - 1 - 1 < cfg0.N := by have := t.isLt; omega
  have l3 : t.val - 1 - 1 - 1 < cfg0.N := by have := t.isLt; omega
  have k1 := kept6 m c ⟨t.val - 1, l1⟩ (by show ¬(t.val - 1) % 4 = 3; omega)
  have k2 := kept6 m c ⟨t.val - 1 - 1, l2⟩ (by show ¬(t.val - 1 - 1) % 4 = 3; omega)
  have k3 := kept6 m c ⟨t.val - 1 - 1 - 1, l3⟩ (by show ¬(t.val - 1 - 1 - 1) % 4 = 3; omega)
  rw [later6 m c t (by omega) (by omega)]
  unfold block
  rw [← part_at m c i t ht n, ← congrFun (k1.trans (k2.trans k3)) (ix2 0 n)]
  pointwise [k0_pay3]

theorem scale_last (t : Fin cfg0.N) (ht : t.val = 15) (n : Fin 1024) :
    ((outsAt0 m c t.val t.isLt).2.1 (ix2 0 n) : EReal) = dg (m ((c : Thread nD τ).loc main_arg0)) (m ((c : Thread nD τ).loc main_arg1)) (m ((c : Thread nD τ).loc main_arg2)) n := by
  have hN := t.isLt
  have l1 : t.val - 1 - 1 - 1 - 1 < cfg0.N := by omega
  have l2 : t.val - 1 - 1 - 1 - 1 - 1 - 1 - 1 - 1 < cfg0.N := by omega
  have l3 : t.val - 1 - 1 - 1 - 1 - 1 - 1 - 1 - 1 - 1 - 1 - 1 - 1 < cfg0.N := by omega
  have s3 := scale_next m c 3 (by decide) t (by rw [ht]; rfl) l1 n
  have s2 := scale_next m c 2 (by decide) ⟨_, l1⟩ (by show t.val - 1 - 1 - 1 - 1 = 11; omega) l2 n
  have s1 := scale_next m c 1 (by decide) ⟨_, l2⟩ (by show t.val - 1 - 1 - 1 - 1 - 1 - 1 - 1 - 1 = 7; omega) l3 n
  have s0 := scale_first m c ⟨_, l3⟩ (by show t.val - 1 - 1 - 1 - 1 - 1 - 1 - 1 - 1 - 1 - 1 - 1 - 1 = 3; omega) n
  have e : dg (m ((c : Thread nD τ).loc main_arg0)) (m ((c : Thread nD τ).loc main_arg1)) (m ((c : Thread nD τ).loc main_arg2)) n
      = ∑ i : Fin 4, block (m ((c : Thread nD τ).loc main_arg0)) (m ((c : Thread nD τ).loc main_arg1)) (m ((c : Thread nD τ).loc main_arg2)) i n := by
    unfold dg block
    refine (Fin.sum_mul_add_congr fun i p hl => ?_).symm
    exact congrArg (fun s => share _ _ _ s n) (Fin.ext (by show 1024 * i.val + p.val = i.val * 1024 + p.val; omega))
  rw [e, Fin.sum_univ_four, s3]
  exact congrArg (· + _) (s2.trans (congrArg (· + _) (s1.trans (congrArg (· + _) s0))))

theorem arr6 : (dats m 0 c).arrAt 6 cfg0.N = dgA (m ((c : Thread nD τ).loc main_arg0)) (m ((c : Thread nD τ).loc main_arg1)) (m ((c : Thread nD τ).loc main_arg2)) := by
  rw [Value.final6, Value.G6_last, ← Value.outsAt0_sweep]
  funext y
  rw [eq_ix2 y, Fin.fin_one_eq_zero (y 0)]
  exact scale_last m c ⟨15, lt_of_lt_of_eq (by decide) N_0.symm⟩ rfl _

end Cert.NormIdeal.Hand

end
-- ==== Proof.NormValue.lean ====
/- The product with the gradient of the norm: the reference's derivative at an entry, and the claim. -/
module

public import proofs.«01_k».proof.Defs
public import proofs.«01_k».proof.Proof.NormRow
public import proofs.«01_k».proof.Proof.NormArrays
public import proofs.«01_k».proof.Proof.Gen.NormRefIdeal.Run
public import Idealize.ShloMosaic.Lib.Pointwise
public import Idealize.ShloMosaic.Lib.KernelVsHost

@[expose] public section

set_option maxRecDepth 16384
set_option maxHeartbeats 4000000

noncomputable section

namespace Cert.NormRefIdeal.Hand

open Idealize.ShloMosaic Idealize.ShloMosaic.Tactic Idealize.ShloMosaic.TcCoe Cert.NormRefIdeal.Gen Idealize.SL.Sem Cert.NormIdeal.Hand

/-- The slots side by side as one matrix. -/
def wide (a : Vec Ideal S4096x8x704 .bf16) : Vec Ideal S4096x5632 .bf16 :=
  fun i => a (ix3 ⟨(i 0).val, (i 0).isLt⟩ ⟨(i 1).val / 704, by have : (i 1).val < 5632 := (i 1).isLt; omega⟩ ⟨(i 1).val % 704, by omega⟩)
/-- The weights' slots one above the other as one matrix. -/
def tall (w : Vec Ideal S1x8x704x1024 .bf16) : Vec Ideal S5632x1024 .bf16 :=
  fun i => w (ix4 0 ⟨(i 0).val / 704, by have : (i 0).val < 5632 := (i 0).isLt; omega⟩ ⟨(i 0).val % 704, by omega⟩ ⟨(i 1).val, (i 1).isLt⟩)

theorem wide_eq (a : Vec Ideal S4096x8x704 .bf16) (h) : shapeCast S4096x5632 a h = wide a := funext fun i => by
  exact shapeCast_apply a h i (ix3 ⟨(i 0).val, (i 0).isLt⟩ ⟨(i 1).val / 704, by have : (i 1).val < 5632 := (i 1).isLt; omega⟩ ⟨(i 1).val % 704, by omega⟩) (by
    rw [Shape.rowMajor_val_three, Shape.rowMajor_val_two]
    show ((i 0).val * 8 + (i 1).val / 704) * 704 + (i 1).val % 704 = (i 0).val * 5632 + (i 1).val
    omega)

theorem tall_eq (w : Vec Ideal S1x8x704x1024 .bf16) (h) : shapeCast S5632x1024 w h = tall w := funext fun i => by
  exact shapeCast_apply w h i (ix4 0 ⟨(i 0).val / 704, by have : (i 0).val < 5632 := (i 0).isLt; omega⟩ ⟨(i 0).val % 704, by omega⟩ ⟨(i 1).val, (i 1).isLt⟩) (by
    rw [Shape.rowMajor_val_four, Shape.rowMajor_val_two]
    show ((0 * 8 + (i 0).val / 704) * 704 + (i 0).val % 704) * 1024 + (i 1).val = (i 0).val * 1024 + (i 1).val
    omega)

variable (m : (ℓ : Loc nD τ sig) → Buf (Elt Ideal) ℓ) (c : Dev nD)

/-- An entry of the reference's gradient of the input. -/
theorem dh_apply (s : Fin 4096) (n : Fin 1024) :
    (Value.res_main_v47 (F := Ideal) m c (ix2 s n) : EReal) = dh (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) s n := by
  unfold dh
  rw [Cert.NormRow.norm_row (fun k => m ((c.tc : Thread nD τ).loc main_arg2) (ix2 s k)) (fun k => total (m ((c.tc : Thread nD τ).loc main_arg0)) (m ((c.tc : Thread nD τ).loc main_arg1)) s k)
    (fun k => m ((c.tc : Thread nD τ).loc main_arg3) (ix2 0 k)) _ n (root (m ((c.tc : Thread nD τ).loc main_arg2)) s) _ rfl rfl]
  unfold Value.res_main_v47 root total
  rw [wide_eq, tall_eq]
  pointwise [wide, tall]
  simp only [Fin.sum_univ_one]

/-- An entry of its rounded copy. -/
theorem dhb_apply (s : Fin 4096) (n : Fin 1024) :
    (Value.res_main_v48 (F := Ideal) m c (ix2 s n) : EReal) = Value.res_main_v47 (F := Ideal) m c (ix2 s n) := by
  unfold Value.res_main_v48 Value.res_main_v47
  rfl

end Cert.NormRefIdeal.Hand

namespace Cert

open Idealize.ShloMosaic Idealize.ShloMosaic.Tactic Idealize.ShloMosaic.StableHlo Idealize.SL.Sem

/-- The kernel's and the reference's gradients, of the input and of the norm's scales, are equal. -/
theorem norm_equal : algebraic_NormIdeal_NormRefIdeal (hNormIdeal := NormIdeal.Gen.facts) (hNormRefIdeal := NormRefIdeal.Gen.facts) := by
  intro m ρ m' ρ' _ hin
  refine ⟨fun c => NormIdeal.Hand.dhA (m ((c.tc : Thread NormIdeal.nD NormIdeal.τ).loc NormIdeal.main_arg0)) (m ((c.tc : Thread NormIdeal.nD NormIdeal.τ).loc NormIdeal.main_arg1)) (m ((c.tc : Thread NormIdeal.nD NormIdeal.τ).loc NormIdeal.main_arg2)) (m ((c.tc : Thread NormIdeal.nD NormIdeal.τ).loc NormIdeal.main_arg3)) (m ((c.tc : Thread NormIdeal.nD NormIdeal.τ).loc NormIdeal.main_arg4)),
    fun c => NormIdeal.Hand.dgA (m ((c.tc : Thread NormIdeal.nD NormIdeal.τ).loc NormIdeal.main_arg0)) (m ((c.tc : Thread NormIdeal.nD NormIdeal.τ).loc NormIdeal.main_arg1)) (m ((c.tc : Thread NormIdeal.nD NormIdeal.τ).loc NormIdeal.main_arg2)),
    fun c => NormIdeal.Hand.dhB (m ((c.tc : Thread NormIdeal.nD NormIdeal.τ).loc NormIdeal.main_arg0)) (m ((c.tc : Thread NormIdeal.nD NormIdeal.τ).loc NormIdeal.main_arg1)) (m ((c.tc : Thread NormIdeal.nD NormIdeal.τ).loc NormIdeal.main_arg2)) (m ((c.tc : Thread NormIdeal.nD NormIdeal.τ).loc NormIdeal.main_arg3)) (m ((c.tc : Thread NormIdeal.nD NormIdeal.τ).loc NormIdeal.main_arg4)),
    (θ_run _ _ _).mono (fun r h c => ⟨(h c).1.trans (NormIdeal.Hand.arr5 m c), (h c).2.1.trans (NormIdeal.Hand.arr6 m c), (h c).2.2.1.trans (NormIdeal.Hand.arr7 m c), (h c).2.2.2⟩)
      (NormIdeal.Value.run_blocks m ρ),
    (θ_run _ _ _).mono (fun r h c => ⟨(h c).1.trans ?_, (h c).2.1.trans ?_, (h c).2.2.1.trans ?_, (h c).2.2.2⟩) (NormRefIdeal.Value.run (F := Ideal) m' ρ')⟩
  · beta_reduce
    rw [← (hin c).1, ← (hin c).2.1, ← (hin c).2.2.1, ← (hin c).2.2.2.1, ← (hin c).2.2.2.2]
    funext j
    rw [eq_ix2 j]
    exact NormRefIdeal.Hand.dh_apply m' c _ _
  · rw [(hin c).1, (hin c).2.1, (hin c).2.2.1, NormRefIdeal.Hand.wide_eq, NormRefIdeal.Hand.tall_eq]
    funext j
    rw [eq_ix2 j]
    pointwise [NormIdeal.Hand.dgA, NormIdeal.Hand.dg, NormIdeal.Hand.share, NormIdeal.Hand.total, NormIdeal.Hand.root, NormRefIdeal.Hand.wide, NormRefIdeal.Hand.tall]
    exact Finset.sum_congr rfl fun s _ => mul_comm _ _
  · beta_reduce
    rw [← (hin c).1, ← (hin c).2.1, ← (hin c).2.2.1, ← (hin c).2.2.2.1, ← (hin c).2.2.2.2]
    funext j
    rw [eq_ix2 j]
    exact (NormRefIdeal.Hand.dhb_apply m' c _ _).trans (NormRefIdeal.Hand.dh_apply m' c _ _)

end Cert

end
-- ==== Proof.QkvValue.lean ====
/- The attention's input product, entry by entry, and the claim about it. -/
module

public import proofs.«01_k».proof.Defs
public import proofs.«01_k».proof.Proof.Gen.QkvIdeal.Value
public import proofs.«01_k».proof.Proof.Gen.QkvRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.QkvIdeal.Hand

open Idealize.ShloMosaic Idealize.ShloMosaic.Tactic Idealize.ShloMosaic.TcCoe Cert.QkvIdeal.Gen Idealize.SL.Sem
open Idealize.ShloMosaic.Pipeline (Dat)

/-- The product: for each token and column the sum over the model's width. -/
def G (a : Vec Ideal S4096x1024 .bf16) (b : Vec Ideal S1x1536x1024 .bf16) : Vec Ideal S4096x1536 .bf16 :=
  fun i => (∑ x : Fin 1024, (a (ix2 ⟨(i 0).val, (i 0).isLt⟩ x) : EReal) * (b (ix3 0 ⟨(i 1).val, (i 1).isLt⟩ x) : EReal) : EReal)

/-- The one layer's weights as a matrix. -/
def flat (w : Vec Ideal S1x1536x1024 .bf16) : Vec Ideal Cert.QkvRefIdeal.S1536x1024 .bf16 := fun i => w (ix3 0 ⟨(i 0).val, (i 0).isLt⟩ ⟨(i 1).val, (i 1).isLt⟩)

theorem flat_eq (w : Vec Ideal S1x1536x1024 .bf16) (h) : shapeCast Cert.QkvRefIdeal.S1536x1024 w h = flat w := funext fun i => by
  exact shapeCast_apply w h i (ix3 0 ⟨(i 0).val, (i 0).isLt⟩ ⟨(i 1).val, (i 1).isLt⟩) (by
    rw [Shape.rowMajor_val_three, Shape.rowMajor_val_two]
    show (0 * 1536 + (i 0).val) * 1024 + (i 1).val = (i 0).val * 1024 + (i 1).val
    omega)

variable (m : (ℓ : Loc nD τ sig) → Buf (Elt Ideal) ℓ) (ρ : Dev nD → PrngReg)

/-- Where a point's blocks lie. -/
theorem idx : ∀ t : Fin cfg0.N, win0_0.index t = ![t.val / 3, 0] ∧ win0_1.index t = ![0, t.val % 3, 0] ∧ win0_2.index t = ![t.val / 3, t.val % 3] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.QkvIdeal.Hand

namespace Cert

open Idealize.ShloMosaic Idealize.ShloMosaic.Tactic Idealize.ShloMosaic.StableHlo Idealize.SL.Sem

/-- The kernel's and the reference's products are equal. -/
theorem qkv_equal : algebraic_QkvIdeal_QkvRefIdeal (hQkvIdeal := QkvIdeal.Gen.facts) (hQkvRefIdeal := QkvRefIdeal.Gen.facts) := by
  intro m ρ m' ρ' _ hin
  refine ⟨fun c => QkvIdeal.Hand.G (m ((c.tc : Thread QkvIdeal.nD QkvIdeal.τ).loc QkvIdeal.main_arg0)) (m ((c.tc : Thread QkvIdeal.nD QkvIdeal.τ).loc QkvIdeal.main_arg1)),
    (θ_run _ _ _).mono (fun r h c => ⟨(h c).1.trans (QkvIdeal.Hand.final m c), (h c).2⟩) (QkvIdeal.Value.run_blocks m ρ),
    (θ_run _ _ _).mono (fun r h c => ⟨(h c).1.trans ?_, (h c).2⟩) (QkvRefIdeal.Value.run (F := Ideal) m' ρ')⟩
  rw [(hin c).1, (hin c).2, QkvIdeal.Hand.flat_eq]
  funext j
  pointwise [QkvIdeal.Hand.G]
  rfl

end Cert

end
-- ==== Proof.QkvWValue.lean ====
/- The gradient of the attention's input weights, entry by entry, and the claim about it. -/
module

public import proofs.«01_k».proof.Defs
public import proofs.«01_k».proof.Proof.Gen.QkvWIdeal.Value
public import proofs.«01_k».proof.Proof.Gen.QkvWRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.QkvWIdeal.Hand

open Idealize.ShloMosaic Idealize.ShloMosaic.Tactic Idealize.ShloMosaic.TcCoe Cert.QkvWIdeal.Gen Idealize.SL.Sem
open Idealize.ShloMosaic.Pipeline (Dat)

/-- The gradient: for each row and column the sum over the tokens. -/
def G (a : Vec Ideal S4096x1536 .bf16) (b : Vec Ideal S4096x1024 .bf16) : Vec Ideal S1536x1024 .bf16 :=
  fun i => (∑ x : Fin 4096, (a (ix2 x ⟨(i 0).val, (i 0).isLt⟩) : EReal) * (b (ix2 x ⟨(i 1).val, (i 1).isLt⟩) : EReal) : EReal)

variable (m : (ℓ : Loc nD τ sig) → Buf (Elt Ideal) ℓ) (ρ : Dev nD → PrngReg)

/-- Where a point's blocks lie. -/
theorem idx : ∀ t : Fin cfg0.N, win0_0.index t = ![0, 0] ∧ win0_1.index t = ![0, 0] ∧ win0_2.index t = ![0, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.QkvWIdeal.Hand

namespace Cert

open Idealize.ShloMosaic Idealize.ShloMosaic.Tactic Idealize.ShloMosaic.StableHlo Idealize.SL.Sem

/-- The kernel's and the reference's gradients of the attention's input weights are equal. -/
theorem qkvw_equal : algebraic_QkvWIdeal_QkvWRefIdeal (hQkvWIdeal := QkvWIdeal.Gen.facts) (hQkvWRefIdeal := QkvWRefIdeal.Gen.facts) := by
  intro m ρ m' ρ' _ hin
  refine ⟨fun c => QkvWIdeal.Hand.G (m ((c.tc : Thread QkvWIdeal.nD QkvWIdeal.τ).loc QkvWIdeal.main_arg0)) (m ((c.tc : Thread QkvWIdeal.nD QkvWIdeal.τ).loc QkvWIdeal.main_arg1)),
    (θ_run _ _ _).mono (fun r h c => ⟨(h c).1.trans (QkvWIdeal.Hand.final m c), (h c).2⟩) (QkvWIdeal.Value.run_blocks m ρ),
    (θ_run _ _ _).mono (fun r h c => ⟨(h c).1.trans ?_, (h c).2⟩) (QkvWRefIdeal.Value.run (F := Ideal) m' ρ')⟩
  rw [(hin c).1, (hin c).2]
  funext j
  pointwise [QkvWIdeal.Hand.G]

end Cert

end
-- ==== Proof.OutValue.lean ====
/- The gradient of a mixer's output, entry by entry, and the claim about it. -/
module

public import proofs.«01_k».proof.Defs
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.OutIdeal.Hand

open Idealize.ShloMosaic Idealize.ShloMosaic.Tactic Idealize.ShloMosaic.TcCoe Cert.OutIdeal.Gen Idealize.SL.Sem
open Idealize.ShloMosaic.Pipeline (Dat)

/-- The gradient: for each token and column the sum over the model's width. -/
def G (a : Vec Ideal S4096x1024 .bf16) (b : Vec Ideal S1x1024x1024 .bf16) : Vec Ideal S4096x1024 .bf16 :=
  fun i => (∑ x : Fin 1024, (a (ix2 ⟨(i 0).val, (i 0).isLt⟩ x) : EReal) * (b (ix3 0 ⟨(i 1).val, (i 1).isLt⟩ x) : EReal) : EReal)

/-- The one layer's weights as a matrix. -/
def flat (w : Vec Ideal S1x1024x1024 .bf16) : Vec Ideal Cert.OutRefIdeal.S1024x1024 .bf16 := fun i => w (ix3 0 ⟨(i 0).val, (i 0).isLt⟩ ⟨(i 1).val, (i 1).isLt⟩)

theorem flat_eq (w : Vec Ideal S1x1024x1024 .bf16) (h) : shapeCast Cert.OutRefIdeal.S1024x1024 w h = flat w := funext fun i => by
  exact shapeCast_apply w h i (ix3 0 ⟨(i 0).val, (i 0).isLt⟩ ⟨(i 1).val, (i 1).isLt⟩) (by
    rw [Shape.rowMajor_val_three, Shape.rowMajor_val_two]
    show (0 * 1024 + (i 0).val) * 1024 + (i 1).val = (i 0).val * 1024 + (i 1).val
    omega)

variable (m : (ℓ : Loc nD τ sig) → Buf (Elt Ideal) ℓ) (ρ : Dev nD → PrngReg)

/-- Where a point's blocks lie. -/
theorem idx : ∀ t : Fin cfg0.N, win0_0.index t = ![t.val, 0] ∧ win0_1.index t = ![0, 0, 0] ∧ win0_2.index t = ![t.val, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.OutIdeal.Hand

namespace Cert

open Idealize.ShloMosaic Idealize.ShloMosaic.Tactic Idealize.ShloMosaic.StableHlo Idealize.SL.Sem

/-- The kernel's and the reference's gradients of the output are equal. -/
theorem out_equal : algebraic_OutIdeal_OutRefIdeal (hOutIdeal := OutIdeal.Gen.facts) (hOutRefIdeal := OutRefIdeal.Gen.facts) := by
  intro m ρ m' ρ' _ hin
  refine ⟨fun c => OutIdeal.Hand.G (m ((c.tc : Thread OutIdeal.nD OutIdeal.τ).loc OutIdeal.main_arg0)) (m ((c.tc : Thread OutIdeal.nD OutIdeal.τ).loc OutIdeal.main_arg1)),
    (θ_run _ _ _).mono (fun r h c => ⟨(h c).1.trans (OutIdeal.Hand.final m c), (h c).2⟩) (OutIdeal.Value.run_blocks m ρ),
    (θ_run _ _ _).mono (fun r h c => ⟨(h c).1.trans ?_, (h c).2⟩) (OutRefIdeal.Value.run (F := Ideal) m' ρ')⟩
  rw [(hin c).1, (hin c).2, OutIdeal.Hand.flat_eq]
  funext j
  pointwise [OutIdeal.Hand.G]
  rfl

end Cert

end
-- ==== Proof.OutWValue.lean ====
/- The gradient of a mixer's output weights, entry by entry, and the claim about it. -/
module

public import proofs.«01_k».proof.Defs
public import proofs.«01_k».proof.Proof.Gen.OutWIdeal.Value
public import proofs.«01_k».proof.Proof.Gen.OutWRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.OutWIdeal.Hand

open Idealize.ShloMosaic Idealize.ShloMosaic.Tactic Idealize.ShloMosaic.TcCoe Cert.OutWIdeal.Gen Idealize.SL.Sem
open Idealize.ShloMosaic.Pipeline (Dat)

/-- The gradient: for each row and column the sum over the tokens. -/
def G (a : Vec Ideal S4096x1024 .bf16) (b : Vec Ideal S4096x1024 .bf16) : Vec Ideal S1024x1024 .bf16 :=
  fun i => (∑ x : Fin 4096, (a (ix2 x ⟨(i 0).val, (i 0).isLt⟩) : EReal) * (b (ix2 x ⟨(i 1).val, (i 1).isLt⟩) : EReal) : EReal)

variable (m : (ℓ : Loc nD τ sig) → Buf (Elt Ideal) ℓ) (ρ : Dev nD → PrngReg)

/-- Where a point's blocks lie. -/
theorem idx : ∀ t : Fin cfg0.N, win0_0.index t = ![0, 0] ∧ win0_1.index t = ![0, 0] ∧ win0_2.index t = ![0, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.OutWIdeal.Hand

namespace Cert

open Idealize.ShloMosaic Idealize.ShloMosaic.Tactic Idealize.ShloMosaic.StableHlo Idealize.SL.Sem

/-- The kernel's and the reference's gradients of the output weights are equal. -/
theorem outw_equal : algebraic_OutWIdeal_OutWRefIdeal (hOutWIdeal := OutWIdeal.Gen.facts) (hOutWRefIdeal := OutWRefIdeal.Gen.facts) := by
  intro m ρ m' ρ' _ hin
  refine ⟨fun c => OutWIdeal.Hand.G (m ((c.tc : Thread OutWIdeal.nD OutWIdeal.τ).loc OutWIdeal.main_arg0)) (m ((c.tc : Thread OutWIdeal.nD OutWIdeal.τ).loc OutWIdeal.main_arg1)),
    (θ_run _ _ _).mono (fun r h c => ⟨(h c).1.trans (OutWIdeal.Hand.final m c), (h c).2⟩) (OutWIdeal.Value.run_blocks m ρ),
    (θ_run _ _ _).mono (fun r h c => ⟨(h c).1.trans ?_, (h c).2⟩) (OutWRefIdeal.Value.run (F := Ideal) m' ρ')⟩
  rw [(hin c).1, (hin c).2]
  funext j
  pointwise [OutWIdeal.Hand.G]
  exact Finset.sum_congr rfl fun x _ => mul_comm _ _

end Cert

end
-- ==== Proof.MixInValue.lean ====
/- The recurrence's input product, entry by entry, and the claim about it. -/
module

public import proofs.«01_k».proof.Defs
public import proofs.«01_k».proof.Proof.Gen.MixInIdeal.Value
public import proofs.«01_k».proof.Proof.Gen.MixInRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.MixInIdeal.Hand

open Idealize.ShloMosaic Idealize.ShloMosaic.Tactic Idealize.ShloMosaic.TcCoe Cert.MixInIdeal.Gen Idealize.SL.Sem
open Idealize.ShloMosaic.Pipeline (Dat)

/-- The product: for each slot, token and column the sum over the model's width. -/
def G (a : Vec Ideal S4096x1024 .bf16) (b : Vec Ideal S1x8x1024x512 .bf16) : Vec Ideal S8x4096x512 .f32 :=
  fun i => (∑ x : Fin 1024, (a (ix2 ⟨(i 1).val, (i 1).isLt⟩ x) : EReal) * (b (ix4 0 ⟨(i 0).val, (i 0).isLt⟩ x ⟨(i 2).val, (i 2).isLt⟩) : EReal) : EReal)

/-- The one layer's slots of weights. -/
def flat (w : Vec Ideal S1x8x1024x512 .bf16) : Vec Ideal Cert.MixInRefIdeal.S8x1024x512 .bf16 := fun i => w (ix4 0 ⟨(i 0).val, (i 0).isLt⟩ ⟨(i 1).val, (i 1).isLt⟩ ⟨(i 2).val, (i 2).isLt⟩)

theorem flat_eq (w : Vec Ideal S1x8x1024x512 .bf16) (h) : shapeCast Cert.MixInRefIdeal.S8x1024x512 w h = flat w := funext fun i => by
  exact shapeCast_apply w h i (ix4 0 ⟨(i 0).val, (i 0).isLt⟩ ⟨(i 1).val, (i 1).isLt⟩ ⟨(i 2).val, (i 2).isLt⟩) (by
    rw [Shape.rowMajor_val_four, Shape.rowMajor_val_three]
    show ((0 * 8 + (i 0).val) * 1024 + (i 1).val) * 512 + (i 2).val = ((i 0).val * 1024 + (i 1).val) * 512 + (i 2).val
    omega)

variable (m : (ℓ : Loc nD τ sig) → Buf (Elt Ideal) ℓ) (ρ : Dev nD → PrngReg)

/-- Where a point's blocks lie. -/
theorem idx : ∀ t : Fin cfg0.N, win0_0.index t = ![t.val % 2, 0] ∧ win0_1.index t = ![0, t.val / 2, 0, 0] ∧ win0_2.index t = ![t.val / 2, t.val % 2, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.MixInIdeal.Hand

namespace Cert

open Idealize.ShloMosaic Idealize.ShloMosaic.Tactic Idealize.ShloMosaic.StableHlo Idealize.SL.Sem

/-- The kernel's and the reference's products are equal. -/
theorem mixin_equal : algebraic_MixInIdeal_MixInRefIdeal (hMixInIdeal := MixInIdeal.Gen.facts) (hMixInRefIdeal := MixInRefIdeal.Gen.facts) := by
  intro m ρ m' ρ' _ hin
  refine ⟨fun c => MixInIdeal.Hand.G (m ((c.tc : Thread MixInIdeal.nD MixInIdeal.τ).loc MixInIdeal.main_arg0)) (m ((c.tc : Thread MixInIdeal.nD MixInIdeal.τ).loc MixInIdeal.main_arg1)),
    (θ_run _ _ _).mono (fun r h c => ⟨(h c).1.trans (MixInIdeal.Hand.final m c), (h c).2⟩) (MixInIdeal.Value.run_blocks m ρ),
    (θ_run _ _ _).mono (fun r h c => ⟨(h c).1.trans ?_, (h c).2⟩) (MixInRefIdeal.Value.run (F := Ideal) m' ρ')⟩
  rw [(hin c).1, (hin c).2, MixInIdeal.Hand.flat_eq]
  funext j
  pointwise [MixInIdeal.Hand.G]
  rfl

end Cert

end
-- ==== Proof.MixWValue.lean ====
/- The gradient of the recurrence's input weights, entry by entry, and the claim about it. -/
module

public import proofs.«01_k».proof.Defs
public import proofs.«01_k».proof.Proof.Gen.MixWIdeal.Value
public import proofs.«01_k».proof.Proof.Gen.MixWRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.MixWIdeal.Hand

open Idealize.ShloMosaic Idealize.ShloMosaic.Tactic Idealize.ShloMosaic.TcCoe Cert.MixWIdeal.Gen Idealize.SL.Sem
open Idealize.ShloMosaic.Pipeline (Dat)

/-- The gradient: for each slot, row and column the sum over the tokens. -/
def G (a : Vec Ideal S4096x1024 .bf16) (b : Vec Ideal S8x4096x512 .bf16) : Vec Ideal S8x1024x512 .bf16 :=
  fun i => (∑ x : Fin 4096, (a (ix2 x ⟨(i 1).val, (i 1).isLt⟩) : EReal) * (b (ix3 ⟨(i 0).val, (i 0).isLt⟩ x ⟨(i 2).val, (i 2).isLt⟩) : EReal) : EReal)

variable (m : (ℓ : Loc nD τ sig) → Buf (Elt Ideal) ℓ) (ρ : Dev nD → PrngReg)

/-- Where a point's blocks lie. -/
theorem idx : ∀ t : Fin cfg0.N, win0_0.index t = ![0, 0] ∧ win0_1.index t = ![t.val, 0, 0] ∧ win0_2.index t = ![t.val, 0, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.MixWIdeal.Hand

namespace Cert

open Idealize.ShloMosaic Idealize.ShloMosaic.Tactic Idealize.ShloMosaic.StableHlo Idealize.SL.Sem

/-- The kernel's and the reference's gradients of the recurrence's input weights are equal. -/
theorem mixw_equal : algebraic_MixWIdeal_MixWRefIdeal (hMixWIdeal := MixWIdeal.Gen.facts) (hMixWRefIdeal := MixWRefIdeal.Gen.facts) := by
  intro m ρ m' ρ' _ hin
  refine ⟨fun c => MixWIdeal.Hand.G (m ((c.tc : Thread MixWIdeal.nD MixWIdeal.τ).loc MixWIdeal.main_arg0)) (m ((c.tc : Thread MixWIdeal.nD MixWIdeal.τ).loc MixWIdeal.main_arg1)),
    (θ_run _ _ _).mono (fun r h c => ⟨(h c).1.trans (MixWIdeal.Hand.final m c), (h c).2⟩) (MixWIdeal.Value.run_blocks m ρ),
    (θ_run _ _ _).mono (fun r h c => ⟨(h c).1.trans ?_, (h c).2⟩) (MixWRefIdeal.Value.run (F := Ideal) m' ρ')⟩
  rw [(hin c).1, (hin c).2]
  funext j
  pointwise [MixWIdeal.Hand.G]
  exact Finset.sum_congr rfl fun x _ => mul_comm _ _

end Cert

end
-- ==== Proof.ProjValue.lean ====
/- The feed-forward's first product, entry by entry, and the claim about it. -/
module

public import proofs.«01_k».proof.Defs
public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.ProjIdeal.Hand

open Idealize.ShloMosaic Idealize.ShloMosaic.Tactic Idealize.ShloMosaic.TcCoe Cert.ProjIdeal.Gen Idealize.SL.Sem
open Idealize.ShloMosaic.Pipeline (Dat)

/-- The product: for each slot, token and column the sum over the model's width. -/
def G (h : Vec Ideal S4096x1024 .bf16) (w : Vec Ideal S1x8x704x1024 .bf16) : Vec Ideal S8x4096x704 .bf16 :=
  fun i => (∑ x : Fin 1024, (h (ix2 ⟨(i 1).val, (i 1).isLt⟩ x) : EReal) * (w (ix4 0 ⟨(i 0).val, (i 0).isLt⟩ ⟨(i 2).val, (i 2).isLt⟩ x) : EReal) : EReal)

/-- The weights' slots as rows of one matrix. -/
def flat (w : Vec Ideal S1x8x704x1024 .bf16) : Vec Ideal Cert.ProjRefIdeal.S5632x1024 .bf16 :=
  fun i => w (ix4 0 ⟨(i 0).val / 704, by have : (i 0).val < 5632 := (i 0).isLt; omega⟩ ⟨(i 0).val % 704, Nat.mod_lt _ (by decide)⟩ ⟨(i 1).val, (i 1).isLt⟩)

theorem flat_eq (w : Vec Ideal S1x8x704x1024 .bf16) (h) : shapeCast Cert.ProjRefIdeal.S5632x1024 w h = flat w := funext fun i => by
  exact shapeCast_apply w h i (ix4 0 ⟨(i 0).val / 704, by have : (i 0).val < 5632 := (i 0).isLt; omega⟩ ⟨(i 0).val % 704, Nat.mod_lt _ (by decide)⟩ ⟨(i 1).val, (i 1).isLt⟩) (by
    rw [Shape.rowMajor_val_four, Shape.rowMajor_val_two]
    show ((0 * 8 + (i 0).val / 704) * 704 + (i 0).val % 704) * 1024 + (i 1).val = (i 0).val * 1024 + (i 1).val
    omega)

/-- A slot's row in the matrix. -/
theorem flat_apply (w : Vec Ideal S1x8x704x1024 .bf16) (s : Fin 8) (r : Fin 704) (k : Fin 1024) (n : Fin 5632) (hn : n.val = 704 * s.val + r.val) :
    flat w (ix2 n k) = w (ix4 0 s r k) := by
  have e : (⟨n.val / 704, by omega⟩ : Fin 8) = s := Fin.ext (by show n.val / 704 = s.val; omega)
  have e' : (⟨n.val % 704, Nat.mod_lt _ (by decide)⟩ : Fin 704) = r := Fin.ext (by show n.val % 704 = r.val; omega)
  unfold flat
  show w (ix4 0 ⟨n.val / 704, _⟩ ⟨n.val % 704, _⟩ ⟨k.val, _⟩) = _
  rw [e, e']

variable (m : (ℓ : Loc nD τ sig) → Buf (Elt Ideal) ℓ) (ρ : Dev nD → PrngReg)

/-- Where a point's blocks lie. -/
theorem idx : ∀ t : Fin cfg0.N, win0_0.index t = ![t.val % 2, 0] ∧ win0_1.index t = ![0, t.val / 2, 0, 0] ∧ win0_2.index t = ![t.val / 2, t.val % 2, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.ProjIdeal.Hand

namespace Cert

open Idealize.ShloMosaic Idealize.ShloMosaic.Tactic Idealize.ShloMosaic.StableHlo Idealize.SL.Sem

/-- The kernel's and the reference's products are equal. -/
theorem proj_equal : algebraic_ProjIdeal_ProjRefIdeal (hProjIdeal := ProjIdeal.Gen.facts) (hProjRefIdeal := ProjRefIdeal.Gen.facts) := by
  intro m ρ m' ρ' _ hin
  refine ⟨fun c => ProjIdeal.Hand.G (m ((c.tc : Thread ProjIdeal.nD ProjIdeal.τ).loc ProjIdeal.main_arg0)) (m ((c.tc : Thread ProjIdeal.nD ProjIdeal.τ).loc ProjIdeal.main_arg1)),
    (θ_run _ _ _).mono (fun r h c => ⟨(h c).1.trans (ProjIdeal.Hand.final m c), (h c).2⟩) (ProjIdeal.Value.run_blocks m ρ),
    (θ_run _ _ _).mono (fun r h c => ⟨(h c).1.trans ?_, (h c).2⟩) (ProjRefIdeal.Value.run (F := Ideal) m' ρ')⟩
  rw [(hin c).1, (hin c).2, ProjIdeal.Hand.flat_eq]
  funext j
  pointwise [ProjIdeal.Hand.G]
  refine Finset.sum_congr rfl fun x _ => ?_
  congr 1
  exact ProjIdeal.Hand.flat_apply _ (j 0) (j 2) x _ (congrArg (· + _) (Nat.mul_comm _ _))

end Cert

end
-- ==== Proof.ActValue.lean ====
/- The gradient of the gated activations, entry by entry, and the claim about it. -/
module

public import proofs.«01_k».proof.Defs
public import proofs.«01_k».proof.Proof.Gen.ActIdeal.Value
public import proofs.«01_k».proof.Proof.Gen.ActRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.ActIdeal.Hand

open Idealize.ShloMosaic Idealize.ShloMosaic.Tactic Idealize.ShloMosaic.TcCoe Cert.ActIdeal.Gen Idealize.SL.Sem
open Idealize.ShloMosaic.Pipeline (Dat)

/-- The gradient: for each slot, token and column the sum over the model's width. -/
def G (d : Vec Ideal S4096x1024 .bf16) (w : Vec Ideal S1x4x704x1024 .bf16) : Vec Ideal S4x4096x704 .bf16 :=
  fun i => (∑ x : Fin 1024, (d (ix2 ⟨(i 1).val, (i 1).isLt⟩ x) : EReal) * (w (ix4 0 ⟨(i 0).val, (i 0).isLt⟩ ⟨(i 2).val, (i 2).isLt⟩ x) : EReal) : EReal)

/-- The weights' slots as rows of one matrix. -/
def flat (w : Vec Ideal S1x4x704x1024 .bf16) : Vec Ideal Cert.ActRefIdeal.S2816x1024 .bf16 :=
  fun i => w (ix4 0 ⟨(i 0).val / 704, by have : (i 0).val < 2816 := (i 0).isLt; omega⟩ ⟨(i 0).val % 704, Nat.mod_lt _ (by decide)⟩ ⟨(i 1).val, (i 1).isLt⟩)

theorem flat_eq (w : Vec Ideal S1x4x704x1024 .bf16) (h) : shapeCast Cert.ActRefIdeal.S2816x1024 w h = flat w := funext fun i => by
  exact shapeCast_apply w h i (ix4 0 ⟨(i 0).val / 704, by have : (i 0).val < 2816 := (i 0).isLt; omega⟩ ⟨(i 0).val % 704, Nat.mod_lt _ (by decide)⟩ ⟨(i 1).val, (i 1).isLt⟩) (by
    rw [Shape.rowMajor_val_four, Shape.rowMajor_val_two]
    show ((0 * 4 + (i 0).val / 704) * 704 + (i 0).val % 704) * 1024 + (i 1).val = (i 0).val * 1024 + (i 1).val
    omega)

/-- A slot's row in the matrix. -/
theorem flat_apply (w : Vec Ideal S1x4x704x1024 .bf16) (s : Fin 4) (r : Fin 704) (k : Fin 1024) (n : Fin 2816) (hn : n.val = 704 * s.val + r.val) :
    flat w (ix2 n k) = w (ix4 0 s r k) := by
  have e : (⟨n.val / 704, by omega⟩ : Fin 4) = s := Fin.ext (by show n.val / 704 = s.val; omega)
  have e' : (⟨n.val % 704, Nat.mod_lt _ (by decide)⟩ : Fin 704) = r := Fin.ext (by show n.val % 704 = r.val; omega)
  unfold flat
  show w (ix4 0 ⟨n.val / 704, _⟩ ⟨n.val % 704, _⟩ ⟨k.val, _⟩) = _
  rw [e, e']

variable (m : (ℓ : Loc nD τ sig) → Buf (Elt Ideal) ℓ) (ρ : Dev nD → PrngReg)

/-- Where a point's blocks lie. -/
theorem idx : ∀ t : Fin cfg0.N, win0_0.index t = ![t.val % 2, 0] ∧ win0_1.index t = ![0, t.val / 2, 0, 0] ∧ win0_2.index t = ![t.val / 2, t.val % 2, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.ActIdeal.Hand

namespace Cert

open Idealize.ShloMosaic Idealize.ShloMosaic.Tactic Idealize.ShloMosaic.StableHlo Idealize.SL.Sem

/-- The kernel's and the reference's gradients of the activations are equal. -/
theorem act_equal : algebraic_ActIdeal_ActRefIdeal (hActIdeal := ActIdeal.Gen.facts) (hActRefIdeal := ActRefIdeal.Gen.facts) := by
  intro m ρ m' ρ' _ hin
  refine ⟨fun c => ActIdeal.Hand.G (m ((c.tc : Thread ActIdeal.nD ActIdeal.τ).loc ActIdeal.main_arg0)) (m ((c.tc : Thread ActIdeal.nD ActIdeal.τ).loc ActIdeal.main_arg1)),
    (θ_run _ _ _).mono (fun r h c => ⟨(h c).1.trans (ActIdeal.Hand.final m c), (h c).2⟩) (ActIdeal.Value.run_blocks m ρ),
    (θ_run _ _ _).mono (fun r h c => ⟨(h c).1.trans ?_, (h c).2⟩) (ActRefIdeal.Value.run (F := Ideal) m' ρ')⟩
  rw [(hin c).1, (hin c).2, ActIdeal.Hand.flat_eq]
  funext j
  pointwise [ActIdeal.Hand.G]
  refine Finset.sum_congr rfl fun x _ => ?_
  congr 1
  exact ActIdeal.Hand.flat_apply _ (j 0) (j 2) x _ (congrArg (· + _) (Nat.mul_comm _ _))

end Cert

end
-- ==== Proof.DownValue.lean ====
/- The gradient of the feed-forward's second weights, entry by entry, and the claim about it. -/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.DownIdeal.Hand

open Idealize.ShloMosaic Idealize.ShloMosaic.Tactic Idealize.ShloMosaic.TcCoe Cert.DownIdeal.Gen Idealize.SL.Sem
open Idealize.ShloMosaic.Pipeline (Dat)

/-- The gradient: for each slot, row and column the sum over the tokens. -/
def G (a : Vec Ideal S4x4096x704 .bf16) (d : Vec Ideal S4096x1024 .bf16) : Vec Ideal S4x704x1024 .bf16 :=
  fun i => (∑ x : Fin 4096, (a (ix3 ⟨(i 0).val, (i 0).isLt⟩ x ⟨(i 1).val, (i 1).isLt⟩) : EReal) * (d (ix2 x ⟨(i 2).val, (i 2).isLt⟩) : EReal) : EReal)

variable (m : (ℓ : Loc nD τ sig) → Buf (Elt Ideal) ℓ) (ρ : Dev nD → PrngReg)

/-- Where a point's blocks lie. -/
theorem idx : ∀ t : Fin cfg0.N, win0_0.index t = ![t.val, 0, 0] ∧ win0_1.index t = ![0, 0] ∧ win0_2.index t = ![t.val, 0, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.DownIdeal.Hand

namespace Cert

open Idealize.ShloMosaic Idealize.ShloMosaic.Tactic Idealize.ShloMosaic.StableHlo Idealize.SL.Sem

/-- The kernel's and the reference's gradients of the second weights are equal. -/
theorem down_equal : algebraic_DownIdeal_DownRefIdeal (hDownIdeal := DownIdeal.Gen.facts) (hDownRefIdeal := DownRefIdeal.Gen.facts) := by
  intro m ρ m' ρ' _ hin
  refine ⟨fun c => DownIdeal.Hand.G (m ((c.tc : Thread DownIdeal.nD DownIdeal.τ).loc DownIdeal.main_arg0)) (m ((c.tc : Thread DownIdeal.nD DownIdeal.τ).loc DownIdeal.main_arg1)),
    (θ_run _ _ _).mono (fun r h c => ⟨(h c).1.trans (DownIdeal.Hand.final m c), (h c).2⟩) (DownIdeal.Value.run_blocks m ρ),
    (θ_run _ _ _).mono (fun r h c => ⟨(h c).1.trans ?_, (h c).2⟩) (DownRefIdeal.Value.run (F := Ideal) m' ρ')⟩
  rw [(hin c).1, (hin c).2]
  funext j
  pointwise [DownIdeal.Hand.G]
  exact Finset.sum_congr rfl fun x _ => mul_comm _ _

end Cert

end
-- ==== Proof.UpValue.lean ====
/- The gradient of the feed-forward's first weights, entry by entry, and the claim about it. -/
module

public import proofs.«01_k».proof.Defs
public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.KernelVsHost

@[expose] public section

set_option maxRecDepth 16384
set_option maxHeartbeats 4000000

noncomputable section

namespace Cert.UpIdeal.Hand

open Idealize.ShloMosaic Idealize.ShloMosaic.Tactic Idealize.ShloMosaic.TcCoe Cert.UpIdeal.Gen Idealize.SL.Sem
open Idealize.ShloMosaic.Pipeline (Dat)

/-- The gradient: for each slot, row and column the sum over the tokens. -/
def G (h : Vec Ideal S4096x1024 .bf16) (d : Vec Ideal S8x4096x704 .bf16) : Vec Ideal S8x704x1024 .bf16 :=
  fun i => (∑ x : Fin 4096, (d (ix3 ⟨(i 0).val, (i 0).isLt⟩ x ⟨(i 1).val, (i 1).isLt⟩) : EReal) * (h (ix2 x ⟨(i 2).val, (i 2).isLt⟩) : EReal) : EReal)

variable (m : (ℓ : Loc nD τ sig) → Buf (Elt Ideal) ℓ) (ρ : Dev nD → PrngReg)

/-- Where a point's blocks lie. -/
theorem idx : ∀ t : Fin cfg0.N, win0_0.index t = ![t.val, 0, 0] ∧ win0_1.index t = ![0, 0] ∧ win0_2.index t = ![t.val, 0, 0] := by decide +kernel

/-- The array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  blk_point [iblk, V, (idx t).1, (idx t).2.1, (idx t).2.2]

end Cert.UpIdeal.Hand

namespace Cert

open Idealize.ShloMosaic Idealize.ShloMosaic.Tactic Idealize.ShloMosaic.StableHlo Idealize.SL.Sem

/-- The kernel's and the reference's gradients of the first weights are equal. -/
theorem up_equal : algebraic_UpIdeal_UpRefIdeal (hUpIdeal := UpIdeal.Gen.facts) (hUpRefIdeal := UpRefIdeal.Gen.facts) := by
  intro m ρ m' ρ' _ hin
  refine ⟨fun c => UpIdeal.Hand.G (m ((c.tc : Thread UpIdeal.nD UpIdeal.τ).loc UpIdeal.main_arg0)) (m ((c.tc : Thread UpIdeal.nD UpIdeal.τ).loc UpIdeal.main_arg1)),
    (θ_run _ _ _).mono (fun r h c => ⟨(h c).1.trans (UpIdeal.Hand.final m c), (h c).2⟩) (UpIdeal.Value.run_blocks m ρ),
    (θ_run _ _ _).mono (fun r h c => ⟨(h c).1.trans ?_, (h c).2⟩) (UpRefIdeal.Value.run (F := Ideal) m' ρ')⟩
  rw [(hin c).1, (hin c).2]
  funext j
  pointwise [UpIdeal.Hand.G]

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.MixW
public import proofs.«01_k».proof.Proof.Gen.MixW.Skeleton
public import proofs.«01_k».proof.Proof.Gen.MixW.Launch
public import proofs.«01_k».proof.Proof.Gen.MixW.Points
public import proofs.«01_k».proof.Proof.Gen.MixW.Frame
public import proofs.«01_k».proof.Proof.Gen.MixWIdeal
public import proofs.«01_k».proof.Proof.Gen.MixWIdeal.Skeleton
public import proofs.«01_k».proof.Proof.Gen.MixWIdeal.Launch
public import proofs.«01_k».proof.Proof.Gen.MixWIdeal.Points
public import proofs.«01_k».proof.Proof.Gen.MixWIdeal.Frame
public import proofs.«01_k».proof.Proof.Gen.MixWIdeal.Value
public import proofs.«01_k».proof.Proof.Gen.MixWRefIdeal
public import proofs.«01_k».proof.Proof.Gen.MixWRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.QkvW
public import proofs.«01_k».proof.Proof.Gen.QkvW.Skeleton
public import proofs.«01_k».proof.Proof.Gen.QkvW.Launch
public import proofs.«01_k».proof.Proof.Gen.QkvW.Points
public import proofs.«01_k».proof.Proof.Gen.QkvW.Frame
public import proofs.«01_k».proof.Proof.Gen.QkvWIdeal
public import proofs.«01_k».proof.Proof.Gen.QkvWIdeal.Skeleton
public import proofs.«01_k».proof.Proof.Gen.QkvWIdeal.Launch
public import proofs.«01_k».proof.Proof.Gen.QkvWIdeal.Points
public import proofs.«01_k».proof.Proof.Gen.QkvWIdeal.Frame
public import proofs.«01_k».proof.Proof.Gen.QkvWIdeal.Value
public import proofs.«01_k».proof.Proof.Gen.QkvWRefIdeal
public import proofs.«01_k».proof.Proof.Gen.QkvWRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.MixD
public import proofs.«01_k».proof.Proof.Gen.MixD.Skeleton
public import proofs.«01_k».proof.Proof.Gen.MixD.Launch
public import proofs.«01_k».proof.Proof.Gen.MixD.Points
public import proofs.«01_k».proof.Proof.Gen.MixD.Frame
public import proofs.«01_k».proof.Proof.Gen.MixDIdeal
public import proofs.«01_k».proof.Proof.Gen.MixDIdeal.Skeleton
public import proofs.«01_k».proof.Proof.Gen.MixDIdeal.Launch
public import proofs.«01_k».proof.Proof.Gen.MixDIdeal.Points
public import proofs.«01_k».proof.Proof.Gen.MixDIdeal.Frame
public import proofs.«01_k».proof.Proof.Gen.MixDIdeal.Value
public import proofs.«01_k».proof.Proof.Gen.MixDRefIdeal
public import proofs.«01_k».proof.Proof.Gen.MixDRefIdeal.Run
public import proofs.«01_k».proof.Proof.Gen.DownP
public import proofs.«01_k».proof.Proof.Gen.DownP.Skeleton
public import proofs.«01_k».proof.Proof.Gen.DownP.Launch
public import proofs.«01_k».proof.Proof.Gen.DownP.Points
public import proofs.«01_k».proof.Proof.Gen.DownP.Frame
public import proofs.«01_k».proof.Proof.Gen.DownPIdeal
public import proofs.«01_k».proof.Proof.Gen.DownPIdeal.Skeleton
public import proofs.«01_k».proof.Proof.Gen.DownPIdeal.Launch
public import proofs.«01_k».proof.Proof.Gen.DownPIdeal.Points
public import proofs.«01_k».proof.Proof.Gen.DownPIdeal.Frame
public import proofs.«01_k».proof.Proof.Gen.DownPIdeal.Value
public import proofs.«01_k».proof.Proof.Gen.DownPRefIdeal
public import proofs.«01_k».proof.Proof.Gen.DownPRefIdeal.Run
public import proofs.«01_k».proof.Proof.Gen.OutP
public import proofs.«01_k».proof.Proof.Gen.OutP.Skeleton
public import proofs.«01_k».proof.Proof.Gen.OutP.Launch
public import proofs.«01_k».proof.Proof.Gen.OutP.Points
public import proofs.«01_k».proof.Proof.Gen.OutP.Frame
public import proofs.«01_k».proof.Proof.Gen.OutPIdeal
public import proofs.«01_k».proof.Proof.Gen.OutPIdeal.Skeleton
public import proofs.«01_k».proof.Proof.Gen.OutPIdeal.Launch
public import proofs.«01_k».proof.Proof.Gen.OutPIdeal.Points
public import proofs.«01_k».proof.Proof.Gen.OutPIdeal.Frame
public import proofs.«01_k».proof.Proof.Gen.OutPIdeal.Value
public import proofs.«01_k».proof.Proof.Gen.OutPRefIdeal
public import proofs.«01_k».proof.Proof.Gen.OutPRefIdeal.Run
public import proofs.«01_k».proof.Proof.Gen.AttD
public import proofs.«01_k».proof.Proof.Gen.AttD.Skeleton
public import proofs.«01_k».proof.Proof.Gen.AttD.Launch
public import proofs.«01_k».proof.Proof.Gen.AttD.Points
public import proofs.«01_k».proof.Proof.Gen.AttD.Frame
public import proofs.«01_k».proof.Proof.Gen.AttDIdeal
public import proofs.«01_k».proof.Proof.Gen.AttDIdeal.Skeleton
public import proofs.«01_k».proof.Proof.Gen.AttDIdeal.Launch
public import proofs.«01_k».proof.Proof.Gen.AttDIdeal.Points
public import proofs.«01_k».proof.Proof.Gen.AttDIdeal.Frame
public import proofs.«01_k».proof.Proof.Gen.AttDIdeal.Value
public import proofs.«01_k».proof.Proof.Gen.AttDRefIdeal
public import proofs.«01_k».proof.Proof.Gen.AttDRefIdeal.Run
public import proofs.«01_k».proof.Proof.Gen.OutD
public import proofs.«01_k».proof.Proof.Gen.OutD.Skeleton
public import proofs.«01_k».proof.Proof.Gen.OutD.Launch
public import proofs.«01_k».proof.Proof.Gen.OutD.Points
public import proofs.«01_k».proof.Proof.Gen.OutD.Frame
public import proofs.«01_k».proof.Proof.Gen.OutDIdeal
public import proofs.«01_k».proof.Proof.Gen.OutDIdeal.Skeleton
public import proofs.«01_k».proof.Proof.Gen.OutDIdeal.Launch
public import proofs.«01_k».proof.Proof.Gen.OutDIdeal.Points
public import proofs.«01_k».proof.Proof.Gen.OutDIdeal.Frame
public import proofs.«01_k».proof.Proof.Gen.OutDIdeal.Value
public import proofs.«01_k».proof.Proof.Gen.OutDRefIdeal
public import proofs.«01_k».proof.Proof.Gen.OutDRefIdeal.Run
public import proofs.«01_k».proof.Proof.Gen.DownL
public import proofs.«01_k».proof.Proof.Gen.DownL.Skeleton
public import proofs.«01_k».proof.Proof.Gen.DownL.Launch
public import proofs.«01_k».proof.Proof.Gen.DownL.Points
public import proofs.«01_k».proof.Proof.Gen.DownL.Frame
public import proofs.«01_k».proof.Proof.Gen.DownLIdeal
public import proofs.«01_k».proof.Proof.Gen.DownLIdeal.Skeleton
public import proofs.«01_k».proof.Proof.Gen.DownLIdeal.Launch
public import proofs.«01_k».proof.Proof.Gen.DownLIdeal.Points
public import proofs.«01_k».proof.Proof.Gen.DownLIdeal.Frame
public import proofs.«01_k».proof.Proof.Gen.DownLIdeal.Value
public import proofs.«01_k».proof.Proof.Gen.DownLRefIdeal
public import proofs.«01_k».proof.Proof.Gen.DownLRefIdeal.Run
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.AttnFrame
public import proofs.«01_k».proof.Proof.AttnKernel
public import proofs.«01_k».proof.Proof.AttnEqual
public import proofs.«01_k».proof.Proof.RmsValue
public import proofs.«01_k».proof.Proof.DownLValue
public import proofs.«01_k».proof.Proof.OutDValue
public import proofs.«01_k».proof.Proof.AttDValue
public import proofs.«01_k».proof.Proof.OutPValue
public import proofs.«01_k».proof.Proof.DownPValue
public import proofs.«01_k».proof.Proof.MixDValue
public import proofs.«01_k».proof.Proof.NormValue
public import proofs.«01_k».proof.Proof.QkvValue
public import proofs.«01_k».proof.Proof.QkvWValue
public import proofs.«01_k».proof.Proof.OutValue
public import proofs.«01_k».proof.Proof.OutWValue
public import proofs.«01_k».proof.Proof.MixInValue
public import proofs.«01_k».proof.Proof.MixWValue
public import proofs.«01_k».proof.Proof.ProjValue
public import proofs.«01_k».proof.Proof.ActValue
public import proofs.«01_k».proof.Proof.DownValue
public import proofs.«01_k».proof.Proof.UpValue
public import Idealize.ShloMosaic.Adequacy
public import Idealize.ShloMosaic.Init

@[expose] public section

noncomputable section

namespace Cert.Proof

open Idealize.ShloMosaic Idealize.SL.Sem Cert.Kernel

/-- The reference's run ends with its arguments as launched and every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The frames of the references of the other calls. -/
theorem up_reference_frame : Cert.quiescent_UpRefIdeal (hUpRefIdeal := Cert.UpRefIdeal.Gen.facts) := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)
theorem down_reference_frame : Cert.quiescent_DownRefIdeal (hDownRefIdeal := Cert.DownRefIdeal.Gen.facts) := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)
theorem act_reference_frame : Cert.quiescent_ActRefIdeal (hActRefIdeal := Cert.ActRefIdeal.Gen.facts) := fun m ρ _ =>
  (θ_run Cert.ActRefIdeal.defs _ _).mono (fun r h => ⟨fun c => (h c).2, Idealize.ShloMosaic.sem_eq_zero_of_no_sems (by decide) r.2⟩)
    (Cert.ActRefIdeal.Value.run (F := Ideal) m ρ)
theorem proj_reference_frame : Cert.quiescent_ProjRefIdeal (hProjRefIdeal := Cert.ProjRefIdeal.Gen.facts) := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)
theorem mixW_reference_frame : Cert.quiescent_MixWRefIdeal (hMixWRefIdeal := Cert.MixWRefIdeal.Gen.facts) := fun m ρ _ =>
  (θ_run Cert.MixWRefIdeal.defs _ _).mono (fun r h => ⟨fun c => (h c).2, Idealize.ShloMosaic.sem_eq_zero_of_no_sems (by decide) r.2⟩)
    (Cert.MixWRefIdeal.Value.run (F := Ideal) m ρ)
theorem mixIn_reference_frame : Cert.quiescent_MixInRefIdeal (hMixInRefIdeal := Cert.MixInRefIdeal.Gen.facts) := fun m ρ _ =>
  (θ_run Cert.MixInRefIdeal.defs _ _).mono (fun r h => ⟨fun c => (h c).2, Idealize.ShloMosaic.sem_eq_zero_of_no_sems (by decide) r.2⟩)
    (Cert.MixInRefIdeal.Value.run (F := Ideal) m ρ)
theorem outW_reference_frame : Cert.quiescent_OutWRefIdeal (hOutWRefIdeal := Cert.OutWRefIdeal.Gen.facts) := fun m ρ _ =>
  (θ_run Cert.OutWRefIdeal.defs _ _).mono (fun r h => ⟨fun c => (h c).2, Idealize.ShloMosaic.sem_eq_zero_of_no_sems (by decide) r.2⟩)
    (Cert.OutWRefIdeal.Value.run (F := Ideal) m ρ)
theorem out_reference_frame : Cert.quiescent_OutRefIdeal (hOutRefIdeal := Cert.OutRefIdeal.Gen.facts) := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)
theorem qkvW_reference_frame : Cert.quiescent_QkvWRefIdeal (hQkvWRefIdeal := Cert.QkvWRefIdeal.Gen.facts) := fun m ρ _ =>
  (θ_run Cert.QkvWRefIdeal.defs _ _).mono (fun r h => ⟨fun c => (h c).2, Idealize.ShloMosaic.sem_eq_zero_of_no_sems (by decide) r.2⟩)
    (Cert.QkvWRefIdeal.Value.run (F := Ideal) m ρ)
theorem qkv_reference_frame : Cert.quiescent_QkvRefIdeal (hQkvRefIdeal := Cert.QkvRefIdeal.Gen.facts) := fun m ρ _ =>
  (θ_run Cert.QkvRefIdeal.defs _ _).mono (fun r h => ⟨fun c => (h c).2, Idealize.ShloMosaic.sem_eq_zero_of_no_sems (by decide) r.2⟩)
    (Cert.QkvRefIdeal.Value.run (F := Ideal) m ρ)
theorem norm_reference_frame : Cert.quiescent_NormRefIdeal (hNormRefIdeal := Cert.NormRefIdeal.Gen.facts) := fun m ρ _ =>
  (θ_run Cert.NormRefIdeal.defs _ _).mono (fun r h => ⟨fun c => (h c).2.2.2, Idealize.ShloMosaic.sem_eq_zero_of_no_sems (by decide) r.2⟩)
    (Cert.NormRefIdeal.Value.run (F := Ideal) m ρ)
theorem mixD_reference_frame : Cert.quiescent_MixDRefIdeal (hMixDRefIdeal := Cert.MixDRefIdeal.Gen.facts) := fun m ρ _ =>
  (θ_run Cert.MixDRefIdeal.defs _ _).mono (fun r h => ⟨fun c => (h c).2.2.2, Idealize.ShloMosaic.sem_eq_zero_of_no_sems (by decide) r.2⟩)
    (Cert.MixDRefIdeal.Value.run (F := Ideal) m ρ)
theorem downP_reference_frame : Cert.quiescent_DownPRefIdeal (hDownPRefIdeal := Cert.DownPRefIdeal.Gen.facts) := fun m ρ _ =>
  (θ_run Cert.DownPRefIdeal.defs _ _).mono (fun r h => ⟨fun c => (h c).2.2, Idealize.ShloMosaic.sem_eq_zero_of_no_sems (by decide) r.2⟩)
    (Cert.DownPRefIdeal.Value.run (F := Ideal) m ρ)
theorem outP_reference_frame : Cert.quiescent_OutPRefIdeal (hOutPRefIdeal := Cert.OutPRefIdeal.Gen.facts) := fun m ρ _ =>
  (θ_run Cert.OutPRefIdeal.defs _ _).mono (fun r h => ⟨fun c => (h c).2.2, Idealize.ShloMosaic.sem_eq_zero_of_no_sems (by decide) r.2⟩)
    (Cert.OutPRefIdeal.Value.run (F := Ideal) m ρ)
theorem attD_reference_frame : Cert.quiescent_AttDRefIdeal (hAttDRefIdeal := Cert.AttDRefIdeal.Gen.facts) := fun m ρ _ =>
  (θ_run Cert.AttDRefIdeal.defs _ _).mono (fun r h => ⟨fun c => (h c).2.2.2, Idealize.ShloMosaic.sem_eq_zero_of_no_sems (by decide) r.2⟩)
    (Cert.AttDRefIdeal.Value.run (F := Ideal) m ρ)
theorem outD_reference_frame : Cert.quiescent_OutDRefIdeal (hOutDRefIdeal := Cert.OutDRefIdeal.Gen.facts) := fun m ρ _ =>
  (θ_run Cert.OutDRefIdeal.defs _ _).mono (fun r h => ⟨fun c => (h c).2, Idealize.ShloMosaic.sem_eq_zero_of_no_sems (by decide) r.2⟩)
    (Cert.OutDRefIdeal.Value.run (F := Ideal) m ρ)
theorem downL_reference_frame : Cert.quiescent_DownLRefIdeal (hDownLRefIdeal := Cert.DownLRefIdeal.Gen.facts) := fun m ρ _ =>
  (θ_run Cert.DownLRefIdeal.defs _ _).mono (fun r h => ⟨fun c => (h c).2, Idealize.ShloMosaic.sem_eq_zero_of_no_sems (by decide) r.2⟩)
    (Cert.DownLRefIdeal.Value.run (F := Ideal) m ρ)
theorem rms_reference_frame : Cert.quiescent_RmsRefIdeal (hRmsRefIdeal := Cert.RmsRefIdeal.Gen.facts) := fun m ρ _ =>
  (θ_run Cert.RmsRefIdeal.defs _ _).mono (fun r h => ⟨fun c => (h c).2, Idealize.ShloMosaic.sem_eq_zero_of_no_sems (by decide) r.2⟩)
    (Cert.RmsRefIdeal.Value.run (F := Ideal) m ρ)

/-- The claims on the frames, the idealizations, and the equalities of the gradients and products. -/
theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Act.Gen.facts, Cert.ActIdeal.Gen.facts, Cert.ActRefIdeal.Gen.facts,
  Cert.Proj.Gen.facts, Cert.ProjIdeal.Gen.facts, Cert.ProjRefIdeal.Gen.facts,
  Cert.MixW.Gen.facts, Cert.MixWIdeal.Gen.facts, Cert.MixWRefIdeal.Gen.facts,
  Cert.MixIn.Gen.facts, Cert.MixInIdeal.Gen.facts, Cert.MixInRefIdeal.Gen.facts,
  Cert.OutW.Gen.facts, Cert.OutWIdeal.Gen.facts, Cert.OutWRefIdeal.Gen.facts,
  Cert.Out.Gen.facts, Cert.OutIdeal.Gen.facts, Cert.OutRefIdeal.Gen.facts,
  Cert.QkvW.Gen.facts, Cert.QkvWIdeal.Gen.facts, Cert.QkvWRefIdeal.Gen.facts,
  Cert.Qkv.Gen.facts, Cert.QkvIdeal.Gen.facts, Cert.QkvRefIdeal.Gen.facts,
  Cert.Norm.Gen.facts, Cert.NormIdeal.Gen.facts, Cert.NormRefIdeal.Gen.facts,
  Cert.MixD.Gen.facts, Cert.MixDIdeal.Gen.facts, Cert.MixDRefIdeal.Gen.facts,
  Cert.DownP.Gen.facts, Cert.DownPIdeal.Gen.facts, Cert.DownPRefIdeal.Gen.facts,
  Cert.OutP.Gen.facts, Cert.OutPIdeal.Gen.facts, Cert.OutPRefIdeal.Gen.facts,
  Cert.AttD.Gen.facts, Cert.AttDIdeal.Gen.facts, Cert.AttDRefIdeal.Gen.facts,
  Cert.OutD.Gen.facts, Cert.OutDIdeal.Gen.facts, Cert.OutDRefIdeal.Gen.facts,
  Cert.DownL.Gen.facts, Cert.DownLIdeal.Gen.facts, Cert.DownLRefIdeal.Gen.facts,
  Cert.Rms.Gen.facts, Cert.RmsIdeal.Gen.facts, Cert.RmsRefIdeal.Gen.facts,
  Cert.Pre_finite_inputs.facts,
  kernel_frame, fun m ρ _ => Cert.KernelIdeal.Hand.frame m ρ, fun m ρ _ => Cert.KernelIdeal.Hand.frame m ρ,
  reference_frame, fun m ρ _ => reference_frame m ρ trivial,
  fun m ρ _ => Cert.Up.Gen.frame m ρ, fun m ρ _ => Cert.UpIdeal.Gen.frame m ρ, up_reference_frame,
  fun m ρ _ => Cert.Down.Gen.frame m ρ, fun m ρ _ => Cert.DownIdeal.Gen.frame m ρ, down_reference_frame,
  fun m ρ _ => Cert.Act.Gen.frame m ρ, fun m ρ _ => Cert.ActIdeal.Gen.frame m ρ, act_reference_frame,
  fun m ρ _ => Cert.Proj.Gen.frame m ρ, fun m ρ _ => Cert.ProjIdeal.Gen.frame m ρ, proj_reference_frame,
  fun m ρ _ => Cert.MixW.Gen.frame m ρ, fun m ρ _ => Cert.MixWIdeal.Gen.frame m ρ, mixW_reference_frame,
  fun m ρ _ => Cert.MixIn.Gen.frame m ρ, fun m ρ _ => Cert.MixInIdeal.Gen.frame m ρ, mixIn_reference_frame,
  fun m ρ _ => Cert.OutW.Gen.frame m ρ, fun m ρ _ => Cert.OutWIdeal.Gen.frame m ρ, outW_reference_frame,
  fun m ρ _ => Cert.Out.Gen.frame m ρ, fun m ρ _ => Cert.OutIdeal.Gen.frame m ρ, out_reference_frame,
  fun m ρ _ => Cert.QkvW.Gen.frame m ρ, fun m ρ _ => Cert.QkvWIdeal.Gen.frame m ρ, qkvW_reference_frame,
  fun m ρ _ => Cert.Qkv.Gen.frame m ρ, fun m ρ _ => Cert.QkvIdeal.Gen.frame m ρ, qkv_reference_frame,
  fun m ρ _ => Cert.Norm.Gen.frame m ρ, fun m ρ _ => Cert.NormIdeal.Gen.frame m ρ, norm_reference_frame,
  fun m ρ _ => Cert.MixD.Gen.frame m ρ, fun m ρ _ => Cert.MixDIdeal.Gen.frame m ρ, mixD_reference_frame,
  fun m ρ _ => Cert.DownP.Gen.frame m ρ, fun m ρ _ => Cert.DownPIdeal.Gen.frame m ρ, downP_reference_frame,
  fun m ρ _ => Cert.OutP.Gen.frame m ρ, fun m ρ _ => Cert.OutPIdeal.Gen.frame m ρ, outP_reference_frame,
  fun m ρ _ => Cert.AttD.Gen.frame m ρ, fun m ρ _ => Cert.AttDIdeal.Gen.frame m ρ, attD_reference_frame,
  fun m ρ _ => Cert.OutD.Gen.frame m ρ, fun m ρ _ => Cert.OutDIdeal.Gen.frame m ρ, outD_reference_frame,
  fun m ρ _ => Cert.DownL.Gen.frame m ρ, fun m ρ _ => Cert.DownLIdeal.Gen.frame m ρ, downL_reference_frame,
  fun m ρ _ => Cert.Rms.Gen.frame m ρ, fun m ρ _ => Cert.RmsIdeal.Gen.frame m ρ, rms_reference_frame,
  trivial, Cert.gradients_equal,
  trivial, Cert.up_equal,
  trivial, Cert.down_equal,
  trivial, Cert.act_equal,
  trivial, Cert.proj_equal,
  trivial, Cert.mixw_equal,
  trivial, Cert.mixin_equal,
  trivial, Cert.outw_equal,
  trivial, Cert.out_equal,
  trivial, Cert.qkvw_equal,
  trivial, Cert.qkv_equal,
  trivial, Cert.norm_equal,
  trivial, Cert.mixd_equal,
  trivial, Cert.downp_equal,
  trivial, Cert.outp_equal,
  trivial, Cert.attd_equal,
  trivial, Cert.outd_equal,
  trivial, Cert.downl_equal,
  trivial, Cert.rms_equal⟩

end Cert.Proof

end
